-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn_part1 {F : FTy → Type} [FloatOps F] (main_arg2 : FVec F S1x2048x8x128 .f32) (main_v12 : IVec S_ 1) (main_v14 : IVec S1x2048x8x128 1) (main_v15 : FVec F S1x2048x8x128 .f32) : IVec S_ 1 :=
  let main_v16 : IVec S1x2048x8x128 1 := cmpf .olt main_arg2 main_v15
  let main_v17 : IVec S1x2048x8x128 1 := andi main_v14 main_v16
  let main_c_6 : IVec S_ 1 := constantI S_ 1 1#1
  let main_v18 : IVec S_ 1 := (fun x v => Host.reduce IntOp.andi x v reducesTo_S1x2048x8x128_S_d0_1_2_3 h_S_) main_v17 main_c_6
  let main_v19 : IVec S_ 1 := andi main_v12 main_v18
  main_v19

def fn {F : FTy → Type} [FloatOps F] (main_arg0 : FVec F S1x2048x1024 .f32) (main_arg1 : FVec F S1024x16384 .f32) (main_arg2 : FVec F S1x2048x8x128 .f32) (main_arg3 : FVec F S1x2048x8x128 .f32) (main_arg4 : FVec F S16384x1024 .f32) : IVec S_ 1 :=
  let main_cst : FVec F S_ .f32 := constant S_ .f32 0xFF800000#32
  let main_v0 : FVec F S1x2048x1024 .f32 := broadcastInDim S1x2048x1024 ![] bcast_S_S1x2048x1024 main_cst
  let main_v1 : IVec S1x2048x1024 1 := cmpf .ogt main_arg0 main_v0
  let main_cst_0 : FVec F S_ .f32 := constant S_ .f32 0x7F800000#32
  let main_v2 : FVec F S1x2048x1024 .f32 := broadcastInDim S1x2048x1024 ![] bcast_S_S1x2048x1024 main_cst_0
  let main_v3 : IVec S1x2048x1024 1 := cmpf .olt main_arg0 main_v2
  let main_v4 : IVec S1x2048x1024 1 := andi main_v1 main_v3
  let main_c : IVec S_ 1 := constantI S_ 1 1#1
  let main_v5 : IVec S_ 1 := (fun x v => Host.reduce IntOp.andi x v reducesTo_S1x2048x1024_S_d0_1_2 h_S_) main_v4 main_c
  let main_cst_1 : FVec F S_ .f32 := constant S_ .f32 0xFF800000#32
  let main_v6 : FVec F S1024x16384 .f32 := broadcastInDim S1024x16384 ![] bcast_S_S1024x16384 main_cst_1
  let main_v7 : IVec S1024x16384 1 := cmpf .ogt main_arg1 main_v6
  let main_cst_2 : FVec F S_ .f32 := constant S_ .f32 0x7F800000#32
  let main_v8 : FVec F S1024x16384 .f32 := broadcastInDim S1024x16384 ![] bcast_S_S1024x16384 main_cst_2
  let main_v9 : IVec S1024x16384 1 := cmpf .olt main_arg1 main_v8
  let main_v10 : IVec S1024x16384 1 := andi main_v7 main_v9
  let main_c_3 : IVec S_ 1 := constantI S_ 1 1#1
  let main_v11 : IVec S_ 1 := (fun x v => Host.reduce IntOp.andi x v reducesTo_S1024x16384_S_d0_1 h_S_) main_v10 main_c_3
  let main_v12 : IVec S_ 1 := andi main_v5 main_v11
  let main_cst_4 : FVec F S_ .f32 := constant S_ .f32 0xFF800000#32
  let main_v13 : FVec F S1x2048x8x128 .f32 := broadcastInDim S1x2048x8x128 ![] bcast_S_S1x2048x8x128 main_cst_4
  let main_v14 : IVec S1x2048x8x128 1 := cmpf .ogt main_arg2 main_v13
  let main_cst_5 : FVec F S_ .f32 := constant S_ .f32 0x7F800000#32
  let main_v15 : FVec F S1x2048x8x128 .f32 := broadcastInDim S1x2048x8x128 ![] bcast_S_S1x2048x8x128 main_cst_5
  fn_part1 (F := F) main_arg2 main_v12 main_v14 main_v15
-- ==== Pre_finite_scores_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn_part1 {F : FTy → Type} [FloatOps F] (main_arg2 : FVec F S1x2048x128x128 .f32) (main_v12 : IVec S_ 1) (main_v14 : IVec S1x2048x128x128 1) (main_v15 : FVec F S1x2048x128x128 .f32) : IVec S_ 1 :=
  let main_v16 : IVec S1x2048x128x128 1 := cmpf .olt main_arg2 main_v15
  let main_v17 : IVec S1x2048x128x128 1 := andi main_v14 main_v16
  let main_c_6 : IVec S_ 1 := constantI S_ 1 1#1
  let main_v18 : IVec S_ 1 := (fun x v => Host.reduce IntOp.andi x v reducesTo_S1x2048x128x128_S_d0_1_2_3 h_S_) main_v17 main_c_6
  let main_v19 : IVec S_ 1 := andi main_v12 main_v18
  main_v19

def fn {F : FTy → Type} [FloatOps F] (main_arg0 : FVec F S1x2048x1024 .f32) (main_arg1 : FVec F S1024x16384 .f32) (main_arg2 : FVec F S1x2048x128x128 .f32) (main_arg3 : FVec F S1x2048x128x128 .f32) (main_arg4 : FVec F S16384x1024 .f32) : IVec S_ 1 :=
  let main_cst : FVec F S_ .f32 := constant S_ .f32 0xFF800000#32
  let main_v0 : FVec F S1x2048x1024 .f32 := broadcastInDim S1x2048x1024 ![] bcast_S_S1x2048x1024 main_cst
  let main_v1 : IVec S1x2048x1024 1 := cmpf .ogt main_arg0 main_v0
  let main_cst_0 : FVec F S_ .f32 := constant S_ .f32 0x7F800000#32
  let main_v2 : FVec F S1x2048x1024 .f32 := broadcastInDim S1x2048x1024 ![] bcast_S_S1x2048x1024 main_cst_0
  let main_v3 : IVec S1x2048x1024 1 := cmpf .olt main_arg0 main_v2
  let main_v4 : IVec S1x2048x1024 1 := andi main_v1 main_v3
  let main_c : IVec S_ 1 := constantI S_ 1 1#1
  let main_v5 : IVec S_ 1 := (fun x v => Host.reduce IntOp.andi x v reducesTo_S1x2048x1024_S_d0_1_2 h_S_) main_v4 main_c
  let main_cst_1 : FVec F S_ .f32 := constant S_ .f32 0xFF800000#32
  let main_v6 : FVec F S1024x16384 .f32 := broadcastInDim S1024x16384 ![] bcast_S_S1024x16384 main_cst_1
  let main_v7 : IVec S1024x16384 1 := cmpf .ogt main_arg1 main_v6
  let main_cst_2 : FVec F S_ .f32 := constant S_ .f32 0x7F800000#32
  let main_v8 : FVec F S1024x16384 .f32 := broadcastInDim S1024x16384 ![] bcast_S_S1024x16384 main_cst_2
  let main_v9 : IVec S1024x16384 1 := cmpf .olt main_arg1 main_v8
  let main_v10 : IVec S1024x16384 1 := andi main_v7 main_v9
  let main_c_3 : IVec S_ 1 := constantI S_ 1 1#1
  let main_v11 : IVec S_ 1 := (fun x v => Host.reduce IntOp.andi x v reducesTo_S1024x16384_S_d0_1 h_S_) main_v10 main_c_3
  let main_v12 : IVec S_ 1 := andi main_v5 main_v11
  let main_cst_4 : FVec F S_ .f32 := constant S_ .f32 0xFF800000#32
  let main_v13 : FVec F S1x2048x128x128 .f32 := broadcastInDim S1x2048x128x128 ![] bcast_S_S1x2048x128x128 main_cst_4
  let main_v14 : IVec S1x2048x128x128 1 := cmpf .ogt main_arg2 main_v13
  let main_cst_5 : FVec F S_ .f32 := constant S_ .f32 0x7F800000#32
  let main_v15 : FVec F S1x2048x128x128 .f32 := broadcastInDim S1x2048x128x128 ![] bcast_S_S1x2048x128x128 main_cst_5
  fn_part1 (F := F) main_arg2 main_v12 main_v14 main_v15
-- ==== Kernel.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩
abbrev S1024x1024 : Shape := ⟨2, ![1024, 1024]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x1 : Shape := ⟨3, ![8, 2048, 1]⟩
abbrev S8x2048x127 : Shape := ⟨3, ![8, 2048, 127]⟩
abbrev S8x2048x256 : Shape := ⟨3, ![8, 2048, 256]⟩
abbrev S15x128x1024 : Shape := ⟨3, ![15, 128, 1024]⟩
abbrev S16x128x1024 : Shape := ⟨3, ![16, 128, 1024]⟩
abbrev S128x1024 : Shape := ⟨2, ![128, 1024]⟩
abbrev S30 : Shape := ⟨1, ![30]⟩
abbrev S128x2048 : Shape := ⟨2, ![128, 2048]⟩
abbrev S128x128 : Shape := ⟨2, ![128, 128]⟩
abbrev S1x2048x128 : Shape := ⟨3, ![1, 2048, 128]⟩
abbrev S2048x128 : Shape := ⟨2, ![2048, 128]⟩
abbrev S1x2048x256 : Shape := ⟨3, ![1, 2048, 256]⟩
abbrev S2048x256 : Shape := ⟨2, ![2048, 256]⟩
abbrev S128x256 : Shape := ⟨2, ![128, 256]⟩
abbrev S128x1 : Shape := ⟨2, ![128, 1]⟩
abbrev S128x384 : Shape := ⟨2, ![128, 384]⟩
abbrev S1x384x128 : Shape := ⟨3, ![1, 384, 128]⟩
abbrev S384x128 : Shape := ⟨2, ![384, 128]⟩
abbrev S1x128x128 : Shape := ⟨3, ![1, 128, 128]⟩
abbrev S1x384x256 : Shape := ⟨3, ![1, 384, 256]⟩
abbrev S384x256 : Shape := ⟨2, ![384, 256]⟩
abbrev S1x128x256 : Shape := ⟨3, ![1, 128, 256]⟩
abbrev S1 : Shape := ⟨1, ![1]⟩
abbrev S1x128x1024 : Shape := ⟨3, ![1, 128, 1024]⟩

abbrev nBuf : Space → Nat
  | .hbm => 45
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x8x128, .f32⟩
  | .hbm, ⟨3, _⟩ => ⟨S1x2048x8x128, .f32⟩
  | .hbm, ⟨4, _⟩ => ⟨S16384x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .f32⟩
  | .hbm, ⟨20, _⟩ => ⟨S1024x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .f32⟩
  | .hbm, ⟨30, _⟩ => ⟨S1024x1024, .bf16⟩
  | .hbm, ⟨31, _⟩ => ⟨S2048x1024, .f32⟩
  | .hbm, ⟨32, _⟩ => ⟨S2048x1024, .bf16⟩
  | .hbm, ⟨33, _⟩ => ⟨S2048x8x128, .f32⟩
  | .hbm, ⟨34, _⟩ => ⟨S8x2048x128, .f32⟩
  | .hbm, ⟨35, _⟩ => ⟨S8x2048x128, .bf16⟩
  | .hbm, ⟨36, _⟩ => ⟨S2048x8x128, .f32⟩
  | .hbm, ⟨37, _⟩ => ⟨S8x2048x128, .f32⟩
  | .hbm, ⟨38, _⟩ => ⟨S8x2048x128, .bf16⟩
  | .hbm, ⟨39, _⟩ => ⟨S_, .bf16⟩
  | .hbm, ⟨40, _⟩ => ⟨S8x2048x1, .bf16⟩
  | .hbm, ⟨41, _⟩ => ⟨S_, .bf16⟩
  | .hbm, ⟨42, _⟩ => ⟨S8x2048x127, .bf16⟩
  | .hbm, ⟨43, _⟩ => ⟨S8x2048x256, .bf16⟩
  | .hbm, ⟨44, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x256, .bf16⟩
  | .local _ .vmem, ⟨4, _⟩ => ⟨S1024x1024, .bf16⟩
  | .local _ .vmem, ⟨5, _⟩ => ⟨S2048x1024, .f32⟩
  | .local _ .vmem, ⟨6, _⟩ => ⟨S15x128x1024, .f32⟩
  | .local _ .vmem, ⟨7, _⟩ => ⟨S16x128x1024, .bf16⟩
  | .local _ .vmem, ⟨8, _⟩ => ⟨S128x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_10 : BitVec 32 := 128#32
  let v14 : BitVec 32 := Scalar.muli v2 c128_i32_10
  let v15 : Index := Scalar.indexCast v14
  let c0 : Index := 0#32
  ![v15.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_15 : BitVec 32 := 0#32
  let v28 : BitVec 1 := Scalar.cmpi .eq v2 c0_i32_15
  let v29 : BitVec 32 := Scalar.extui v28
  let c0_i32_16 : BitVec 32 := 0#32
  let v30 : BitVec 1 := Scalar.cmpi .ne v29 c0_i32_16
  v30

@[reducible] def k0_t1_loop : Scf.Loop 32 :=
  let c0_i32_799 : BitVec 32 := 0#32
  let c8_i32_800 : BitVec 32 := 8#32
  let v888 : BitVec 32 := Scalar.addi c0_i32_799 c8_i32_800
  let c1_i32_801 : BitVec 32 := 1#32
  ⟨c0_i32_799, v888, c1_i32_801⟩
def k0_off2 (k0_t1 : Fin k0_t1_loop.trips) : Fin 2 → Nat :=
  let c0_804 : Index := 0#32
  let c0_i32_799 : BitVec 32 := 0#32
  let c1_i32_801 : BitVec 32 := 1#32
  let arg11 : BitVec 32 := Scf.iv c0_i32_799 c1_i32_801 k0_t1
  let c128_i32_803 : BitVec 32 := 128#32
  let v890 : BitVec 32 := Scalar.muli arg11 c128_i32_803
  let v891 : Index := Scalar.indexCast v890
  ![0, v891.toNat]
def k0_off3 (k0_t1 : Fin k0_t1_loop.trips) : Fin 3 → Nat :=
  let c0_i32_799 : BitVec 32 := 0#32
  let c1_i32_801 : BitVec 32 := 1#32
  let arg11 : BitVec 32 := Scf.iv c0_i32_799 c1_i32_801 k0_t1
  let v893 : Index := Scalar.indexCast arg11
  let c0_805 : Index := 0#32
  let c0_806 : Index := 0#32
  ![v893.toNat, 0, 0]
def k0_off4 (k0_t1 : Fin k0_t1_loop.trips) : Fin 3 → Nat :=
  let c0_i32_799 : BitVec 32 := 0#32
  let c1_i32_801 : BitVec 32 := 1#32
  let arg11 : BitVec 32 := Scf.iv c0_i32_799 c1_i32_801 k0_t1
  let v903 : Index := Scalar.indexCast arg11
  let c0_810 : Index := 0#32
  let c0_811 : Index := 0#32
  ![v903.toNat, 0, 0]
def k0_off5 (k0_t1 : Fin k0_t1_loop.trips) : Fin 2 → Nat :=
  let c0_i32_799 : BitVec 32 := 0#32
  let c1_i32_801 : BitVec 32 := 1#32
  let arg11 : BitVec 32 := Scf.iv c0_i32_799 c1_i32_801 k0_t1
  let c128_i32_814 : BitVec 32 := 128#32
  let v914 : BitVec 32 := Scalar.muli arg11 c128_i32_814
  let v915 : Index := Scalar.indexCast v914
  let c0_815 : Index := 0#32
  ![v915.toNat, 0]
@[reducible] def k0_t2_loop : Scf.Loop 32 :=
  let c0_i32_801 : BitVec 32 := 0#32
  let c8_i32_802 : BitVec 32 := 8#32
  let v897 : BitVec 32 := Scalar.addi c0_i32_801 c8_i32_802
  let c1_i32_803 : BitVec 32 := 1#32
  ⟨c0_i32_801, v897, c1_i32_803⟩
def k0_off6 (k0_t2 : Fin k0_t2_loop.trips) : Fin 2 → Nat :=
  let c0_806 : Index := 0#32
  let c0_i32_801 : BitVec 32 := 0#32
  let c1_i32_803 : BitVec 32 := 1#32
  let arg11 : BitVec 32 := Scf.iv c0_i32_801 c1_i32_803 k0_t2
  let c128_i32_805 : BitVec 32 := 128#32
  let v899 : BitVec 32 := Scalar.muli arg11 c128_i32_805
  let v900 : Index := Scalar.indexCast v899
  ![0, v900.toNat]
def k0_off7 (d0 : Dev nD) (k0_t2 : Fin k0_t2_loop.trips) : Fin 3 → Nat :=
  let c0_i32_801 : BitVec 32 := 0#32
  let c1_i32_803 : BitVec 32 := 1#32
  let arg11 : BitVec 32 := Scf.iv c0_i32_801 c1_i32_803 k0_t2
  let v902 : Index := Scalar.indexCast arg11
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_795 : BitVec 32 := 1#32
  let v876 : BitVec 32 := Scalar.subi v2 c1_i32_795
  let c128_i32_796 : BitVec 32 := 128#32
  let v877 : BitVec 32 := Scalar.muli v876 c128_i32_796
  let c1664_i32 : BitVec 32 := 1664#32
  let v878 : BitVec 32 := Scalar.minsi v877 c1664_i32
  let v903 : Index := Scalar.indexCast v878
  let c0_807 : Index := 0#32
  ![v902.toNat, v903.toNat, 0]
def k0_off8 (k0_t2 : Fin k0_t2_loop.trips) : Fin 3 → Nat :=
  let c0_i32_801 : BitVec 32 := 0#32
  let c1_i32_803 : BitVec 32 := 1#32
  let arg11 : BitVec 32 := Scf.iv c0_i32_801 c1_i32_803 k0_t2
  let v909 : Index := Scalar.indexCast arg11
  let c0_810 : Index := 0#32
  let c0_811 : Index := 0#32
  ![v909.toNat, 0, 0]
def k0_off9 (d0 : Dev nD) (k0_t2 : Fin k0_t2_loop.trips) : Fin 3 → Nat :=
  let c0_i32_801 : BitVec 32 := 0#32
  let c1_i32_803 : BitVec 32 := 1#32
  let arg11 : BitVec 32 := Scf.iv c0_i32_801 c1_i32_803 k0_t2
  let v922 : Index := Scalar.indexCast arg11
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_795 : BitVec 32 := 1#32
  let v876 : BitVec 32 := Scalar.subi v2 c1_i32_795
  let c128_i32_796 : BitVec 32 := 128#32
  let v877 : BitVec 32 := Scalar.muli v876 c128_i32_796
  let c1664_i32 : BitVec 32 := 1664#32
  let v878 : BitVec 32 := Scalar.minsi v877 c1664_i32
  let v923 : Index := Scalar.indexCast v878
  let c0_816 : Index := 0#32
  ![v922.toNat, v923.toNat, 0]
def k0_off10 (k0_t2 : Fin k0_t2_loop.trips) : Fin 3 → Nat :=
  let c0_i32_801 : BitVec 32 := 0#32
  let c1_i32_803 : BitVec 32 := 1#32
  let arg11 : BitVec 32 := Scf.iv c0_i32_801 c1_i32_803 k0_t2
  let v928 : Index := Scalar.indexCast arg11
  let c0_818 : Index := 0#32
  let c0_819 : Index := 0#32
  ![v928.toNat, 0, 0]
def k0_off11 (k0_t2 : Fin k0_t2_loop.trips) : Fin 2 → Nat :=
  let c0_i32_801 : BitVec 32 := 0#32
  let c1_i32_803 : BitVec 32 := 1#32
  let arg11 : BitVec 32 := Scf.iv c0_i32_801 c1_i32_803 k0_t2
  let c128_i32_822 : BitVec 32 := 128#32
  let v940 : BitVec 32 := Scalar.muli arg11 c128_i32_822
  let v941 : Index := Scalar.indexCast v940
  let c0_823 : Index := 0#32
  ![v941.toNat, 0]
@[reducible] def k0_t3_loop : Scf.Loop 32 :=
  let c0_i32_19 : BitVec 32 := 0#32
  let c8_i32 : BitVec 32 := 8#32
  let v35 : BitVec 32 := Scalar.addi c0_i32_19 c8_i32
  let c1_i32_20 : BitVec 32 := 1#32
  ⟨c0_i32_19, v35, c1_i32_20⟩
def k0_off12 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_795 : BitVec 32 := 8#32
  let v876 : BitVec 32 := Scalar.addi v2 c8_i32_795
  let c0_i32_19 : BitVec 32 := 0#32
  let c1_i32_20 : BitVec 32 := 1#32
  let arg11 : BitVec 32 := Scf.iv c0_i32_19 c1_i32_20 k0_t3
  let v877 : BitVec 32 := Scalar.subi v876 arg11
  let c32_i32_796 : BitVec 32 := 32#32
  let v878 : BitVec 32 := Scalar.addi v877 c32_i32_796
  let c16_i32_797 : BitVec 32 := 16#32
  let v879 : BitVec 32 := Scalar.remsi v878 c16_i32_797
  let c128_i32_799 : BitVec 32 := 128#32
  let v881 : BitVec 32 := Scalar.muli v879 c128_i32_799
  let v882 : Index := Scalar.indexCast v881
  let c0_800 : Index := 0#32
  ![v882.toNat, 0]
def k0_cond2 (d0 : Dev nD) (k0_t3 : Fin k0_t3_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_795 : BitVec 32 := 8#32
  let v876 : BitVec 32 := Scalar.addi v2 c8_i32_795
  let c0_i32_19 : BitVec 32 := 0#32
  let c1_i32_20 : BitVec 32 := 1#32
  let arg11 : BitVec 32 := Scf.iv c0_i32_19 c1_i32_20 k0_t3
  let v877 : BitVec 32 := Scalar.subi v876 arg11
  let c32_i32_796 : BitVec 32 := 32#32
  let v878 : BitVec 32 := Scalar.addi v877 c32_i32_796
  let c16_i32_797 : BitVec 32 := 16#32
  let v879 : BitVec 32 := Scalar.remsi v878 c16_i32_797
  let c0_i32_806 : BitVec 32 := 0#32
  let v895 : BitVec 1 := Scalar.cmpi .eq v879 c0_i32_806
  let v896 : BitVec 32 := Scalar.extui v895
  let c0_i32_807 : BitVec 32 := 0#32
  let v897 : BitVec 1 := Scalar.cmpi .ne v896 c0_i32_807
  v897

@[reducible] def k0_t4_loop : Scf.Loop 32 :=
  let c0_i32_832 : BitVec 32 := 0#32
  let c8_i32_833 : BitVec 32 := 8#32
  let v942 : BitVec 32 := Scalar.addi c0_i32_832 c8_i32_833
  let c1_i32_834 : BitVec 32 := 1#32
  ⟨c0_i32_832, v942, c1_i32_834⟩
def k0_off13 (k0_t4 : Fin k0_t4_loop.trips) : Fin 2 → Nat :=
  let c0_837 : Index := 0#32
  let c0_i32_832 : BitVec 32 := 0#32
  let c1_i32_834 : BitVec 32 := 1#32
  let arg12 : BitVec 32 := Scf.iv c0_i32_832 c1_i32_834 k0_t4
  let c128_i32_836 : BitVec 32 := 128#32
  let v944 : BitVec 32 := Scalar.muli arg12 c128_i32_836
  let v945 : Index := Scalar.indexCast v944
  ![0, v945.toNat]
def k0_off14 (k0_t4 : Fin k0_t4_loop.trips) : Fin 3 → Nat :=
  let c0_i32_832 : BitVec 32 := 0#32
  let c1_i32_834 : BitVec 32 := 1#32
  let arg12 : BitVec 32 := Scf.iv c0_i32_832 c1_i32_834 k0_t4
  let v947 : Index := Scalar.indexCast arg12
  let c0_838 : Index := 0#32
  let c0_839 : Index := 0#32
  ![v947.toNat, 0, 0]
def k0_off15 (k0_t4 : Fin k0_t4_loop.trips) : Fin 3 → Nat :=
  let c0_i32_832 : BitVec 32 := 0#32
  let c1_i32_834 : BitVec 32 := 1#32
  let arg12 : BitVec 32 := Scf.iv c0_i32_832 c1_i32_834 k0_t4
  let v957 : Index := Scalar.indexCast arg12
  let c0_843 : Index := 0#32
  let c0_844 : Index := 0#32
  ![v957.toNat, 0, 0]
def k0_off16 (k0_t4 : Fin k0_t4_loop.trips) : Fin 2 → Nat :=
  let c0_i32_832 : BitVec 32 := 0#32
  let c1_i32_834 : BitVec 32 := 1#32
  let arg12 : BitVec 32 := Scf.iv c0_i32_832 c1_i32_834 k0_t4
  let c128_i32_847 : BitVec 32 := 128#32
  let v968 : BitVec 32 := Scalar.muli arg12 c128_i32_847
  let v969 : Index := Scalar.indexCast v968
  let c0_848 : Index := 0#32
  ![v969.toNat, 0]
@[reducible] def k0_t5_loop : Scf.Loop 32 :=
  let c0_i32_834 : BitVec 32 := 0#32
  let c8_i32_835 : BitVec 32 := 8#32
  let v951 : BitVec 32 := Scalar.addi c0_i32_834 c8_i32_835
  let c1_i32_836 : BitVec 32 := 1#32
  ⟨c0_i32_834, v951, c1_i32_836⟩
def k0_off17 (k0_t5 : Fin k0_t5_loop.trips) : Fin 2 → Nat :=
  let c0_839 : Index := 0#32
  let c0_i32_834 : BitVec 32 := 0#32
  let c1_i32_836 : BitVec 32 := 1#32
  let arg12 : BitVec 32 := Scf.iv c0_i32_834 c1_i32_836 k0_t5
  let c128_i32_838 : BitVec 32 := 128#32
  let v953 : BitVec 32 := Scalar.muli arg12 c128_i32_838
  let v954 : Index := Scalar.indexCast v953
  ![0, v954.toNat]
def k0_off18 (d0 : Dev nD) (k0_t3 : Fin k0_t3_loop.trips) (k0_t5 : Fin k0_t5_loop.trips) : Fin 3 → Nat :=
  let c0_i32_834 : BitVec 32 := 0#32
  let c1_i32_836 : BitVec 32 := 1#32
  let arg12 : BitVec 32 := Scf.iv c0_i32_834 c1_i32_836 k0_t5
  let v956 : Index := Scalar.indexCast arg12
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_795 : BitVec 32 := 8#32
  let v876 : BitVec 32 := Scalar.addi v2 c8_i32_795
  let c0_i32_19 : BitVec 32 := 0#32
  let c1_i32_20 : BitVec 32 := 1#32
  let arg11 : BitVec 32 := Scf.iv c0_i32_19 c1_i32_20 k0_t3
  let v877 : BitVec 32 := Scalar.subi v876 arg11
  let c32_i32_796 : BitVec 32 := 32#32
  let v878 : BitVec 32 := Scalar.addi v877 c32_i32_796
  let c16_i32_797 : BitVec 32 := 16#32
  let v879 : BitVec 32 := Scalar.remsi v878 c16_i32_797
  let c1_i32_828 : BitVec 32 := 1#32
  let v930 : BitVec 32 := Scalar.subi v879 c1_i32_828
  let c128_i32_829 : BitVec 32 := 128#32
  let v931 : BitVec 32 := Scalar.muli v930 c128_i32_829
  let c1664_i32 : BitVec 32 := 1664#32
  let v932 : BitVec 32 := Scalar.minsi v931 c1664_i32
  let v957 : Index := Scalar.indexCast v932
  let c0_840 : Index := 0#32
  ![v956.toNat, v957.toNat, 0]
def k0_off19 (k0_t5 : Fin k0_t5_loop.trips) : Fin 3 → Nat :=
  let c0_i32_834 : BitVec 32 := 0#32
  let c1_i32_836 : BitVec 32 := 1#32
  let arg12 : BitVec 32 := Scf.iv c0_i32_834 c1_i32_836 k0_t5
  let v963 : Index := Scalar.indexCast arg12
  let c0_843 : Index := 0#32
  let c0_844 : Index := 0#32
  ![v963.toNat, 0, 0]
def k0_off20 (d0 : Dev nD) (k0_t3 : Fin k0_t3_loop.trips) (k0_t5 : Fin k0_t5_loop.trips) : Fin 3 → Nat :=
  let c0_i32_834 : BitVec 32 := 0#32
  let c1_i32_836 : BitVec 32 := 1#32
  let arg12 : BitVec 32 := Scf.iv c0_i32_834 c1_i32_836 k0_t5
  let v976 : Index := Scalar.indexCast arg12
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_795 : BitVec 32 := 8#32
  let v876 : BitVec 32 := Scalar.addi v2 c8_i32_795
  let c0_i32_19 : BitVec 32 := 0#32
  let c1_i32_20 : BitVec 32 := 1#32
  let arg11 : BitVec 32 := Scf.iv c0_i32_19 c1_i32_20 k0_t3
  let v877 : BitVec 32 := Scalar.subi v876 arg11
  let c32_i32_796 : BitVec 32 := 32#32
  let v878 : BitVec 32 := Scalar.addi v877 c32_i32_796
  let c16_i32_797 : BitVec 32 := 16#32
  let v879 : BitVec 32 := Scalar.remsi v878 c16_i32_797
  let c1_i32_828 : BitVec 32 := 1#32
  let v930 : BitVec 32 := Scalar.subi v879 c1_i32_828
  let c128_i32_829 : BitVec 32 := 128#32
  let v931 : BitVec 32 := Scalar.muli v930 c128_i32_829
  let c1664_i32 : BitVec 32 := 1664#32
  let v932 : BitVec 32 := Scalar.minsi v931 c1664_i32
  let v977 : Index := Scalar.indexCast v932
  let c0_849 : Index := 0#32
  ![v976.toNat, v977.toNat, 0]
def k0_off21 (k0_t5 : Fin k0_t5_loop.trips) : Fin 3 → Nat :=
  let c0_i32_834 : BitVec 32 := 0#32
  let c1_i32_836 : BitVec 32 := 1#32
  let arg12 : BitVec 32 := Scf.iv c0_i32_834 c1_i32_836 k0_t5
  let v982 : Index := Scalar.indexCast arg12
  let c0_851 : Index := 0#32
  let c0_852 : Index := 0#32
  ![v982.toNat, 0, 0]
def k0_off22 (k0_t5 : Fin k0_t5_loop.trips) : Fin 2 → Nat :=
  let c0_i32_834 : BitVec 32 := 0#32
  let c1_i32_836 : BitVec 32 := 1#32
  let arg12 : BitVec 32 := Scf.iv c0_i32_834 c1_i32_836 k0_t5
  let c128_i32_855 : BitVec 32 := 128#32
  let v994 : BitVec 32 := Scalar.muli arg12 c128_i32_855
  let v995 : Index := Scalar.indexCast v994
  let c0_856 : Index := 0#32
  ![v995.toNat, 0]
def k0_cond3 (k0_t3 : Fin k0_t3_loop.trips) : BitVec 1 :=
  let c0_i32_19 : BitVec 32 := 0#32
  let c1_i32_20 : BitVec 32 := 1#32
  let arg11 : BitVec 32 := Scf.iv c0_i32_19 c1_i32_20 k0_t3
  let c0_i32_810 : BitVec 32 := 0#32
  let v902 : BitVec 1 := Scalar.cmpi .sgt arg11 c0_i32_810
  let v903 : BitVec 32 := Scalar.extui v902
  let c0_i32_811 : BitVec 32 := 0#32
  let v904 : BitVec 1 := Scalar.cmpi .ne v903 c0_i32_811
  v904

def k0_off23 (k0_t3 : Fin k0_t3_loop.trips) : Fin 1 → Nat :=
  let c0_i32_19 : BitVec 32 := 0#32
  let c1_i32_20 : BitVec 32 := 1#32
  let arg11 : BitVec 32 := Scf.iv c0_i32_19 c1_i32_20 k0_t3
  let c1_i32_828 : BitVec 32 := 1#32
  let v930 : BitVec 32 := Scalar.subi arg11 c1_i32_828
  ![v930.toNat]
def k0_off24 (k0_t3 : Fin k0_t3_loop.trips) : Fin 3 → Nat :=
  let c0_i32_19 : BitVec 32 := 0#32
  let c1_i32_20 : BitVec 32 := 1#32
  let arg11 : BitVec 32 := Scf.iv c0_i32_19 c1_i32_20 k0_t3
  let c1_i32_828 : BitVec 32 := 1#32
  let v930 : BitVec 32 := Scalar.subi arg11 c1_i32_828
  let c0_i32_835 : BitVec 32 := 0#32
  let c0_i32_836 : BitVec 32 := 0#32
  ![v930.toNat, 0, 0]
def k0_off25 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_829 : BitVec 32 := 8#32
  let v931 : BitVec 32 := Scalar.addi v2 c8_i32_829
  let c0_i32_19 : BitVec 32 := 0#32
  let c1_i32_20 : BitVec 32 := 1#32
  let arg11 : BitVec 32 := Scf.iv c0_i32_19 c1_i32_20 k0_t3
  let c1_i32_828 : BitVec 32 := 1#32
  let v930 : BitVec 32 := Scalar.subi arg11 c1_i32_828
  let v932 : BitVec 32 := Scalar.subi v931 v930
  let c32_i32_830 : BitVec 32 := 32#32
  let v933 : BitVec 32 := Scalar.addi v932 c32_i32_830
  let c16_i32_831 : BitVec 32 := 16#32
  let v934 : BitVec 32 := Scalar.remsi v933 c16_i32_831
  let c128_i32_832 : BitVec 32 := 128#32
  let v935 : BitVec 32 := Scalar.muli v934 c128_i32_832
  let c0_i32_837 : BitVec 32 := 0#32
  ![v935.toNat, 0]
def k0_off26 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_795 : BitVec 32 := 8#32
  let v876 : BitVec 32 := Scalar.addi v2 c8_i32_795
  let c0_i32_19 : BitVec 32 := 0#32
  let c1_i32_20 : BitVec 32 := 1#32
  let arg11 : BitVec 32 := Scf.iv c0_i32_19 c1_i32_20 k0_t3
  let v877 : BitVec 32 := Scalar.subi v876 arg11
  let c32_i32_796 : BitVec 32 := 32#32
  let v878 : BitVec 32 := Scalar.addi v877 c32_i32_796
  let c16_i32_797 : BitVec 32 := 16#32
  let v879 : BitVec 32 := Scalar.remsi v878 c16_i32_797
  let c128_i32_838 : BitVec 32 := 128#32
  let v943 : BitVec 32 := Scalar.muli v879 c128_i32_838
  let v944 : Index := Scalar.indexCast v943
  let c0_839 : Index := 0#32
  ![v944.toNat, 0]
def k0_off27 (k0_t3 : Fin k0_t3_loop.trips) : Fin 3 → Nat :=
  let c0_i32_19 : BitVec 32 := 0#32
  let c1_i32_20 : BitVec 32 := 1#32
  let arg11 : BitVec 32 := Scf.iv c0_i32_19 c1_i32_20 k0_t3
  let c1_i32_840 : BitVec 32 := 1#32
  let v947 : BitVec 32 := Scalar.subi arg11 c1_i32_840
  let v948 : Index := Scalar.indexCast v947
  let c0_841 : Index := 0#32
  let c0_842 : Index := 0#32
  ![v948.toNat, 0, 0]
def k0_off28 (k0_t3 : Fin k0_t3_loop.trips) : Fin 1 → Nat :=
  let c0_i32_19 : BitVec 32 := 0#32
  let c1_i32_20 : BitVec 32 := 1#32
  let arg11 : BitVec 32 := Scf.iv c0_i32_19 c1_i32_20 k0_t3
  ![arg11.toNat]
def k0_off29 (k0_t3 : Fin k0_t3_loop.trips) : Fin 3 → Nat :=
  let c0_i32_19 : BitVec 32 := 0#32
  let c1_i32_20 : BitVec 32 := 1#32
  let arg11 : BitVec 32 := Scf.iv c0_i32_19 c1_i32_20 k0_t3
  let c0_i32_818 : BitVec 32 := 0#32
  let c0_i32_819 : BitVec 32 := 0#32
  ![arg11.toNat, 0, 0]
def k0_off30 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_812 : BitVec 32 := 8#32
  let v905 : BitVec 32 := Scalar.addi v2 c8_i32_812
  let c0_i32_19 : BitVec 32 := 0#32
  let c1_i32_20 : BitVec 32 := 1#32
  let arg11 : BitVec 32 := Scf.iv c0_i32_19 c1_i32_20 k0_t3
  let v906 : BitVec 32 := Scalar.subi v905 arg11
  let c32_i32_813 : BitVec 32 := 32#32
  let v907 : BitVec 32 := Scalar.addi v906 c32_i32_813
  let c16_i32_814 : BitVec 32 := 16#32
  let v908 : BitVec 32 := Scalar.remsi v907 c16_i32_814
  let c128_i32_815 : BitVec 32 := 128#32
  let v909 : BitVec 32 := Scalar.muli v908 c128_i32_815
  let c0_i32_820 : BitVec 32 := 0#32
  ![v909.toNat, 0]
def k0_dev3 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_816 : BitVec 32 := 1#32
  let v910 : BitVec 32 := Scalar.muli v7 c1_i32_816
  let v911 : BitVec 32 := Scalar.addi c0_i32_817 v910
  v911.toNat
def k0_cond4 (k0_t3 : Fin k0_t3_loop.trips) : BitVec 1 :=
  let c0_i32_19 : BitVec 32 := 0#32
  let c1_i32_20 : BitVec 32 := 1#32
  let arg11 : BitVec 32 := Scf.iv c0_i32_19 c1_i32_20 k0_t3
  let c7_i32_821 : BitVec 32 := 7#32
  let v919 : BitVec 1 := Scalar.cmpi .slt arg11 c7_i32_821
  let v920 : BitVec 32 := Scalar.extui v919
  let c0_i32_822 : BitVec 32 := 0#32
  let v921 : BitVec 1 := Scalar.cmpi .ne v920 c0_i32_822
  v921

def k0_off31 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_828 : BitVec 32 := 7#32
  let v930 : BitVec 32 := Scalar.subi v2 c7_i32_828
  let c0_i32_19 : BitVec 32 := 0#32
  let c1_i32_20 : BitVec 32 := 1#32
  let arg11 : BitVec 32 := Scf.iv c0_i32_19 c1_i32_20 k0_t3
  let v931 : BitVec 32 := Scalar.addi v930 arg11
  let c32_i32_829 : BitVec 32 := 32#32
  let v932 : BitVec 32 := Scalar.addi v931 c32_i32_829
  let c16_i32_830 : BitVec 32 := 16#32
  let v933 : BitVec 32 := Scalar.remsi v932 c16_i32_830
  let c128_i32_832 : BitVec 32 := 128#32
  let v935 : BitVec 32 := Scalar.muli v933 c128_i32_832
  let v936 : Index := Scalar.indexCast v935
  let c0_833 : Index := 0#32
  ![v936.toNat, 0]
def k0_cond5 (d0 : Dev nD) (k0_t3 : Fin k0_t3_loop.trips) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_828 : BitVec 32 := 7#32
  let v930 : BitVec 32 := Scalar.subi v2 c7_i32_828
  let c0_i32_19 : BitVec 32 := 0#32
  let c1_i32_20 : BitVec 32 := 1#32
  let arg11 : BitVec 32 := Scf.iv c0_i32_19 c1_i32_20 k0_t3
  let v931 : BitVec 32 := Scalar.addi v930 arg11
  let c32_i32_829 : BitVec 32 := 32#32
  let v932 : BitVec 32 := Scalar.addi v931 c32_i32_829
  let c16_i32_830 : BitVec 32 := 16#32
  let v933 : BitVec 32 := Scalar.remsi v932 c16_i32_830
  let c0_i32_839 : BitVec 32 := 0#32
  let v949 : BitVec 1 := Scalar.cmpi .eq v933 c0_i32_839
  let v950 : BitVec 32 := Scalar.extui v949
  let c0_i32_840 : BitVec 32 := 0#32
  let v951 : BitVec 1 := Scalar.cmpi .ne v950 c0_i32_840
  v951

@[reducible] def k0_t6_loop : Scf.Loop 32 :=
  let c0_i32_847 : BitVec 32 := 0#32
  let c8_i32_848 : BitVec 32 := 8#32
  let v968 : BitVec 32 := Scalar.addi c0_i32_847 c8_i32_848
  let c1_i32_849 : BitVec 32 := 1#32
  ⟨c0_i32_847, v968, c1_i32_849⟩
def k0_off32 (k0_t6 : Fin k0_t6_loop.trips) : Fin 2 → Nat :=
  let c0_852 : Index := 0#32
  let c0_i32_847 : BitVec 32 := 0#32
  let c1_i32_849 : BitVec 32 := 1#32
  let arg12 : BitVec 32 := Scf.iv c0_i32_847 c1_i32_849 k0_t6
  let c128_i32_851 : BitVec 32 := 128#32
  let v970 : BitVec 32 := Scalar.muli arg12 c128_i32_851
  let v971 : Index := Scalar.indexCast v970
  ![0, v971.toNat]
def k0_off33 (k0_t6 : Fin k0_t6_loop.trips) : Fin 3 → Nat :=
  let c0_i32_847 : BitVec 32 := 0#32
  let c1_i32_849 : BitVec 32 := 1#32
  let arg12 : BitVec 32 := Scf.iv c0_i32_847 c1_i32_849 k0_t6
  let v973 : Index := Scalar.indexCast arg12
  let c0_853 : Index := 0#32
  let c0_854 : Index := 0#32
  ![v973.toNat, 0, 0]
def k0_off34 (k0_t6 : Fin k0_t6_loop.trips) : Fin 3 → Nat :=
  let c0_i32_847 : BitVec 32 := 0#32
  let c1_i32_849 : BitVec 32 := 1#32
  let arg12 : BitVec 32 := Scf.iv c0_i32_847 c1_i32_849 k0_t6
  let v983 : Index := Scalar.indexCast arg12
  let c0_858 : Index := 0#32
  let c0_859 : Index := 0#32
  ![v983.toNat, 0, 0]
def k0_off35 (k0_t6 : Fin k0_t6_loop.trips) : Fin 2 → Nat :=
  let c0_i32_847 : BitVec 32 := 0#32
  let c1_i32_849 : BitVec 32 := 1#32
  let arg12 : BitVec 32 := Scf.iv c0_i32_847 c1_i32_849 k0_t6
  let c128_i32_862 : BitVec 32 := 128#32
  let v994 : BitVec 32 := Scalar.muli arg12 c128_i32_862
  let v995 : Index := Scalar.indexCast v994
  let c0_863 : Index := 0#32
  ![v995.toNat, 0]
@[reducible] def k0_t7_loop : Scf.Loop 32 :=
  let c0_i32_849 : BitVec 32 := 0#32
  let c8_i32_850 : BitVec 32 := 8#32
  let v977 : BitVec 32 := Scalar.addi c0_i32_849 c8_i32_850
  let c1_i32_851 : BitVec 32 := 1#32
  ⟨c0_i32_849, v977, c1_i32_851⟩
def k0_off36 (k0_t7 : Fin k0_t7_loop.trips) : Fin 2 → Nat :=
  let c0_854 : Index := 0#32
  let c0_i32_849 : BitVec 32 := 0#32
  let c1_i32_851 : BitVec 32 := 1#32
  let arg12 : BitVec 32 := Scf.iv c0_i32_849 c1_i32_851 k0_t7
  let c128_i32_853 : BitVec 32 := 128#32
  let v979 : BitVec 32 := Scalar.muli arg12 c128_i32_853
  let v980 : Index := Scalar.indexCast v979
  ![0, v980.toNat]
def k0_off37 (d0 : Dev nD) (k0_t3 : Fin k0_t3_loop.trips) (k0_t7 : Fin k0_t7_loop.trips) : Fin 3 → Nat :=
  let c0_i32_849 : BitVec 32 := 0#32
  let c1_i32_851 : BitVec 32 := 1#32
  let arg12 : BitVec 32 := Scf.iv c0_i32_849 c1_i32_851 k0_t7
  let v982 : Index := Scalar.indexCast arg12
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_828 : BitVec 32 := 7#32
  let v930 : BitVec 32 := Scalar.subi v2 c7_i32_828
  let c0_i32_19 : BitVec 32 := 0#32
  let c1_i32_20 : BitVec 32 := 1#32
  let arg11 : BitVec 32 := Scf.iv c0_i32_19 c1_i32_20 k0_t3
  let v931 : BitVec 32 := Scalar.addi v930 arg11
  let c32_i32_829 : BitVec 32 := 32#32
  let v932 : BitVec 32 := Scalar.addi v931 c32_i32_829
  let c16_i32_830 : BitVec 32 := 16#32
  let v933 : BitVec 32 := Scalar.remsi v932 c16_i32_830
  let c1_i32_843 : BitVec 32 := 1#32
  let v956 : BitVec 32 := Scalar.subi v933 c1_i32_843
  let c128_i32_844 : BitVec 32 := 128#32
  let v957 : BitVec 32 := Scalar.muli v956 c128_i32_844
  let c1664_i32 : BitVec 32 := 1664#32
  let v958 : BitVec 32 := Scalar.minsi v957 c1664_i32
  let v983 : Index := Scalar.indexCast v958
  let c0_855 : Index := 0#32
  ![v982.toNat, v983.toNat, 0]
def k0_off38 (k0_t7 : Fin k0_t7_loop.trips) : Fin 3 → Nat :=
  let c0_i32_849 : BitVec 32 := 0#32
  let c1_i32_851 : BitVec 32 := 1#32
  let arg12 : BitVec 32 := Scf.iv c0_i32_849 c1_i32_851 k0_t7
  let v989 : Index := Scalar.indexCast arg12
  let c0_858 : Index := 0#32
  let c0_859 : Index := 0#32
  ![v989.toNat, 0, 0]
def k0_off39 (d0 : Dev nD) (k0_t3 : Fin k0_t3_loop.trips) (k0_t7 : Fin k0_t7_loop.trips) : Fin 3 → Nat :=
  let c0_i32_849 : BitVec 32 := 0#32
  let c1_i32_851 : BitVec 32 := 1#32
  let arg12 : BitVec 32 := Scf.iv c0_i32_849 c1_i32_851 k0_t7
  let v1002 : Index := Scalar.indexCast arg12
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_828 : BitVec 32 := 7#32
  let v930 : BitVec 32 := Scalar.subi v2 c7_i32_828
  let c0_i32_19 : BitVec 32 := 0#32
  let c1_i32_20 : BitVec 32 := 1#32
  let arg11 : BitVec 32 := Scf.iv c0_i32_19 c1_i32_20 k0_t3
  let v931 : BitVec 32 := Scalar.addi v930 arg11
  let c32_i32_829 : BitVec 32 := 32#32
  let v932 : BitVec 32 := Scalar.addi v931 c32_i32_829
  let c16_i32_830 : BitVec 32 := 16#32
  let v933 : BitVec 32 := Scalar.remsi v932 c16_i32_830
  let c1_i32_843 : BitVec 32 := 1#32
  let v956 : BitVec 32 := Scalar.subi v933 c1_i32_843
  let c128_i32_844 : BitVec 32 := 128#32
  let v957 : BitVec 32 := Scalar.muli v956 c128_i32_844
  let c1664_i32 : BitVec 32 := 1664#32
  let v958 : BitVec 32 := Scalar.minsi v957 c1664_i32
  let v1003 : Index := Scalar.indexCast v958
  let c0_864 : Index := 0#32
  ![v1002.toNat, v1003.toNat, 0]
def k0_off40 (k0_t7 : Fin k0_t7_loop.trips) : Fin 3 → Nat :=
  let c0_i32_849 : BitVec 32 := 0#32
  let c1_i32_851 : BitVec 32 := 1#32
  let arg12 : BitVec 32 := Scf.iv c0_i32_849 c1_i32_851 k0_t7
  let v1008 : Index := Scalar.indexCast arg12
  let c0_866 : Index := 0#32
  let c0_867 : Index := 0#32
  ![v1008.toNat, 0, 0]
def k0_off41 (k0_t7 : Fin k0_t7_loop.trips) : Fin 2 → Nat :=
  let c0_i32_849 : BitVec 32 := 0#32
  let c1_i32_851 : BitVec 32 := 1#32
  let arg12 : BitVec 32 := Scf.iv c0_i32_849 c1_i32_851 k0_t7
  let c128_i32_870 : BitVec 32 := 128#32
  let v1020 : BitVec 32 := Scalar.muli arg12 c128_i32_870
  let v1021 : Index := Scalar.indexCast v1020
  let c0_871 : Index := 0#32
  ![v1021.toNat, 0]
def k0_cond6 (k0_t3 : Fin k0_t3_loop.trips) : BitVec 1 :=
  let c0_i32_19 : BitVec 32 := 0#32
  let c1_i32_20 : BitVec 32 := 1#32
  let arg11 : BitVec 32 := Scf.iv c0_i32_19 c1_i32_20 k0_t3
  let c0_i32_823 : BitVec 32 := 0#32
  let v922 : BitVec 1 := Scalar.cmpi .sgt arg11 c0_i32_823
  let c7_i32_824 : BitVec 32 := 7#32
  let v923 : BitVec 1 := Scalar.cmpi .slt arg11 c7_i32_824
  let v924 : BitVec 1 := Scalar.andi v922 v923
  let v925 : BitVec 32 := Scalar.extui v924
  let c0_i32_825 : BitVec 32 := 0#32
  let v926 : BitVec 1 := Scalar.cmpi .ne v925 c0_i32_825
  v926

def k0_off42 (k0_t3 : Fin k0_t3_loop.trips) : Fin 1 → Nat :=
  let c8_i32_834 : BitVec 32 := 8#32
  let c0_i32_19 : BitVec 32 := 0#32
  let c1_i32_20 : BitVec 32 := 1#32
  let arg11 : BitVec 32 := Scf.iv c0_i32_19 c1_i32_20 k0_t3
  let c1_i32_828 : BitVec 32 := 1#32
  let v930 : BitVec 32 := Scalar.subi arg11 c1_i32_828
  let v937 : BitVec 32 := Scalar.addi c8_i32_834 v930
  ![v937.toNat]
def k0_off43 (k0_t3 : Fin k0_t3_loop.trips) : Fin 3 → Nat :=
  let c8_i32_833 : BitVec 32 := 8#32
  let c0_i32_19 : BitVec 32 := 0#32
  let c1_i32_20 : BitVec 32 := 1#32
  let arg11 : BitVec 32 := Scf.iv c0_i32_19 c1_i32_20 k0_t3
  let c1_i32_828 : BitVec 32 := 1#32
  let v930 : BitVec 32 := Scalar.subi arg11 c1_i32_828
  let v936 : BitVec 32 := Scalar.addi c8_i32_833 v930
  let c0_i32_837 : BitVec 32 := 0#32
  let c0_i32_838 : BitVec 32 := 0#32
  ![v936.toNat, 0, 0]
def k0_off44 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_829 : BitVec 32 := 7#32
  let v931 : BitVec 32 := Scalar.subi v2 c7_i32_829
  let c0_i32_19 : BitVec 32 := 0#32
  let c1_i32_20 : BitVec 32 := 1#32
  let arg11 : BitVec 32 := Scf.iv c0_i32_19 c1_i32_20 k0_t3
  let c1_i32_828 : BitVec 32 := 1#32
  let v930 : BitVec 32 := Scalar.subi arg11 c1_i32_828
  let v932 : BitVec 32 := Scalar.addi v931 v930
  let c32_i32_830 : BitVec 32 := 32#32
  let v933 : BitVec 32 := Scalar.addi v932 c32_i32_830
  let c16_i32_831 : BitVec 32 := 16#32
  let v934 : BitVec 32 := Scalar.remsi v933 c16_i32_831
  let c128_i32_832 : BitVec 32 := 128#32
  let v935 : BitVec 32 := Scalar.muli v934 c128_i32_832
  let c0_i32_839 : BitVec 32 := 0#32
  ![v935.toNat, 0]
def k0_off45 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_840 : BitVec 32 := 7#32
  let v945 : BitVec 32 := Scalar.subi v2 c7_i32_840
  let c0_i32_19 : BitVec 32 := 0#32
  let c1_i32_20 : BitVec 32 := 1#32
  let arg11 : BitVec 32 := Scf.iv c0_i32_19 c1_i32_20 k0_t3
  let v946 : BitVec 32 := Scalar.addi v945 arg11
  let c32_i32_841 : BitVec 32 := 32#32
  let v947 : BitVec 32 := Scalar.addi v946 c32_i32_841
  let c16_i32_842 : BitVec 32 := 16#32
  let v948 : BitVec 32 := Scalar.remsi v947 c16_i32_842
  let c128_i32_843 : BitVec 32 := 128#32
  let v949 : BitVec 32 := Scalar.muli v948 c128_i32_843
  let v950 : Index := Scalar.indexCast v949
  let c0_844 : Index := 0#32
  ![v950.toNat, 0]
def k0_off46 (k0_t3 : Fin k0_t3_loop.trips) : Fin 3 → Nat :=
  let c8_i32_845 : BitVec 32 := 8#32
  let c0_i32_19 : BitVec 32 := 0#32
  let c1_i32_20 : BitVec 32 := 1#32
  let arg11 : BitVec 32 := Scf.iv c0_i32_19 c1_i32_20 k0_t3
  let v953 : BitVec 32 := Scalar.addi c8_i32_845 arg11
  let c1_i32_846 : BitVec 32 := 1#32
  let v954 : BitVec 32 := Scalar.subi v953 c1_i32_846
  let v955 : Index := Scalar.indexCast v954
  let c0_847 : Index := 0#32
  let c0_848 : Index := 0#32
  ![v955.toNat, 0, 0]
def k0_cond7 (k0_t3 : Fin k0_t3_loop.trips) : BitVec 1 :=
  let c0_i32_19 : BitVec 32 := 0#32
  let c1_i32_20 : BitVec 32 := 1#32
  let arg11 : BitVec 32 := Scf.iv c0_i32_19 c1_i32_20 k0_t3
  let c7_i32_826 : BitVec 32 := 7#32
  let v927 : BitVec 1 := Scalar.cmpi .slt arg11 c7_i32_826
  let v928 : BitVec 32 := Scalar.extui v927
  let c0_i32_827 : BitVec 32 := 0#32
  let v929 : BitVec 1 := Scalar.cmpi .ne v928 c0_i32_827
  v929

def k0_off47 (k0_t3 : Fin k0_t3_loop.trips) : Fin 1 → Nat :=
  let c8_i32_833 : BitVec 32 := 8#32
  let c0_i32_19 : BitVec 32 := 0#32
  let c1_i32_20 : BitVec 32 := 1#32
  let arg11 : BitVec 32 := Scf.iv c0_i32_19 c1_i32_20 k0_t3
  let v936 : BitVec 32 := Scalar.addi c8_i32_833 arg11
  ![v936.toNat]
def k0_off48 (k0_t3 : Fin k0_t3_loop.trips) : Fin 3 → Nat :=
  let c8_i32_832 : BitVec 32 := 8#32
  let c0_i32_19 : BitVec 32 := 0#32
  let c1_i32_20 : BitVec 32 := 1#32
  let arg11 : BitVec 32 := Scf.iv c0_i32_19 c1_i32_20 k0_t3
  let v935 : BitVec 32 := Scalar.addi c8_i32_832 arg11
  let c0_i32_836 : BitVec 32 := 0#32
  let c0_i32_837 : BitVec 32 := 0#32
  ![v935.toNat, 0, 0]
def k0_off49 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_828 : BitVec 32 := 7#32
  let v930 : BitVec 32 := Scalar.subi v2 c7_i32_828
  let c0_i32_19 : BitVec 32 := 0#32
  let c1_i32_20 : BitVec 32 := 1#32
  let arg11 : BitVec 32 := Scf.iv c0_i32_19 c1_i32_20 k0_t3
  let v931 : BitVec 32 := Scalar.addi v930 arg11
  let c32_i32_829 : BitVec 32 := 32#32
  let v932 : BitVec 32 := Scalar.addi v931 c32_i32_829
  let c16_i32_830 : BitVec 32 := 16#32
  let v933 : BitVec 32 := Scalar.remsi v932 c16_i32_830
  let c128_i32_831 : BitVec 32 := 128#32
  let v934 : BitVec 32 := Scalar.muli v933 c128_i32_831
  let c0_i32_838 : BitVec 32 := 0#32
  ![v934.toNat, 0]
def k0_dev4 (d0 : Dev nD) : Nat :=
  let c0_i32_835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_834 : BitVec 32 := 1#32
  let v937 : BitVec 32 := Scalar.muli v5 c1_i32_834
  let v938 : BitVec 32 := Scalar.addi c0_i32_835 v937
  v938.toNat
def k0_off50 (d0 : Dev nD) (c7_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_22 : BitVec 32 := 8#32
  let v36 : BitVec 32 := Scalar.addi v2 c8_i32_22
  let v37 : BitVec 32 := Scalar.subi v36 c7_i32
  let c32_i32 : BitVec 32 := 32#32
  let v38 : BitVec 32 := Scalar.addi v37 c32_i32
  let c16_i32_23 : BitVec 32 := 16#32
  let v39 : BitVec 32 := Scalar.remsi v38 c16_i32_23
  let c128_i32_24 : BitVec 32 := 128#32
  let v40 : BitVec 32 := Scalar.muli v39 c128_i32_24
  let c0_i32_32 : BitVec 32 := 0#32
  ![v40.toNat, 0]
def k0_off51 (d0 : Dev nD) (c6_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_38 : BitVec 32 := 7#32
  let v57 : BitVec 32 := Scalar.subi v2 c7_i32_38
  let v58 : BitVec 32 := Scalar.addi v57 c6_i32
  let c32_i32_39 : BitVec 32 := 32#32
  let v59 : BitVec 32 := Scalar.addi v58 c32_i32_39
  let c16_i32_40 : BitVec 32 := 16#32
  let v60 : BitVec 32 := Scalar.remsi v59 c16_i32_40
  let c128_i32_41 : BitVec 32 := 128#32
  let v61 : BitVec 32 := Scalar.muli v60 c128_i32_41
  let c0_i32_48 : BitVec 32 := 0#32
  ![v61.toNat, 0]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v233 : Index := Scalar.indexCast v2
  let c0_228 : Index := 0#32
  let c0_229 : Index := 0#32
  ![v233.toNat, 0, 0]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_233 : BitVec 32 := 0#32
  let c0_i32_234 : BitVec 32 := 0#32
  ![v2.toNat, 0, 0]
def k0_dev5 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_231 : BitVec 32 := 1#32
  let v237 : BitVec 32 := Scalar.muli v7 c1_i32_231
  let v238 : BitVec 32 := Scalar.addi c0_i32_232 v237
  v238.toNat
def k0_dev6 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_238 : BitVec 32 := 1#32
  let v247 : BitVec 32 := Scalar.muli v5 c1_i32_238
  let v248 : BitVec 32 := Scalar.addi c0_i32_239 v247
  v248.toNat
def k0_off54 (d0 : Dev nD) (c1_i32_244 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v257 : BitVec 32 := Scalar.subi v2 c1_i32_244
  let c32_i32_245 : BitVec 32 := 32#32
  let v258 : BitVec 32 := Scalar.addi v257 c32_i32_245
  let c16_i32_246 : BitVec 32 := 16#32
  let v259 : BitVec 32 := Scalar.remsi v258 c16_i32_246
  let c0_i32_251 : BitVec 32 := 0#32
  let c0_i32_252 : BitVec 32 := 0#32
  ![v259.toNat, 0, 0]
def k0_dev7 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_260 : BitVec 32 := 1#32
  let v271 : BitVec 32 := Scalar.muli v7 c1_i32_260
  let v272 : BitVec 32 := Scalar.addi c0_i32_261 v271
  v272.toNat
def k0_off55 (d0 : Dev nD) (c1_i32_266 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v281 : BitVec 32 := Scalar.subi v2 c1_i32_266
  let c32_i32_267 : BitVec 32 := 32#32
  let v282 : BitVec 32 := Scalar.addi v281 c32_i32_267
  let c16_i32_268 : BitVec 32 := 16#32
  let v283 : BitVec 32 := Scalar.remsi v282 c16_i32_268
  let v284 : Index := Scalar.indexCast v283
  let c0_269 : Index := 0#32
  let c0_270 : Index := 0#32
  ![v284.toNat, 0, 0]
def k0_off56 (d0 : Dev nD) (c1_i32_266 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v281 : BitVec 32 := Scalar.subi v2 c1_i32_266
  let c32_i32_267 : BitVec 32 := 32#32
  let v282 : BitVec 32 := Scalar.addi v281 c32_i32_267
  let c16_i32_268 : BitVec 32 := 16#32
  let v283 : BitVec 32 := Scalar.remsi v282 c16_i32_268
  let c128_i32_271 : BitVec 32 := 128#32
  let v288 : BitVec 32 := Scalar.muli v283 c128_i32_271
  let v289 : Index := Scalar.indexCast v288
  let c0_272 : Index := 0#32
  ![v289.toNat, 0]
def k0_off57 (d0 : Dev nD) (c1_i32_273 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v291 : BitVec 32 := Scalar.addi v2 c1_i32_273
  let c32_i32_274 : BitVec 32 := 32#32
  let v292 : BitVec 32 := Scalar.addi v291 c32_i32_274
  let c16_i32_275 : BitVec 32 := 16#32
  let v293 : BitVec 32 := Scalar.remsi v292 c16_i32_275
  let c0_i32_280 : BitVec 32 := 0#32
  let c0_i32_281 : BitVec 32 := 0#32
  ![v293.toNat, 0, 0]
def k0_dev8 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_288 : BitVec 32 := 1#32
  let v305 : BitVec 32 := Scalar.muli v5 c1_i32_288
  let v306 : BitVec 32 := Scalar.addi c0_i32_289 v305
  v306.toNat
def k0_off58 (d0 : Dev nD) (c1_i32_294 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v315 : BitVec 32 := Scalar.addi v2 c1_i32_294
  let c32_i32_295 : BitVec 32 := 32#32
  let v316 : BitVec 32 := Scalar.addi v315 c32_i32_295
  let c16_i32_296 : BitVec 32 := 16#32
  let v317 : BitVec 32 := Scalar.remsi v316 c16_i32_296
  let v318 : Index := Scalar.indexCast v317
  let c0_297 : Index := 0#32
  let c0_298 : Index := 0#32
  ![v318.toNat, 0, 0]
def k0_off59 (d0 : Dev nD) (c1_i32_294 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v315 : BitVec 32 := Scalar.addi v2 c1_i32_294
  let c32_i32_295 : BitVec 32 := 32#32
  let v316 : BitVec 32 := Scalar.addi v315 c32_i32_295
  let c16_i32_296 : BitVec 32 := 16#32
  let v317 : BitVec 32 := Scalar.remsi v316 c16_i32_296
  let c128_i32_299 : BitVec 32 := 128#32
  let v322 : BitVec 32 := Scalar.muli v317 c128_i32_299
  let v323 : Index := Scalar.indexCast v322
  let c0_300 : Index := 0#32
  ![v323.toNat, 0]
def k0_dev9 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_316 : BitVec 32 := 1#32
  let v339 : BitVec 32 := Scalar.muli v7 c1_i32_316
  let v340 : BitVec 32 := Scalar.addi c0_i32_317 v339
  v340.toNat
def k0_dev10 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_344 : BitVec 32 := 1#32
  let v373 : BitVec 32 := Scalar.muli v5 c1_i32_344
  let v374 : BitVec 32 := Scalar.addi c0_i32_345 v373
  v374.toNat
def k0_dev11 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_372 : BitVec 32 := 1#32
  let v407 : BitVec 32 := Scalar.muli v7 c1_i32_372
  let v408 : BitVec 32 := Scalar.addi c0_i32_373 v407
  v408.toNat
def k0_dev12 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_400 : BitVec 32 := 1#32
  let v441 : BitVec 32 := Scalar.muli v5 c1_i32_400
  let v442 : BitVec 32 := Scalar.addi c0_i32_401 v441
  v442.toNat
def k0_dev13 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_428 : BitVec 32 := 1#32
  let v475 : BitVec 32 := Scalar.muli v7 c1_i32_428
  let v476 : BitVec 32 := Scalar.addi c0_i32_429 v475
  v476.toNat
def k0_dev14 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_456 : BitVec 32 := 1#32
  let v509 : BitVec 32 := Scalar.muli v5 c1_i32_456
  let v510 : BitVec 32 := Scalar.addi c0_i32_457 v509
  v510.toNat
def k0_dev15 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_484 : BitVec 32 := 1#32
  let v543 : BitVec 32 := Scalar.muli v7 c1_i32_484
  let v544 : BitVec 32 := Scalar.addi c0_i32_485 v543
  v544.toNat
def k0_dev16 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_512 : BitVec 32 := 1#32
  let v577 : BitVec 32 := Scalar.muli v5 c1_i32_512
  let v578 : BitVec 32 := Scalar.addi c0_i32_513 v577
  v578.toNat
def k0_dev17 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_540 : BitVec 32 := 1#32
  let v611 : BitVec 32 := Scalar.muli v7 c1_i32_540
  let v612 : BitVec 32 := Scalar.addi c0_i32_541 v611
  v612.toNat
def k0_dev18 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_568 : BitVec 32 := 1#32
  let v645 : BitVec 32 := Scalar.muli v5 c1_i32_568
  let v646 : BitVec 32 := Scalar.addi c0_i32_569 v645
  v646.toNat
def k0_dev19 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_596 : BitVec 32 := 1#32
  let v679 : BitVec 32 := Scalar.muli v7 c1_i32_596
  let v680 : BitVec 32 := Scalar.addi c0_i32_597 v679
  v680.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩
abbrev S2048x1024 : Shape := ⟨2, ![2048, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x2048x16384, .f32⟩
  | .hbm, ⟨6, _⟩ => ⟨S1x2048x128x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x2048, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S1x128x2048x2048, .f32⟩
  | .hbm, ⟨29, _⟩ => ⟨S_, .f32⟩
  | .hbm, ⟨30, _⟩ => ⟨S1x128x2048x2048, .f32⟩
  | .hbm, ⟨31, _⟩ => ⟨S1x128x2048x2048, .f32⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S1x128x2048x2048, .i1⟩
  | .hbm, ⟨36, _⟩ => ⟨S1x128x2048x2048, .f32⟩
  | .hbm, ⟨37, _⟩ => ⟨S1x128x2048x2048, .f32⟩
  | .hbm, ⟨38, _⟩ => ⟨S_, .f32⟩
  | .hbm, ⟨39, _⟩ => ⟨S1x128x2048, .f32⟩
  | .hbm, ⟨40, _⟩ => ⟨S1x128x2048x1, .f32⟩
  | .hbm, ⟨41, _⟩ => ⟨S1x128x2048x2048, .f32⟩
  | .hbm, ⟨42, _⟩ => ⟨S1x128x2048x2048, .f32⟩
  | .hbm, ⟨43, _⟩ => ⟨S1x128x2048x2048, .f32⟩
  | .hbm, ⟨44, _⟩ => ⟨S_, .i1⟩
  | .hbm, ⟨45, _⟩ => ⟨S2048, .i1⟩
  | .hbm, ⟨46, _⟩ => ⟨S1x1x2048x1, .i1⟩
  | .hbm, ⟨47, _⟩ => ⟨S_, .f32⟩
  | .hbm, ⟨48, _⟩ => ⟨S1x128x2048, .f32⟩
  | .hbm, ⟨49, _⟩ => ⟨S1x128x2048x1, .f32⟩
  | .hbm, ⟨50, _⟩ => ⟨S_, .f32⟩
  | .hbm, ⟨51, _⟩ => ⟨S_, .f32⟩
  | .hbm, ⟨52, _⟩ => ⟨S1x128x2048x1, .i1⟩
  | .hbm, ⟨53, _⟩ => ⟨S1x128x2048x1, .f32⟩
  | .hbm, ⟨54, _⟩ => ⟨S1x128x2048x1, .f32⟩
  | .hbm, ⟨55, _⟩ => ⟨S1x128x2048x2048, .f32⟩
  | .hbm, ⟨56, _⟩ => ⟨S1x128x2048x2048, .f32⟩
  | .hbm, ⟨57, _⟩ => ⟨S1x1x2048x1, .i1⟩
  | .hbm, ⟨58, _⟩ => ⟨S_, .f32⟩
  | .hbm, ⟨59, _⟩ => ⟨S_, .f32⟩
  | .hbm, ⟨60, _⟩ => ⟨S1x128x2048x2048, .i1⟩
  | .hbm, ⟨61, _⟩ => ⟨S1x128x2048x2048, .f32⟩
  | .hbm, ⟨62, _⟩ => ⟨S1x128x2048x2048, .f32⟩
  | .hbm, ⟨63, _⟩ => ⟨S1x128x128x2048, .f32⟩
  | .hbm, ⟨64, _⟩ => ⟨S1x2048x128x128, .f32⟩
  | .hbm, ⟨65, _⟩ => ⟨S1x2048x16384, .f32⟩
  | .hbm, ⟨66, _⟩ => ⟨S1x2048x1024, .f32⟩
  | .hbm, ⟨67, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.KernelIdeal.Ring.lean ====
/- The ring of sixteen devices: neighbours, the memrefs that the copies read and write, the semaphore
   cells and the schedule of what each cell is paid. -/
module

public import proofs.«01_k».proof.Proof.Gen.KernelIdeal
public import Idealize.ShloMosaic.Lib.Tactic
public import Idealize.ShloMosaic.Lib.MemrefSat
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

/-! ## Neighbours and chunks -/

/-- The neighbour that copies to the right go to. -/
def right (c : Dev nD) : Dev nD := ⟨(c.val + 1) % 16, Nat.mod_lt _ (by decide)⟩
/-- The neighbour that copies to the left go to. -/
def left (c : Dev nD) : Dev nD := ⟨(c.val + 15) % 16, Nat.mod_lt _ (by decide)⟩
theorem left_right (c : Dev nD) : left (right c) = c := by revert c; decide
theorem right_left (c : Dev nD) : right (left c) = c := by revert c; decide

/-- The ring as a permutation of the devices. -/
def ring : Dev nD ≃ Dev nD := ⟨right, left, left_right, right_left⟩

/-- A number of thirty-two or fewer steps round the ring, as a chunk. -/
abbrev ck (n : ℕ) : Fin 16 := ⟨n % 16, Nat.mod_lt _ (by decide)⟩

/-- Hop `i` goes to the right: the first eight, and the eight from the fifteenth on. -/
def goesRight (i : Fin 30) : Bool := i.val < 8 || (15 ≤ i.val && i.val < 23)
/-- The receiver of the copy that `c` sends on hop `i`. -/
def tgt (i : Fin 30) (c : Dev nD) : Dev nD := if goesRight i then right c else left c
/-- The sender of the copy that `c` receives on hop `i`. -/
def src (i : Fin 30) (c : Dev nD) : Dev nD := if goesRight i then left c else right c
theorem src_tgt (i : Fin 30) (c : Dev nD) : src i (tgt i c) = c := by
  unfold src tgt; split
  · exact left_right c
  · exact right_left c
theorem tgt_src (i : Fin 30) (c : Dev nD) : tgt i (src i c) = c := by
  unfold src tgt; split
  · exact right_left c
  · exact left_right c
/-- Hop `i` as a permutation of the devices. -/
def hop (i : Fin 30) : Dev nD ≃ Dev nD := ⟨tgt i, src i, src_tgt i, tgt_src i⟩

/-- The chunk `o` places to the right of `c`'s own. -/
abbrev chunk (c : Dev nD) (o : Fin 16) : Fin 16 := ck (c.val + o.val)

/-- The place, counted from `c`'s own chunk, of the rows that a reduce-scatter hop `i < 15` sends. -/
def rsOff (i : Fin 30) : Fin 16 := ck (if i.val < 8 then 8 - i.val else i.val + 1)
/-- The same for the chunk that an all-gather hop `15 ≤ i` sends. -/
def agOff (i : Fin 30) : Fin 16 := ck (if i.val < 23 then 31 - i.val else i.val - 23)
/-- And for the chunk that an all-gather hop `15 ≤ i` brings. -/
def inOff (i : Fin 30) : Fin 16 := ck (if i.val < 23 then 30 - i.val else i.val - 22)
/-- The output rows that `c` sends on a reduce-scatter hop `i < 15`. -/
abbrev rsChunk (i : Fin 30) (c : Dev nD) : Fin 16 := chunk c (rsOff i)
/-- The chunk that `c` sends on an all-gather hop `15 ≤ i`. -/
abbrev agChunk (i : Fin 30) (c : Dev nD) : Fin 16 := chunk c (agOff i)
theorem agChunk_src (i : Fin 30) (c : Dev nD) (h : 15 ≤ i.val) : agChunk i (src i c) = chunk c (inOff i) := by
  revert i c; decide

/-! ## Memrefs -/

/-- The output buffer of the kernel. -/
abbrev outM : Memref sig .tc .vmem S2048x1024 .f32 := stage0_5 0
/-- The buffer the reduce-scatter copies land in. -/
abbrev commM : Memref sig .tc .vmem S15x128x1024 .f32 := Memref.whole cc0_scratch0
/-- The buffer the all-gather copies land in. -/
abbrev gatM : Memref sig .tc .vmem S16x128x1024 .bf16 := Memref.whole cc0_scratch1

theorem row_inb (k : Fin 16) : ∀ a, (![128 * k.val, 0] : Fin 2 → ℕ) a + S128x1024.size a ≤ S2048x1024.size a := by
  revert k; decide
theorem comm_inb (j : Fin 15) : ∀ a, (![j.val, 0, 0] : Fin 3 → ℕ) a + S1x128x1024.size a ≤ S15x128x1024.size a := by
  revert j; decide
theorem gat_inb (k : Fin 16) : ∀ a, (![k.val, 0, 0] : Fin 3 → ℕ) a + S1x128x1024.size a ≤ S16x128x1024.size a := by
  revert k; decide

/-- The rectangle of the output rows of chunk `k`. -/
abbrev rowR (k : Fin 16) : Rect S2048x1024 := Rect.unit (s := S2048x1024) ![128 * k.val, 0] S128x1024.size (row_inb k)
/-- The rectangle of a reduce-scatter slot. -/
abbrev commR (j : Fin 15) : Rect S15x128x1024 := Rect.unit (s := S15x128x1024) ![j.val, 0, 0] S1x128x1024.size (comm_inb j)
/-- The rectangle of an all-gather slot. -/
abbrev gatR (k : Fin 16) : Rect S16x128x1024 := Rect.unit (s := S16x128x1024) ![k.val, 0, 0] S1x128x1024.size (gat_inb k)

/-- The output rows of chunk `k`. -/
abbrev rowM (k : Fin 16) : Memref sig .tc .vmem S128x1024 .f32 := outM.slice (rowR k) (fun _ => rfl)
/-- Reduce-scatter slot `j`. -/
abbrev slotM (j : Fin 15) : Memref sig .tc .vmem S128x1024 .f32 :=
  (commM.slice (commR j) (fun _ => rfl)).squeeze S128x1024 squeezes_S1x128x1024_S128x1024
/-- All-gather slot `k`. -/
abbrev gslotM (k : Fin 16) : Memref sig .tc .vmem S128x1024 .bf16 :=
  (gatM.slice (gatR k) (fun _ => rfl)).squeeze S128x1024 squeezes_S1x128x1024_S128x1024

/-! ## Cells -/

/-- The kernel's own cells on a device: the barrier, the thirty send cells and the thirty receive cells. -/
abbrev Ci : Type := Option (Bool × Fin 30)
abbrev barS : Sem sig := sig.barrier 0 rfl
abbrev sndD (i : Fin 30) : DmaSem sig := ⟨6 + i.val, by have := i.isLt; show _ < 66; omega⟩
abbrev rcvD (i : Fin 30) : DmaSem sig := ⟨36 + i.val, by have := i.isLt; show _ < 66; omega⟩
/-- Where a cell stands. -/
def sl : Ci → SemLoc sig
  | none => .reg barS
  | some (false, i) => .dma (sndD i)
  | some (true, i) => .dma (rcvD i)
/-- Which cell of the protocol a semaphore is. -/
def dec : SemLoc sig → Option Ci
  | .reg s => if s = barS then some none else none
  | .dma k => if h : 6 ≤ k.val ∧ k.val < 36 then some (some (false, ⟨k.val - 6, by omega⟩))
      else if h : 36 ≤ k.val ∧ k.val < 66 then some (some (true, ⟨k.val - 36, by omega⟩)) else none
theorem dec_sl (x : Ci) : dec (sl x) = some x := by
  rcases x with _ | ⟨_ | _, i⟩
  · simp only [sl, dec, if_true]
  · have := i.isLt
    simp only [sl, dec]
    rw [dif_pos ⟨by omega, by omega⟩]; simp
  · have := i.isLt
    simp only [sl, dec]
    rw [dif_neg (by omega), dif_pos ⟨by omega, by omega⟩]; simp
theorem sl_inj : Function.Injective sl := fun x y h => by
  have := dec_sl x; rw [h, dec_sl] at this; exact (Option.some.inj this).symm

/-- Cell `x` of device `c`. -/
abbrev cell (c : Dev nD) (x : Ci) : GSem nD τ sig := ((c : Thread nD τ), sl x)
theorem cell_inj {c c' : Dev nD} {x x' : Ci} (h : cell c x = cell c' x') : c = c' ∧ x = x' :=
  ⟨congrArg (fun g : GSem nD τ sig => g.1.1) h, sl_inj (congrArg (fun g : GSem nD τ sig => g.2) h)⟩
abbrev barC (c : Dev nD) : GSem nD τ sig := cell c none
abbrev sndC (c : Dev nD) (i : Fin 30) : GSem nD τ sig := cell c (some (false, i))
abbrev rcvC (c : Dev nD) (i : Fin 30) : GSem nD τ sig := cell c (some (true, i))

/-- What a copy on hop `i` credits. -/
def N (i : Fin 30) : ℕ := if i.val < 15 then (rowM 0).view.dmaCredit else (gslotM 0).view.dmaCredit
theorem N_pos (i : Fin 30) : 0 < N i := by
  unfold N; split <;> exact View.dmaCredit_pos _ (by decide)

/-! ## Resources -/

/-- What the copies carry: on each reduce-scatter hop what a device sends, and the gathered chunks. -/
structure Vals (F : FTy → Type) where
  rs : Fin 30 → Dev nD → Vec F S128x1024 .f32
  ag : Fin 16 → Vec F S128x1024 .bf16

abbrev UU : Type := UR sig nD τ × URounds (GSem nD τ sig) Bool
abbrev MM (F : FTy → Type) := MT nD τ sig Unit (Elt F) ℕ UU ℕ
abbrev EP : Emb (UR sig nD τ) (MM F) := embL
abbrev ER : Emb (URounds (GSem nD τ sig) Bool) (MM F) := embR
local notation "𝕄" => MT nD τ sig Unit (Elt F) ℕ UU ℕ

/-- A memref owned whole at contents not told. -/
abbrev someAt (c : Dev nD) {sp : Space} {sh : Shape} {e : EltTy} (m : Memref sig .tc sp sh e) : sProp 𝕄 :=
  ownsSat (c : Thread nD τ) m fullShare (fun _ => True)

variable (v : Vals F)

/-- The place on `d` that hop `i` lands in. -/
def land (i : Fin 30) (d : Dev nD) : sProp 𝕄 :=
  if h : i.val < 15 then someAt d (slotM ⟨i.val, h⟩) else someAt d (gslotM (agChunk i (src i d)))
/-- What the receive cell of hop `i` is paid: the place, at what was sent. -/
def rcvPay (i : Fin 30) (d : Dev nD) : sProp 𝕄 :=
  if h : i.val < 15 then owns (d : Thread nD τ) (slotM ⟨i.val, h⟩) fullShare (v.rs i (src i d))
  else owns (d : Thread nD τ) (gslotM (agChunk i (src i d))) fullShare (v.ag (agChunk i (src i d)))
/-- The share of an all-gather slot that hop `i` reads. -/
def agShare (i : Fin 30) : PosShare TreeShare := if i.val < 23 then (fullShare : PosShare TreeShare).left else (fullShare : PosShare TreeShare).right
/-- What the send cell of hop `i` is paid: the source back. -/
def sndPay (i : Fin 30) (c : Dev nD) : sProp 𝕄 :=
  if i.val < 15 then someAt c (rowM (rsChunk i c))
  else owns (c : Thread nD τ) (gslotM (agChunk i c)) (agShare i) (v.ag (agChunk i c))
/-- What the barrier cell of `c` is paid by its right neighbour (`true`) or its left one: that neighbour's places, and its receive cells open. -/
def barPay (c : Dev nD) (d : Bool) : sProp 𝕄 :=
  bigSep (Finset.univ.filter fun i : Fin 30 => goesRight i = d)
    (fun i => iprop(land i (tgt i c) ∗ reached ER (rcvC (tgt i c) i) 0))

instance land_storable (i : Fin 30) (d : Dev nD) : BI.Storable (upEmb : UEmb _ 𝕄) (land (F := F) i d) := by
  unfold land; split <;> infer_instance
instance rcvPay_storable (i : Fin 30) (d : Dev nD) : BI.Storable (upEmb : UEmb _ 𝕄) (rcvPay v i d) := by
  unfold rcvPay; split <;> infer_instance
instance sndPay_storable (i : Fin 30) (d : Dev nD) : BI.Storable (upEmb : UEmb _ 𝕄) (sndPay v i d) := by
  unfold sndPay; split <;> infer_instance
instance barPay_storable (c : Dev nD) (d : Bool) : BI.Storable (upEmb : UEmb _ 𝕄) (barPay (F := F) c d) := by
  unfold barPay; infer_instance

/-! ## The schedule -/

/-- One round on every cell: two units on a barrier, one copy on a send or receive cell. -/
def Rd : Rounds.Schedule (GSem nD τ sig) Bool 𝕄 where
  duties g r := if r = 0 ∧ g.1.2 = .tc then
    (match dec g.2 with | some none => Finset.univ | some (some _) => {true} | none => ∅) else ∅
  unitless _ := False
  amount g _ _ := match dec g.2 with | some (some (_, i)) => N i | _ => 1
  payload g _ d := match dec g.2 with
    | some none => barPay g.1.1 d
    | some (some (false, i)) => sndPay v i g.1.1
    | some (some (true, i)) => rcvPay v i g.1.1
    | none => iprop(emp)
  amount_pos g _ _ _ := by split; exact N_pos _; exact Nat.one_pos

instance Rd_payload_storable (g : GSem nD τ sig) (r : ℕ) (d : Bool) :
    BI.Storable (upEmb : UEmb _ 𝕄) ((Rd v).payload g r d) := by
  show BI.Storable upEmb (match dec g.2 with
    | some none => barPay g.1.1 d
    | some (some (false, i)) => sndPay v i g.1.1
    | some (some (true, i)) => rcvPay v i g.1.1
    | none => iprop(emp))
  split <;> infer_instance

section Sched

variable (c : Dev nD) (i : Fin 30) (d : Bool)

theorem duties_bar : (Rd v).duties (barC c) 0 = Finset.univ := by
  dsimp only [Rd]; rw [if_pos ⟨rfl, rfl⟩, dec_sl]
theorem duties_snd : (Rd v).duties (sndC c i) 0 = {true} := by
  dsimp only [Rd]; rw [if_pos ⟨rfl, rfl⟩, dec_sl]
theorem duties_rcv : (Rd v).duties (rcvC c i) 0 = {true} := by
  dsimp only [Rd]; rw [if_pos ⟨rfl, rfl⟩, dec_sl]
theorem duties_later (g : GSem nD τ sig) : ∀ r, 1 ≤ r → (Rd v).duties g r = ∅ :=
  fun r hr => by dsimp only [Rd]; rw [if_neg (fun h => by omega)]
theorem amount_bar : (Rd v).amount (barC c) 0 d = 1 := by dsimp only [Rd]; rw [dec_sl]
theorem amount_snd : (Rd v).amount (sndC c i) 0 d = N i := by dsimp only [Rd]; rw [dec_sl]
theorem amount_rcv : (Rd v).amount (rcvC c i) 0 d = N i := by dsimp only [Rd]; rw [dec_sl]
theorem expect_bar : (Rd v).expect (barC c) 0 = 2 := by
  unfold Schedule.expect Schedule.amountOf; rw [duties_bar]
  simp only [amount_bar]; decide
theorem expect_snd : (Rd v).expect (sndC c i) 0 = N i := by
  unfold Schedule.expect Schedule.amountOf; rw [duties_snd, Finset.sum_singleton, amount_snd]
theorem expect_rcv : (Rd v).expect (rcvC c i) 0 = N i := by
  unfold Schedule.expect Schedule.amountOf; rw [duties_rcv, Finset.sum_singleton, amount_rcv]
theorem payload_bar : (Rd v).payload (barC c) 0 d = barPay c d := by dsimp only [Rd]; rw [dec_sl]
theorem payload_snd : (Rd v).payload (sndC c i) 0 d = sndPay v i c := by dsimp only [Rd]; rw [dec_sl]
theorem payload_rcv : (Rd v).payload (rcvC c i) 0 d = rcvPay v i c := by dsimp only [Rd]; rw [dec_sl]
theorem rest_snd : bigSep ((Rd v).duties (sndC c i) 0 \ ∅) (fun u => (Rd v).payload (sndC c i) 0 u) = sndPay v i c := by
  rw [Finset.sdiff_empty, duties_snd, bigSep_singleton, payload_snd]
theorem rest_rcv : bigSep ((Rd v).duties (rcvC c i) 0 \ ∅) (fun u => (Rd v).payload (rcvC c i) 0 u) = rcvPay v i c := by
  rw [Finset.sdiff_empty, duties_rcv, bigSep_singleton, payload_rcv]
theorem rest_bar : bigSep ((Rd v).duties (barC c) 0 \ ∅) (fun u => (Rd v).payload (barC c) 0 u)
    ⊢ (bigSep Finset.univ (fun i : Fin 30 => iprop(land i (tgt i c) ∗ reached ER (rcvC (tgt i c) i) 0)) : sProp 𝕄) := by
  rw [Finset.sdiff_empty, duties_bar]
  simp only [payload_bar]
  rw [show (Finset.univ : Finset Bool) = {true, false} from rfl, bigSep_insert (by decide), bigSep_singleton]
  unfold barPay
  rw [show (Finset.univ : Finset (Fin 30)) = (Finset.univ.filter fun i : Fin 30 => goesRight i = true) ∪ (Finset.univ.filter fun i : Fin 30 => goesRight i = false) by decide]
  exact (bigSep_union (by decide)).ge

end Sched

/-! ## Levels -/

/-- The level of a hop's receive cell: the two directions in turn. -/
def rank (i : Fin 30) : ℕ :=
  if i.val < 8 then 2 * i.val else if i.val < 15 then 2 * (i.val - 8) + 1
  else if i.val < 23 then 16 + 2 * (i.val - 15) else 17 + 2 * (i.val - 23)
def L (g : GSem nD τ sig) : Finset Unit := if g.1.2 = .tc then {()} else ∅
def lv (g : GSem nD τ sig) (_ : Unit) : ℕ := match dec g.2 with
  | some none => 1
  | some (some (true, i)) => 2 + rank i
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := by unfold lv; rw [dec_sl]
theorem lv_rcv (c : Dev nD) (i : Fin 30) : lv (rcvC c i) () = 2 + rank i := by unfold lv; rw [dec_sl]
theorem lv_snd (c : Dev nD) (i : Fin 30) : lv (sndC c i) () = 0 := by unfold lv; rw [dec_sl]

/-- What `c` owes while the hops `S` are unsent. -/
def owe (c : Dev nD) (S : Finset (Fin 30)) : CellTallies nD τ sig Unit := ∑ i ∈ S, tallyAt (rcvC (tgt i c) i) () (N i)
theorem owe_insert (c : Dev nD) {S : Finset (Fin 30)} {i : Fin 30} (h : i ∉ S) :
    owe c (insert i S) = owe c S + tallyAt (rcvC (tgt i c) i) () (N i) := by
  unfold owe; rw [Finset.sum_insert h, add_comm]
theorem owe_pos {c : Dev nD} {S : Finset (Fin 30)} {g : GSem nD τ sig} {u : Unit} (h : 0 < owe c S g u) :
    ∃ i ∈ S, g = rcvC (tgt i c) i := by
  by_contra hn
  push Not at hn
  have : owe c S g u = 0 := by
    unfold owe
    rw [Finset.sum_apply, Finsupp.finsetSum_apply]
    exact Finset.sum_eq_zero fun i hi => by rw [tallyAt_apply, if_neg (fun e => hn i hi e.1)]
  omega
/-- A wait on a cell below every receive cell that is still owed. -/
theorem mayWait (c : Dev nD) (x : Ci) (S : Finset (Fin 30)) (h : ∀ i ∈ S, lv (cell c x) () < 2 + rank i) :
    (levAts L lv : sProp 𝕄) ⊢ MayWait (c : Thread nD τ) (sl x) () (owe c S) :=
  MayOwe.of_cut (L := L) (lev := lv) (lv (cell c x) ()) (fun p hp => by rw [Finset.mem_singleton.mp hp, L_tc]; exact Finset.mem_singleton_self _)
    (fun g u hg => by obtain ⟨i, -, rfl⟩ := owe_pos hg; rw [L_tc]; exact Finset.mem_singleton_self _)
    (fun p hp => by rw [Finset.mem_singleton.mp hp])
    (fun g u hg => by obtain ⟨i, hi, rfl⟩ := owe_pos hg; rw [lv_rcv]; exact h i hi)

end Cert.KernelIdeal.Ring
-- ==== Proof.KernelIdeal.Ops.lean ====
/- The steps of the kernel's program, each over what it needs and what it leaves. -/
module

public import proofs.«01_k».proof.Proof.KernelIdeal.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

/-- The type of the kernel's programs. -/
abbrev PP (F : FTy → Type) (α : Type) : Type 1 := Prog (TpuEff nD τ sig (Elt F) Λ₀ .tc) α

variable {A B O P : sProp (MM F)}

/-- A memref can be lent out of `A` and put back. -/
def Lends (A : sProp 𝕄) (O : sProp 𝕄) : Prop := A ⊢ iprop(O ∗ (O -∗ A))
theorem Lends.self (O : sProp 𝕄) : Lends O O := by
  unfold Lends; iintro H; isplitl [H]; · iexact H
  iintro H; iexact H
theorem Lends.left (h : Lends A O) : Lends iprop(A ∗ B) O := by
  have h : A ⊢ iprop(O ∗ (O -∗ A)) := h
  unfold Lends; iintro ⟨HA, HB⟩; ihave H := h $$ HA; icases H with ⟨HO, HA⟩
  isplitl [HO]; · iexact HO
  iintro HO; isplitl [HA HO]; · iapply HA; iexact HO
  iexact HB
theorem Lends.right (h : Lends B O) : Lends iprop(A ∗ B) O := by
  have h : B ⊢ iprop(O ∗ (O -∗ B)) := h
  unfold Lends; iintro ⟨HA, HB⟩; ihave H := h $$ HB; icases H with ⟨HO, HB⟩
  isplitl [HO]; · iexact HO
  iintro HO; isplitl [HA]; · iexact HA
  iapply HB; iexact HO
theorem Lends.trans (h : Lends A O) (h' : Lends O P) : Lends A P := by
  have h : A ⊢ iprop(O ∗ (O -∗ A)) := h
  have h₂ : O ⊢ iprop(P ∗ (P -∗ O)) := h'
  unfold Lends; iintro HA; ihave H := h $$ HA; icases H with ⟨HO, HA⟩
  ihave H₂ := h₂ $$ HO; icases H₂ with ⟨HP, HO⟩
  isplitl [HP]; · iexact HP
  iintro HP; iapply HA; iapply HO; iexact HP
theorem Lends.fam {I : Type} [DecidableEq I] {S : Finset I} {i : I} (hi : i ∈ S) {Φ : I → sProp 𝕄} : Lends (bigSep S Φ) (Φ i) := by
  rw [bigSep_erase hi]; exact (Lends.self _).left

theorem fam_erase {I : Type} [DecidableEq I] {S : Finset I} {i : I} (hi : i ∈ S) (Φ : I → sProp (MM F)) :
    bigSep S Φ = iprop(Φ i ∗ bigSep (S.erase i) Φ) := bigSep_erase hi
theorem fam_insert {I : Type} [DecidableEq I] {S : Finset I} {i : I} (hi : i ∉ S) (Φ : I → sProp (MM F)) :
    bigSep (insert i S) Φ = iprop(Φ i ∗ bigSep S Φ) := bigSep_insert hi

variable [FloatOps F] [Named F]

abbrev 𝒱₀ : Variants := Variants.none

/-- The kernel's program runs on `c` to `Q`. -/
abbrev run (c : Dev nD) {α : Type} (p : PP F α) (Q : α → sProp 𝕄) : sProp 𝕄 :=
  wp frame (wpE (defs₀ (F := F)) 𝒱₀ (c : Thread nD τ) none) Set.univ p Q

variable {c : Dev nD} {α β : Type} {Q : α → sProp (MM F)}

theorem run_pure {a : α} (h : A ⊢ Q a) : A ⊢ run c (pure a) Q := by
  refine h.trans ?_
  unfold run; rw [wp_pure]; iintro H; imodintro; iexact H
theorem run_bind {p : PP F β} {k : β → PP F α} (h : A ⊢ run c p (fun a => run c (k a) Q)) : A ⊢ run c (p >>= k) Q := by
  unfold run; rw [wp_bind]; exact h
theorem run_pure_bind {a : β} {k : β → PP F α} (h : A ⊢ run c (k a) Q) : A ⊢ run c (pure a >>= k) Q := h
theorem run_deviceId {k : Dev nD → PP F α} (h : A ⊢ run c (k c) Q) : A ⊢ run c (Prog.lift .deviceId >>= k) Q := by
  refine h.trans ?_
  unfold run
  rw [wp_bind, Prog.lift, wp_op]
  iintro H; imodintro
  iapply (show wp frame (wpE (defs₀ (F := F)) 𝒱₀ (c : Thread nD τ) none) Set.univ (k c) Q ⊢ wpE (defs₀ (F := F)) 𝒱₀ (c : Thread nD τ) none Set.univ TpuEff.deviceId
    (fun x => wp frame (wpE (defs₀ (F := F)) 𝒱₀ (c : Thread nD τ) none) Set.univ (Prog.ret x) (fun a => wp frame (wpE (defs₀ (F := F)) 𝒱₀ (c : Thread nD τ) none) Set.univ (k a) Q)) from by
      rw [wpE_deviceId_eq, wp_ret]; iintro H; imodintro; iexact H)
  iexact H

/-! ## Loads and stores -/

section Mem

variable {cs : CoreSpace} {s : Shape} {e : EltTy} {m : Memref sig .tc cs s e} {q : PosShare TreeShare}

theorem set_slice_subset {sp : Space} (v : View sig .tc sp s e) (r : Rect s) : (v.slice r).set ⊆ v.set := by
  intro i hi
  obtain ⟨x, -, rfl⟩ := Finset.mem_map.mp hi
  exact Finset.mem_map.mpr ⟨r.emb x, Finset.mem_univ _, rfl⟩

/-- A load from a memref held at any share, through a rectangle of it. -/
theorem run_load {r : Rect s} {hl : m.view.LoadsAt r.toLoadRect} {X : s.Idx → Elt F e} {k : (r.shape.Idx → Elt F e) → PP F α}
    (hA : Lends A (owns (c : Thread nD τ) m q X)) (h : A ⊢ run c (k (fun j => X (r.emb j))) Q) :
    A ⊢ run c (Prog.lift (.load m r.toLoadRect hl) >>= k) Q := by
  refine BIBase.Entails.trans (show A ⊢ _ from hA) ?_
  unfold owns
  iintro ⟨⟨%f, %hf, H⟩, HA⟩
  subst hf
  iapply (wp_load_rect (defs := defs₀ (F := F)) 𝒱₀ (c : Thread nD τ) none Set.univ (m := m) (r := r) (hl := hl) (k := k) (Q := Q) (q := q) (f := f)
    (S := m.view.set) (set_slice_subset m.view r)) $$ H
  iintro H
  iapply h
  iapply HA
  iexists f; isplitr; · ipureintro; rfl
  iexact H

/-- A load from a slice that is held, through its memref. -/
theorem run_load_part {r : Rect s} {hl : m.view.LoadsAt r.toLoadRect} {hr} {X : r.shape.Idx → Elt F e} {k : (r.shape.Idx → Elt F e) → PP F α}
    (hA : Lends A (owns (c : Thread nD τ) (m.slice r hr) q X)) (h : A ⊢ run c (k X) Q) :
    A ⊢ run c (Prog.lift (.load m r.toLoadRect hl) >>= k) Q := by
  refine BIBase.Entails.trans (show A ⊢ _ from hA) ?_
  unfold owns
  iintro ⟨⟨%f, %hf, H⟩, HA⟩
  subst hf
  iapply (wp_load_rect (defs := defs₀ (F := F)) 𝒱₀ (c : Thread nD τ) none Set.univ (m := m) (r := r) (hl := hl) (k := k) (Q := Q) (q := q) (f := f)
    (S := (m.access r).set) subset_rfl) $$ H
  iintro H
  iapply h
  iapply HA
  iexists f; isplitr; · ipureintro; rfl
  iexact H

/-- A load whose value is not used, from a slice that is held at contents not told. -/
theorem run_load_any {r : Rect s} {hl : m.view.LoadsAt r.toLoadRect} {hr} {k : (r.shape.Idx → Elt F e) → PP F α}
    (hA : Lends A (someAt c (m.slice r hr))) (h : ∀ X, A ⊢ run c (k X) Q) :
    A ⊢ run c (Prog.lift (.load m r.toLoadRect hl) >>= k) Q := by
  refine BIBase.Entails.trans (show A ⊢ _ from hA) ?_
  unfold someAt ownsSat
  iintro ⟨⟨%f, -, H⟩, HA⟩
  iapply (wp_load_rect (defs := defs₀ (F := F)) 𝒱₀ (c : Thread nD τ) none Set.univ (m := m) (r := r) (hl := hl) (k := k) (Q := Q) (q := fullShare) (f := f)
    (S := (m.access r).set) subset_rfl) $$ H
  iintro H
  iapply (h _)
  iapply HA
  iexists f; isplitr; · ipureintro; trivial
  iexact H

/-- A store over a slice. -/
theorem run_store {r : Rect s} {hr} {w : r.shape.Idx → Elt F e} {hx} {hm} {k : PUnit → PP F α}
    (hA : A ⊢ iprop(someAt c (m.slice r hr) ∗ B)) (h : iprop(owns (c : Thread nD τ) (m.slice r hr) fullShare w ∗ B) ⊢ run c (k ⟨⟩) Q) :
    A ⊢ run c (Prog.lift (.store m r w Finset.univ hx hm) >>= k) Q := by
  refine BIBase.Entails.trans (show A ⊢ _ from hA) ?_
  unfold someAt ownsSat
  iintro ⟨⟨%f, -, H⟩, HB⟩
  iapply (wp_store (defs := defs₀ (F := F)) 𝒱₀ (c : Thread nD τ) none Set.univ (m := m) (r := r) (w := w) (Mk := Finset.univ) (hx := hx) (hm := hm) (k := k) (Q := Q) (f := f)
    (S := (m.access r).set) subset_rfl) $$ H
  iintro H
  iapply h
  isplitl [H]
  · unfold owns; iexists _; isplitr; swap
    · iexact H
    · ipureintro; exact View.read_write_univ _ _
  iexact HB

end Mem

/-! ## The state of the protocol -/

/-- Where a device stands: the hops it has still to send `U`, has sent `Q` and has seen sent `Z`; the hops it has still to
    receive `V` and has received `VD`; the output rows, by their offset from its own, that are free `T` and that are final `D`;
    the halves of the gathered chunks it holds `gl`, `gr`; and the reduce-scatter slots that it holds `C`. -/
structure Ph where
  U : Finset (Fin 30)
  Q : Finset (Fin 30)
  Z : Finset (Fin 30)
  V : Finset (Fin 30)
  VD : Finset (Fin 30)
  T : Finset (Fin 16)
  D : Finset (Fin 16)
  gl : Finset (Fin 16)
  gr : Finset (Fin 16)
  C : Finset (Fin 15)

section State

variable (v : Vals F) (fin : Dev nD → Fin 16 → Vec F S128x1024 .f32) (K : Dev nD × Ci → ℕ)

/-- All the cells' invariants. -/
def invs : sProp (MM F) := bigSep Finset.univ (fun p : Dev nD × Ci => cellInv ER (Rd v) (K p) (cell p.1 p.2))
instance invs_persistent : BI.Persistent (invs v K) := by unfold invs; infer_instance
theorem invs_get (d : Dev nD) (x : Ci) : invs v K ⊢ (cellInv ER (Rd v) (K (d, x)) (cell d x) : sProp 𝕄) :=
  bigSep_elim (Φ := fun p : Dev nD × Ci => (cellInv ER (Rd v) (K p) (cell p.1 p.2) : sProp 𝕄)) (Finset.mem_univ (d, x))

/-- What a device holds to send hop `i` with. -/
def sendR (c : Dev nD) (i : Fin 30) : sProp (MM F) :=
  iprop((land i (tgt i c) ∗ reached ER (rcvC (tgt i c) i) 0) ∗ dutyTok ER (rcvC (tgt i c) i) 0 true ∗ dutyTok ER (sndC c i) 0 true
    ∗ reached ER (sndC c i) 0 ∗ atPos ER (sndC c i) 0 ∅ 0)
/-- What it holds to see the sending of hop `i` with. -/
def sentR (c : Dev nD) (i : Fin 30) : sProp (MM F) := iprop(cred (tallyAt (sndC c i) () (N i)) ∗ atPos ER (sndC c i) 0 ∅ 0)
/-- What it holds to receive hop `i` with. -/
def recvR (c : Dev nD) (i : Fin 30) : sProp (MM F) := iprop(cred (tallyAt (rcvC c i) () (N i)) ∗ atPos ER (rcvC c i) 0 ∅ 0)

/-- The memory a device holds, apart from the windows. -/
def Mm (c : Dev nD) (σ : Ph) : sProp (MM F) :=
  iprop(bigSep σ.T (fun o => someAt c (rowM (chunk c o)))
    ∗ bigSep σ.D (fun o => owns (c : Thread nD τ) (rowM (chunk c o)) fullShare (fin c o))
    ∗ bigSep σ.gl (fun o => owns (c : Thread nD τ) (gslotM (chunk c o)) (fullShare : PosShare TreeShare).left (v.ag (chunk c o)))
    ∗ bigSep σ.gr (fun o => owns (c : Thread nD τ) (gslotM (chunk c o)) (fullShare : PosShare TreeShare).right (v.ag (chunk c o)))
    ∗ bigSep σ.C (fun j => someAt c (slotM j)))

/-- All that a device holds in the middle of the protocol. -/
def St (c : Dev nD) (σ : Ph) : sProp (MM F) :=
  iprop((invs v K ∗ levAts L lv) ∗ (∃ W, owes (c : Thread nD τ) (owe c σ.U) W)
    ∗ bigSep σ.U (sendR c) ∗ bigSep σ.Q (sentR c) ∗ bigSep σ.Z (fun i => semVal (sndC c i) 0)
    ∗ bigSep σ.V (recvR c) ∗ bigSep σ.VD (fun i => semVal (rcvC c i) 0) ∗ Mm v fin c σ)

end State

variable {v : Vals F} {fin : Dev nD → Fin 16 → Vec F S128x1024 .f32} {K : Dev nD × Ci → ℕ} {σ : Ph}

theorem mem_snd (v : Vals F) (c : Dev nD) (i : Fin 30) : true ∈ (Rd v).duties (sndC c i) 0 := by rw [duties_snd]; exact Finset.mem_singleton_self _
theorem mem_rcv (v : Vals F) (c : Dev nD) (i : Fin 30) : true ∈ (Rd v).duties (rcvC c i) 0 := by rw [duties_rcv]; exact Finset.mem_singleton_self _

/-- A hop's copy, sent. -/
theorem run_send {sh : Shape} {e : EltTy} {m m' : Memref sig .tc .vmem sh e} {q : PosShare TreeShare} {X : sh.Idx → Elt F e} (i : Fin 30)
    {dv : Dev nD} {sS sR : DmaSem sig} (hdv : dv = tgt i c) (hs : sS = sndD i) (hr : sR = rcvD i)
    (hU : i ∈ σ.U) (hQ : i ∉ σ.Q) (hN : m'.view.dmaCredit = N i)
    (hland : land i (tgt i c) ⊢ (someAt (tgt i c) m' : sProp 𝕄))
    (hp₁ : owns (c : Thread nD τ) m q X ⊢ sndPay v i c)
    (hp₂ : owns (tgt i c : Thread nD τ) m' fullShare X ⊢ rcvPay v i (tgt i c))
    {hsc} {hsrc : m.view.WordExact} {hdst : m'.view.WordExact} {hsem} {k : PUnit → PP F α}
    (hA : A ⊢ iprop(owns (c : Thread nD τ) m q X ∗ St v fin K c σ ∗ B))
    (h : iprop(St v fin K c {σ with U := σ.U.erase i, Q := insert i σ.Q} ∗ B) ⊢ run c (k ⟨⟩) Q) :
    A ⊢ run c (Prog.lift (.enqueueDma m (.remote (Dev.tc dv) m' (.dma sS) hsc) (.dma sR) hsrc hdst hsem) >>= k) Q := by
  subst hdv hs hr
  refine hA.trans ?_
  unfold St
  rw [fam_erase hU]
  nth_rewrite 1 [← Finset.insert_erase hU]
  rw [owe_insert c (Finset.notMem_erase i σ.U)]
  nth_rewrite 1 [sendR]
  iintro ⟨Hm, ⟨⟨#Hi, #Hl⟩, ⟨%W, HO⟩, ⟨⟨⟨Hland, #Hr⟩, Ht, Ht', #Hr', Hp⟩, HU⟩, HQ, HZ, HV, HVD, HM⟩, HB⟩
  ihave Hland := hland $$ Hland
  unfold someAt ownsSat
  icases Hland with ⟨%fd, -, Hd⟩
  unfold owns
  icases Hm with ⟨%fs, %hfs, Hs⟩
  iapply (Rounds.wp_send_pointsTo 𝒱₀ ER (Rd v) (c : Thread nD τ) none (c' := (tgt i c : Thread nD τ)) (src := m) (dst := m')
      (sS := .dma (sndD i)) (sem := .dma (rcvD i)) (q := q) (fs := fs) (fd := fd) (κ₁ := K (c, some (false, i))) (κ₂ := K (tgt i c, some (true, i)))
      (r₁ := 0) (r₂ := 0) (d₁ := true) (d₂ := true)
      (mem_snd v c i) (mem_rcv v (tgt i c) i)
      () () (N i) hN (amount_snd v c i true) (amount_rcv v (tgt i c) i true) (owe c (σ.U.erase i)) rfl (W := W)
      (by refine BIBase.Entails.trans ?_ (hp₁.trans (Entails.of_eq (payload_snd v c i true).symm)); unfold owns; iintro H; iexists fs; isplitr; · ipureintro; exact hfs
          iexact H)
      (by refine BIBase.Entails.trans ?_ (hp₂.trans (Entails.of_eq (payload_rcv v (tgt i c) i true).symm)); unfold owns; iintro H; iexists _; isplitr; swap
          · iexact H
          · ipureintro; rw [View.read_write_univ]; exact hfs)) $$ [Hs Hd HO Ht Ht']
  · isplitr; · iapply (invs_get v K c (some (false, i))); iexact Hi
    isplitr; · iapply (invs_get v K (tgt i c) (some (true, i))); iexact Hi
    isplitl [Hs]; · iexact Hs
    isplitl [Hd]; · iexact Hd
    isplitl [HO]; · iexact HO
    isplitl [Ht']; · iexact Ht'
    isplitr; · iexact Hr'
    isplitl [Ht]; · iexact Ht
    iexact Hr
  iintro ⟨Hc, HO⟩
  iapply h
  unfold St
  isplitr [HB]
  · isplitr
    · isplitr; · iexact Hi
      iexact Hl
    isplitl [HO]; · iexists W; iexact HO
    isplitl [HU]; · iexact HU
    isplitl [HQ Hc Hp]
    · rw [fam_insert hQ]
      isplitl [Hc Hp]
      · unfold sentR; isplitl [Hc]; · iexact Hc
        iexact Hp
      iexact HQ
    isplitl [HZ]; · iexact HZ
    isplitl [HV]; · iexact HV
    isplitl [HVD]; · iexact HVD
    iexact HM
  iexact HB

/-- The wait for a hop's copy to come. -/
theorem run_recv {sh sh' : Shape} {e e' : EltTy} {m : Memref sig .tc .vmem sh e} {m' : Memref sig .tc .vmem sh' e'} (i : Fin 30)
    {sR : DmaSem sig} (hr : sR = rcvD i) (hV : i ∈ σ.V) (hVD : i ∉ σ.VD) (hN : m'.view.dmaCredit = N i) (hw : ∀ j ∈ σ.U, rank i < rank j)
    {hsrc : m.view.WordExact} {hdst : m'.view.WordExact} {k : PUnit → PP F α}
    (hA : A ⊢ iprop(St v fin K c σ ∗ B))
    (h : iprop(rcvPay v i c ∗ St v fin K c {σ with V := σ.V.erase i, VD := insert i σ.VD} ∗ B) ⊢ run c (k ⟨⟩) Q) :
    A ⊢ run c (Prog.lift (.waitDma2 sR m m' hsrc hdst) >>= k) Q := by
  subst hr
  refine hA.trans ?_
  unfold St
  rw [fam_erase hV]
  nth_rewrite 1 [recvR]
  iintro ⟨⟨⟨#Hi, #Hl⟩, ⟨%W, HO⟩, HU, HQ, HZ, ⟨⟨Hc, Hp⟩, HV⟩, HVD, HM⟩, HB⟩
  iapply (Rounds.wp_wait_rest_token 𝒱₀ ER (Rd v) (c : Thread nD τ) none (κ := K (c, some (true, i)))
      (wpE_waitDma2_eq (src := m) (dst := m') 𝒱₀ (c : Thread nD τ) none Set.univ) (Set.mem_univ _) () (O := owe c σ.U) (W := W) (R := 0) (m := 0) (T := ∅)
      ((Nat.zero_add _).trans (hN.trans (expect_rcv v c i).symm))) $$ [Hc HO Hp]
  · isplitr; · iapply (invs_get v K c (some (true, i))); iexact Hi
    isplitl [Hc]; · rw [hN]; iexact Hc
    isplitl [HO]; · iexact HO
    isplitr
    · iapply (mayWait c (some (true, i)) σ.U (fun j hj => by rw [lv_rcv]; have := hw j hj; omega)); iexact Hl
    iexact Hp
  iintro ⟨HO, Hp, -, Hpay⟩
  ihave Hpay := (show bigSep ((Rd v).duties ((c : Thread nD τ), .dma (rcvD i)) 0 \ ∅) (fun d => (Rd v).payload ((c : Thread nD τ), .dma (rcvD i)) 0 d) ⊢ rcvPay v i c from
    Entails.of_eq (rest_rcv v c i)) $$ Hpay
  imod (Rounds.cell_close ER (Rd v) (Set.mem_univ (K (c, some (true, i)))) id (duties_later v (rcvC c i))) $$ [Hp] with Hv
  · isplitr; · iapply (invs_get v K c (some (true, i))); iexact Hi
    iexact Hp
  iapply h
  isplitl [Hpay]; · iexact Hpay
  unfold St
  isplitr [HB]
  · isplitr
    · isplitr; · iexact Hi
      iexact Hl
    isplitl [HO]; · iexists _; iexact HO
    isplitl [HU]; · iexact HU
    isplitl [HQ]; · iexact HQ
    isplitl [HZ]; · iexact HZ
    isplitl [HV]; · iexact HV
    isplitl [HVD Hv]
    · rw [fam_insert hVD]
      isplitl [Hv]; · iexact Hv
      iexact HVD
    iexact HM
  iexact HB

/-- The wait for a hop's copy to have gone. -/
theorem run_sent {sh sh' : Shape} {e e' : EltTy} {m : Memref sig .tc .vmem sh e} {m' : Memref sig .tc .vmem sh' e'} (i : Fin 30)
    {sS : DmaSem sig} (hs : sS = sndD i) (hQ : i ∈ σ.Q) (hZ : i ∉ σ.Z) (hN : m'.view.dmaCredit = N i)
    {hsrc : m.view.WordExact} {hdst : m'.view.WordExact} {k : PUnit → PP F α}
    (hA : A ⊢ iprop(St v fin K c σ ∗ B))
    (h : iprop(sndPay v i c ∗ St v fin K c {σ with Q := σ.Q.erase i, Z := insert i σ.Z} ∗ B) ⊢ run c (k ⟨⟩) Q) :
    A ⊢ run c (Prog.lift (.waitDma2 sS m m' hsrc hdst) >>= k) Q := by
  subst hs
  refine hA.trans ?_
  unfold St
  rw [fam_erase hQ]
  nth_rewrite 1 [sentR]
  iintro ⟨⟨⟨#Hi, #Hl⟩, ⟨%W, HO⟩, HU, ⟨⟨Hc, Hp⟩, HQ⟩, HZ, HV, HVD, HM⟩, HB⟩
  iapply (Rounds.wp_wait_rest_token 𝒱₀ ER (Rd v) (c : Thread nD τ) none (κ := K (c, some (false, i)))
      (wpE_waitDma2_eq (src := m) (dst := m') 𝒱₀ (c : Thread nD τ) none Set.univ) (Set.mem_univ _) () (O := owe c σ.U) (W := W) (R := 0) (m := 0) (T := ∅)
      ((Nat.zero_add _).trans (hN.trans (expect_snd v c i).symm))) $$ [Hc HO Hp]
  · isplitr; · iapply (invs_get v K c (some (false, i))); iexact Hi
    isplitl [Hc]; · rw [hN]; iexact Hc
    isplitl [HO]; · iexact HO
    isplitr
    · iapply (mayWait c (some (false, i)) σ.U (fun j hj => by rw [lv_snd]; omega)); iexact Hl
    iexact Hp
  iintro ⟨HO, Hp, -, Hpay⟩
  ihave Hpay := (show bigSep ((Rd v).duties ((c : Thread nD τ), .dma (sndD i)) 0 \ ∅) (fun d => (Rd v).payload ((c : Thread nD τ), .dma (sndD i)) 0 d) ⊢ sndPay v i c from
    Entails.of_eq (rest_snd v c i)) $$ Hpay
  imod (Rounds.cell_close ER (Rd v) (Set.mem_univ (K (c, some (false, i)))) id (duties_later v (sndC c i))) $$ [Hp] with Hv
  · isplitr; · iapply (invs_get v K c (some (false, i))); iexact Hi
    iexact Hp
  iapply h
  isplitl [Hpay]; · iexact Hpay
  unfold St
  isplitr [HB]
  · isplitr
    · isplitr; · iexact Hi
      iexact Hl
    isplitl [HO]; · iexists _; iexact HO
    isplitl [HU]; · iexact HU
    isplitl [HQ]; · iexact HQ
    isplitl [HZ Hv]
    · rw [fam_insert hZ]
      isplitl [Hv]; · iexact Hv
      iexact HZ
    isplitl [HV]; · iexact HV
    isplitl [HVD]; · iexact HVD
    iexact HM
  iexact HB

end Cert.KernelIdeal.Ring
-- ==== Proof.KernelIdeal.Steps.lean ====
/- Each hop's send, receipt and wait at the memrefs the kernel names, and the moves of the memory in and out of the state. -/
module

public import proofs.«01_k».proof.Proof.KernelIdeal.Ops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B : sProp (MM F)}

/-! ## Slots with and without their leading axis -/

/-- The contents of a slot, with the slot's leading axis. -/
def up {e : EltTy} (X : S128x1024.Idx → Elt F e) : S1x128x1024.Idx → Elt F e :=
  fun y => X ((Shape.reshapeEquiv squeezes_S1x128x1024_S128x1024.numel_eq).symm y)
/-- And without it. -/
def down {e : EltTy} (Y : S1x128x1024.Idx → Elt F e) : S128x1024.Idx → Elt F e :=
  fun x => Y (Shape.reshapeEquiv squeezes_S1x128x1024_S128x1024.numel_eq x)
theorem up_down {e : EltTy} (Y : S1x128x1024.Idx → Elt F e) : up (down Y) = Y := by
  funext y; unfold up down; rw [Equiv.apply_symm_apply]
theorem down_up {e : EltTy} (X : S128x1024.Idx → Elt F e) : down (up X) = X := by
  funext y; exact congrArg X (Equiv.symm_apply_apply _ y)

section Squeeze
variable {c : Dev nD} {sp : Space} {e : EltTy} {m : Memref sig .tc sp S1x128x1024 e} {q : PosShare TreeShare} {X : S128x1024.Idx → Elt F e}
variable {h : S1x128x1024.Squeezes S128x1024}

theorem owns_unsq : (owns (c : Thread nD τ) (m.squeeze S128x1024 h) q X : sProp 𝕄) ⊢ owns (c : Thread nD τ) m q (up X) := by
  unfold owns
  iintro ⟨%f, %hf, H⟩
  iexists f
  isplitr
  · ipureintro; subst hf; funext y
    show m.view.read (Elt F) f y = m.view.read (Elt F) f (Shape.reshapeEquiv _ ((Shape.reshapeEquiv _).symm y))
    rw [Equiv.apply_symm_apply]
  · have hs : (m.squeeze S128x1024 h).view.set = m.view.set := View.set_reshape _ _
    rw [← hs]; iexact H
theorem owns_sq : (owns (c : Thread nD τ) m q (up X) : sProp 𝕄) ⊢ owns (c : Thread nD τ) (m.squeeze S128x1024 h) q X := by
  unfold owns
  iintro ⟨%f, %hf, H⟩
  iexists f
  isplitr
  · ipureintro
    have := congrArg down hf
    rw [down_up] at this
    exact this
  · have hs : (m.squeeze S128x1024 h).view.set = m.view.set := View.set_reshape _ _
    rw [hs]; iexact H
theorem someAt_unsq : (someAt c (m.squeeze S128x1024 h) : sProp 𝕄) ⊢ someAt c m := by
  refine (ownsSat_any _ _ _).trans ?_
  iintro ⟨%X, H⟩
  iapply (ownsSat_intro _ _ _ (X := up X) trivial)
  iapply owns_unsq
  iexact H
theorem someAt_sq : (someAt c m : sProp 𝕄) ⊢ someAt c (m.squeeze S128x1024 h) := by
  refine (ownsSat_any _ _ _).trans ?_
  iintro ⟨%Y, H⟩
  iapply (ownsSat_intro _ _ _ (X := down Y) trivial)
  iapply owns_sq
  rw [up_down]
  iexact H
theorem lends_unsq : Lends (owns (c : Thread nD τ) (m.squeeze S128x1024 h) q X : sProp 𝕄) (owns (c : Thread nD τ) m q (up X)) := by
  unfold Lends
  iintro H
  isplitl [H]; · iapply owns_unsq; iexact H
  iintro H
  iapply owns_sq; iexact H
end Squeeze

/-! ## Memory in and out of the state -/

variable {c : Dev nD} {v : Vals F} {fin : Dev nD → Fin 16 → Vec F S128x1024 .f32} {K : Dev nD × Ci → ℕ} {σ : Ph}

/-- A move of the memory alone. -/
theorem St_mem {X : sProp (MM F)} {T D gl gr : Finset (Fin 16)} {C : Finset (Fin 15)}
    (h : Mm v fin c σ ⊢ iprop(X ∗ Mm v fin c {σ with T := T, D := D, gl := gl, gr := gr, C := C})) :
    St v fin K c σ ⊢ iprop(X ∗ St v fin K c {σ with T := T, D := D, gl := gl, gr := gr, C := C}) := by
  unfold St
  iintro ⟨H1, H2, H3, H4, H5, H6, H7, HM⟩
  ihave HM := h $$ HM
  icases HM with ⟨HX, HM⟩
  isplitl [HX]; · iexact HX
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HM
theorem St_put {X : sProp (MM F)} {T D gl gr : Finset (Fin 16)} {C : Finset (Fin 15)}
    (h : iprop(X ∗ Mm v fin c σ) ⊢ Mm v fin c {σ with T := T, D := D, gl := gl, gr := gr, C := C}) :
    iprop(X ∗ St v fin K c σ) ⊢ St v fin K c {σ with T := T, D := D, gl := gl, gr := gr, C := C} := by
  unfold St
  iintro ⟨HX, H1, H2, H3, H4, H5, H6, H7, HM⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h
  isplitl [HX]; · iexact HX
  iexact HM

theorem take_row {o : Fin 16} (ho : o ∈ σ.T) :
    St v fin K c σ ⊢ iprop(someAt c (rowM (chunk c o)) ∗ St v fin K c {σ with T := σ.T.erase o}) := by
  refine St_mem (T := σ.T.erase o) (D := σ.D) (gl := σ.gl) (gr := σ.gr) (C := σ.C) ?_
  unfold Mm
  rw [fam_erase ho]
  iintro ⟨⟨H, H1⟩, H2, H3, H4, H5⟩
  isplitl [H]; · iexact H
  isplitl [H1]; · iexact H1
  isplitl [H2]; · iexact H2
  isplitl [H3]; · iexact H3
  isplitl [H4]; · iexact H4
  iexact H5
theorem put_row {o : Fin 16} (ho : o ∉ σ.T) :
    iprop(someAt c (rowM (chunk c o)) ∗ St v fin K c σ) ⊢ St v fin K c {σ with T := insert o σ.T} := by
  refine St_put (T := insert o σ.T) (D := σ.D) (gl := σ.gl) (gr := σ.gr) (C := σ.C) ?_
  unfold Mm
  rw [fam_insert ho]
  iintro ⟨H, H1, H2, H3, H4, H5⟩
  isplitl [H H1]
  · isplitl [H]; · iexact H
    iexact H1
  isplitl [H2]; · iexact H2
  isplitl [H3]; · iexact H3
  isplitl [H4]; · iexact H4
  iexact H5
theorem put_done {o : Fin 16} (ho : o ∉ σ.D) :
    iprop(owns (c : Thread nD τ) (rowM (chunk c o)) fullShare (fin c o) ∗ St v fin K c σ) ⊢ St v fin K c {σ with D := insert o σ.D} := by
  refine St_put (T := σ.T) (D := insert o σ.D) (gl := σ.gl) (gr := σ.gr) (C := σ.C) ?_
  unfold Mm
  rw [fam_insert ho]
  iintro ⟨H, H1, H2, H3, H4, H5⟩
  isplitl [H1]; · iexact H1
  isplitl [H H2]
  · isplitl [H]; · iexact H
    iexact H2
  isplitl [H3]; · iexact H3
  isplitl [H4]; · iexact H4
  iexact H5
theorem take_gl {o : Fin 16} (ho : o ∈ σ.gl) :
    St v fin K c σ ⊢ iprop(owns (c : Thread nD τ) (gslotM (chunk c o)) (fullShare : PosShare TreeShare).left (v.ag (chunk c o))
      ∗ St v fin K c {σ with gl := σ.gl.erase o}) := by
  refine St_mem (T := σ.T) (D := σ.D) (gl := σ.gl.erase o) (gr := σ.gr) (C := σ.C) ?_
  unfold Mm
  rw [fam_erase ho]
  iintro ⟨H1, H2, ⟨H, H3⟩, H4, H5⟩
  isplitl [H]; · iexact H
  isplitl [H1]; · iexact H1
  isplitl [H2]; · iexact H2
  isplitl [H3]; · iexact H3
  isplitl [H4]; · iexact H4
  iexact H5
theorem put_gl {o : Fin 16} (ho : o ∉ σ.gl) :
    iprop(owns (c : Thread nD τ) (gslotM (chunk c o)) (fullShare : PosShare TreeShare).left (v.ag (chunk c o)) ∗ St v fin K c σ)
      ⊢ St v fin K c {σ with gl := insert o σ.gl} := by
  refine St_put (T := σ.T) (D := σ.D) (gl := insert o σ.gl) (gr := σ.gr) (C := σ.C) ?_
  unfold Mm
  rw [fam_insert ho]
  iintro ⟨H, H1, H2, H3, H4, H5⟩
  isplitl [H1]; · iexact H1
  isplitl [H2]; · iexact H2
  isplitl [H H3]
  · isplitl [H]; · iexact H
    iexact H3
  isplitl [H4]; · iexact H4
  iexact H5
theorem take_gr {o : Fin 16} (ho : o ∈ σ.gr) :
    St v fin K c σ ⊢ iprop(owns (c : Thread nD τ) (gslotM (chunk c o)) (fullShare : PosShare TreeShare).right (v.ag (chunk c o))
      ∗ St v fin K c {σ with gr := σ.gr.erase o}) := by
  refine St_mem (T := σ.T) (D := σ.D) (gl := σ.gl) (gr := σ.gr.erase o) (C := σ.C) ?_
  unfold Mm
  rw [fam_erase ho]
  iintro ⟨H1, H2, H3, ⟨H, H4⟩, H5⟩
  isplitl [H]; · iexact H
  isplitl [H1]; · iexact H1
  isplitl [H2]; · iexact H2
  isplitl [H3]; · iexact H3
  isplitl [H4]; · iexact H4
  iexact H5
theorem put_gr {o : Fin 16} (ho : o ∉ σ.gr) :
    iprop(owns (c : Thread nD τ) (gslotM (chunk c o)) (fullShare : PosShare TreeShare).right (v.ag (chunk c o)) ∗ St v fin K c σ)
      ⊢ St v fin K c {σ with gr := insert o σ.gr} := by
  refine St_put (T := σ.T) (D := σ.D) (gl := σ.gl) (gr := insert o σ.gr) (C := σ.C) ?_
  unfold Mm
  rw [fam_insert ho]
  iintro ⟨H, H1, H2, H3, H4, H5⟩
  isplitl [H1]; · iexact H1
  isplitl [H2]; · iexact H2
  isplitl [H3]; · iexact H3
  isplitl [H H4]
  · isplitl [H]; · iexact H
    iexact H4
  iexact H5
theorem put_slot {j : Fin 15} (hj : j ∉ σ.C) :
    iprop(someAt c (slotM j) ∗ St v fin K c σ) ⊢ St v fin K c {σ with C := insert j σ.C} := by
  refine St_put (T := σ.T) (D := σ.D) (gl := σ.gl) (gr := σ.gr) (C := insert j σ.C) ?_
  unfold Mm
  rw [fam_insert hj]
  iintro ⟨H, H1, H2, H3, H4, H5⟩
  isplitl [H1]; · iexact H1
  isplitl [H2]; · iexact H2
  isplitl [H3]; · iexact H3
  isplitl [H4]; · iexact H4
  isplitl [H]; · iexact H
  iexact H5
theorem lends_gl {o : Fin 16} (ho : o ∈ σ.gl) :
    Lends (St v fin K c σ) (owns (c : Thread nD τ) (gslotM (chunk c o)) (fullShare : PosShare TreeShare).left (v.ag (chunk c o))) := by
  unfold Lends St Mm
  rw [fam_erase ho]
  iintro ⟨H1, H2, H3, H4, H5, H6, H7, H8, H9, ⟨H, H10⟩, H11, H12⟩
  isplitl [H]; · iexact H
  iintro H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H H10]
  · isplitl [H]; · iexact H
    iexact H10
  isplitl [H11]; · iexact H11
  iexact H12
theorem lends_gr {o : Fin 16} (ho : o ∈ σ.gr) :
    Lends (St v fin K c σ) (owns (c : Thread nD τ) (gslotM (chunk c o)) (fullShare : PosShare TreeShare).right (v.ag (chunk c o))) := by
  unfold Lends St Mm
  rw [fam_erase ho]
  iintro ⟨H1, H2, H3, H4, H5, H6, H7, H8, H9, H10, ⟨H, H11⟩, H12⟩
  isplitl [H]; · iexact H
  iintro H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H H11]
  · isplitl [H]; · iexact H
    iexact H11
  iexact H12

/-! ## The hops -/

theorem sem_snd (i : Fin 30) {off : Fin 1 → ℕ} (ho : off = ![i.val]) (hb) :
    ((cc0_scratch3.slice (Rect.unit (s := S30) off S1.size hb)).squeeze S_ squeezes_S1_S_).sem = sndD i := by
  subst ho; revert i; decide
theorem sem_rcv (i : Fin 30) {off : Fin 1 → ℕ} (ho : off = ![i.val]) (hb) :
    ((cc0_scratch4.slice (Rect.unit (s := S30) off S1.size hb)).squeeze S_ squeezes_S1_S_).sem = rcvD i := by
  subst ho; revert i; decide
theorem N_slot (i : Fin 30) (h : i.val < 15) (j : Fin 15) : (slotM j).view.dmaCredit = N i := by
  unfold N; rw [if_pos h]
theorem N_row (i : Fin 30) (h : i.val < 15) (k : Fin 16) : (rowM k).view.dmaCredit = N i := by
  unfold N; rw [if_pos h]
theorem N_gslot (i : Fin 30) (h : ¬ i.val < 15) (k : Fin 16) : (gslotM k).view.dmaCredit = N i := by
  unfold N; rw [if_neg h]

variable [FloatOps F] [Named F] {α : Type} {Q : α → sProp (MM F)}

/-- A reduce-scatter send. -/
theorem run_send_rs (i : Fin 30) (hi : i.val < 15) {dv : Dev nD} {off : Fin 2 → ℕ} {off' : Fin 3 → ℕ} {sS sR : DmaSem sig}
    (hdv : dv = tgt i c) (hs : sS = sndD i) (hr : sR = rcvD i)
    (ho : off = ![128 * (rsChunk i c).val, 0]) (ho' : off' = ![i.val, 0, 0]) (hU : i ∈ σ.U) (hQ : i ∉ σ.Q)
    {hb : ∀ a, off a + S128x1024.size a ≤ S2048x1024.size a} {hb' : ∀ a, off' a + S1x128x1024.size a ≤ S15x128x1024.size a}
    {h1 h2 hsc} {hsrc : (outM.slice (Rect.unit (s := S2048x1024) off S128x1024.size hb) h1).view.WordExact} {hdst} {hsem} {k : PUnit → PP F α}
    (hA : A ⊢ iprop(owns (c : Thread nD τ) (rowM (rsChunk i c)) fullShare (v.rs i c) ∗ St v fin K c σ ∗ B))
    (h : iprop(St v fin K c {σ with U := σ.U.erase i, Q := insert i σ.Q} ∗ B) ⊢ run c (k ⟨⟩) Q) :
    A ⊢ run c (Prog.lift (.enqueueDma (outM.slice (Rect.unit (s := S2048x1024) off S128x1024.size hb) h1)
      (.remote (Dev.tc dv) ((commM.slice (Rect.unit (s := S15x128x1024) off' S1x128x1024.size hb') h2).squeeze S128x1024 squeezes_S1x128x1024_S128x1024) (.dma sS) hsc)
      (.dma sR) hsrc hdst hsem) >>= k) Q := by
  subst ho ho'
  refine run_send i hdv hs hr hU hQ (N_slot i hi ⟨i.val, hi⟩) ?_ ?_ ?_ hA h
  · unfold land; rw [dif_pos hi]
  · unfold sndPay; rw [if_pos hi]; exact ownsSat_intro _ _ _ trivial
  · unfold rcvPay; rw [dif_pos hi, src_tgt]

/-- An all-gather send. -/
theorem run_send_agR (i : Fin 30) (hi : ¬ i.val < 15) (hi' : i.val < 23) {dv : Dev nD} {off : Fin 3 → ℕ} {sS sR : DmaSem sig}
    (hdv : dv = tgt i c) (hs : sS = sndD i) (hr : sR = rcvD i)
    (ho : off = ![(agChunk i c).val, 0, 0]) (hU : i ∈ σ.U) (hQ : i ∉ σ.Q) (hg : agOff i ∈ σ.gl)
    {hb : ∀ a, off a + S1x128x1024.size a ≤ S16x128x1024.size a}
    {h1 h2 hsc} {hsrc} {hdst} {hsem} {k : PUnit → PP F α}
    (hA : A ⊢ iprop(St v fin K c σ ∗ B))
    (h : iprop(St v fin K c {σ with U := σ.U.erase i, Q := insert i σ.Q, gl := σ.gl.erase (agOff i)} ∗ B) ⊢ run c (k ⟨⟩) Q) :
    A ⊢ run c (Prog.lift (.enqueueDma ((gatM.slice (Rect.unit (s := S16x128x1024) off S1x128x1024.size hb) h1).squeeze S128x1024 squeezes_S1x128x1024_S128x1024)
      (.remote (Dev.tc dv) ((gatM.slice (Rect.unit (s := S16x128x1024) off S1x128x1024.size hb) h2).squeeze S128x1024 squeezes_S1x128x1024_S128x1024) (.dma sS) hsc)
      (.dma sR) hsrc hdst hsem) >>= k) Q := by
  subst ho
  refine run_send (σ := {σ with gl := σ.gl.erase (agOff i)}) i hdv hs hr hU hQ (N_gslot i hi (agChunk i c)) ?_ ?_ ?_
    (q := (fullShare : PosShare TreeShare).left) (X := v.ag (agChunk i c)) (hA.trans ?_) h
  · unfold land; rw [dif_neg hi, src_tgt]
  · unfold sndPay agShare; rw [if_neg hi, if_pos hi']
  · unfold rcvPay; rw [dif_neg hi, src_tgt]
  · iintro ⟨HS, HB⟩
    ihave HS := (take_gl hg) $$ HS
    icases HS with ⟨H, HS⟩
    isplitl [H]; · iexact H
    isplitl [HS]; · iexact HS
    iexact HB
theorem run_send_agL (i : Fin 30) (hi' : ¬ i.val < 23) {dv : Dev nD} {off : Fin 3 → ℕ} {sS sR : DmaSem sig}
    (hdv : dv = tgt i c) (hs : sS = sndD i) (hr : sR = rcvD i)
    (ho : off = ![(agChunk i c).val, 0, 0]) (hU : i ∈ σ.U) (hQ : i ∉ σ.Q) (hg : agOff i ∈ σ.gr)
    {hb : ∀ a, off a + S1x128x1024.size a ≤ S16x128x1024.size a}
    {h1 h2 hsc} {hsrc} {hdst} {hsem} {k : PUnit → PP F α}
    (hA : A ⊢ iprop(St v fin K c σ ∗ B))
    (h : iprop(St v fin K c {σ with U := σ.U.erase i, Q := insert i σ.Q, gr := σ.gr.erase (agOff i)} ∗ B) ⊢ run c (k ⟨⟩) Q) :
    A ⊢ run c (Prog.lift (.enqueueDma ((gatM.slice (Rect.unit (s := S16x128x1024) off S1x128x1024.size hb) h1).squeeze S128x1024 squeezes_S1x128x1024_S128x1024)
      (.remote (Dev.tc dv) ((gatM.slice (Rect.unit (s := S16x128x1024) off S1x128x1024.size hb) h2).squeeze S128x1024 squeezes_S1x128x1024_S128x1024) (.dma sS) hsc)
      (.dma sR) hsrc hdst hsem) >>= k) Q := by
  subst ho
  have hi : ¬ i.val < 15 := by omega
  refine run_send (σ := {σ with gr := σ.gr.erase (agOff i)}) i hdv hs hr hU hQ (N_gslot i hi (agChunk i c)) ?_ ?_ ?_
    (q := (fullShare : PosShare TreeShare).right) (X := v.ag (agChunk i c)) (hA.trans ?_) h
  · unfold land; rw [dif_neg hi, src_tgt]
  · unfold sndPay agShare; rw [if_neg hi, if_neg hi']
  · unfold rcvPay; rw [dif_neg hi, src_tgt]
  · iintro ⟨HS, HB⟩
    ihave HS := (take_gr hg) $$ HS
    icases HS with ⟨H, HS⟩
    isplitl [H]; · iexact H
    isplitl [HS]; · iexact HS
    iexact HB

/-- A reduce-scatter receipt: the slot comes at what was sent. -/
theorem run_recv_rs (i : Fin 30) (hi : i.val < 15) {sh : Shape} {e : EltTy} {m : Memref sig .tc .vmem sh e} {off' : Fin 3 → ℕ} {sR : DmaSem sig}
    (hr : sR = rcvD i) (ho' : off' = ![i.val, 0, 0]) (hV : i ∈ σ.V) (hVD : i ∉ σ.VD) (hw : ∀ j ∈ σ.U, rank i < rank j)
    {hb' : ∀ a, off' a + S1x128x1024.size a ≤ S15x128x1024.size a} {h2} {hsrc : m.view.WordExact} {hdst} {k : PUnit → PP F α}
    (hA : A ⊢ iprop(St v fin K c σ ∗ B))
    (h : iprop(owns (c : Thread nD τ) (slotM ⟨i.val, hi⟩) fullShare (v.rs i (src i c)) ∗ St v fin K c {σ with V := σ.V.erase i, VD := insert i σ.VD} ∗ B) ⊢ run c (k ⟨⟩) Q) :
    A ⊢ run c (Prog.lift (.waitDma2 sR m
      ((commM.slice (Rect.unit (s := S15x128x1024) off' S1x128x1024.size hb') h2).squeeze S128x1024 squeezes_S1x128x1024_S128x1024) hsrc hdst) >>= k) Q := by
  subst ho'
  refine run_recv i hr hV hVD (N_slot i hi ⟨i.val, hi⟩) hw hA (BIBase.Entails.trans ?_ h)
  unfold rcvPay; rw [dif_pos hi]

/-- An all-gather receipt: the chunk comes. -/
theorem run_recv_ag (i : Fin 30) (hi : ¬ i.val < 15) {sh : Shape} {e : EltTy} {m : Memref sig .tc .vmem sh e} {off' : Fin 3 → ℕ} {sR : DmaSem sig}
    (hr : sR = rcvD i) (ho' : ∃ k : Fin 16, off' = ![k.val, 0, 0]) (hV : i ∈ σ.V) (hVD : i ∉ σ.VD) (hw : ∀ j ∈ σ.U, rank i < rank j)
    (hl : inOff i ∉ σ.gl) (hr' : inOff i ∉ σ.gr)
    {hb' : ∀ a, off' a + S1x128x1024.size a ≤ S16x128x1024.size a} {h2} {hsrc : m.view.WordExact} {hdst} {k : PUnit → PP F α}
    (hA : A ⊢ iprop(St v fin K c σ ∗ B))
    (h : iprop(St v fin K c {σ with V := σ.V.erase i, VD := insert i σ.VD, gl := insert (inOff i) σ.gl, gr := insert (inOff i) σ.gr} ∗ B) ⊢ run c (k ⟨⟩) Q) :
    A ⊢ run c (Prog.lift (.waitDma2 sR m
      ((gatM.slice (Rect.unit (s := S16x128x1024) off' S1x128x1024.size hb') h2).squeeze S128x1024 squeezes_S1x128x1024_S128x1024) hsrc hdst) >>= k) Q := by
  obtain ⟨kk, rfl⟩ := ho'
  refine run_recv i hr hV hVD (N_gslot i hi kk) hw hA (BIBase.Entails.trans ?_ h)
  unfold rcvPay; rw [dif_neg hi, agChunk_src i c (by omega)]
  iintro ⟨H, HS, HB⟩
  ihave H := (owns_halves (c : Thread nD τ) (gslotM (chunk c (inOff i))) fullShare (v.ag (chunk c (inOff i)))).1 $$ H
  icases H with ⟨H1, H2⟩
  isplitr [HB]; swap
  · iexact HB
  iapply (put_gr (σ := {σ with V := σ.V.erase i, VD := insert i σ.VD, gl := insert (inOff i) σ.gl}) hr')
  isplitl [H2]; · iexact H2
  iapply (put_gl (σ := {σ with V := σ.V.erase i, VD := insert i σ.VD}) hl)
  isplitl [H1]; · iexact H1
  iexact HS

/-- A reduce-scatter send, seen gone: its rows are free again. -/
theorem run_sent_rs (i : Fin 30) (hi : i.val < 15) {sh : Shape} {e : EltTy} {m : Memref sig .tc .vmem sh e} {off : Fin 2 → ℕ} {sS : DmaSem sig}
    (hs : sS = sndD i) (ho : ∃ k : Fin 16, off = ![128 * k.val, 0]) (hQ : i ∈ σ.Q) (hZ : i ∉ σ.Z) (hT : rsOff i ∉ σ.T)
    {hb : ∀ a, off a + S128x1024.size a ≤ S2048x1024.size a} {h1} {hsrc : m.view.WordExact} {hdst} {k : PUnit → PP F α}
    (hA : A ⊢ iprop(St v fin K c σ ∗ B))
    (h : iprop(St v fin K c {σ with Q := σ.Q.erase i, Z := insert i σ.Z, T := insert (rsOff i) σ.T} ∗ B) ⊢ run c (k ⟨⟩) Q) :
    A ⊢ run c (Prog.lift (.waitDma2 sS m (outM.slice (Rect.unit (s := S2048x1024) off S128x1024.size hb) h1) hsrc hdst) >>= k) Q := by
  obtain ⟨kk, rfl⟩ := ho
  refine run_sent i hs hQ hZ (N_row i hi kk) hA (BIBase.Entails.trans ?_ h)
  unfold sndPay; rw [if_pos hi]
  iintro ⟨H, HS, HB⟩
  isplitr [HB]; swap
  · iexact HB
  iapply (put_row (σ := {σ with Q := σ.Q.erase i, Z := insert i σ.Z}) hT)
  isplitl [H]; · iexact H
  iexact HS

/-- An all-gather send, seen gone: its half of the chunk is back. -/
theorem run_sent_agR (i : Fin 30) (hi : ¬ i.val < 15) (hi' : i.val < 23) {sh : Shape} {e : EltTy} {m : Memref sig .tc .vmem sh e} {off' : Fin 3 → ℕ} {sS : DmaSem sig}
    (hs : sS = sndD i) (ho' : ∃ k : Fin 16, off' = ![k.val, 0, 0]) (hQ : i ∈ σ.Q) (hZ : i ∉ σ.Z) (hg : agOff i ∉ σ.gl)
    {hb' : ∀ a, off' a + S1x128x1024.size a ≤ S16x128x1024.size a} {h2} {hsrc : m.view.WordExact} {hdst} {k : PUnit → PP F α}
    (hA : A ⊢ iprop(St v fin K c σ ∗ B))
    (h : iprop(St v fin K c {σ with Q := σ.Q.erase i, Z := insert i σ.Z, gl := insert (agOff i) σ.gl} ∗ B) ⊢ run c (k ⟨⟩) Q) :
    A ⊢ run c (Prog.lift (.waitDma2 sS m
      ((gatM.slice (Rect.unit (s := S16x128x1024) off' S1x128x1024.size hb') h2).squeeze S128x1024 squeezes_S1x128x1024_S128x1024) hsrc hdst) >>= k) Q := by
  obtain ⟨kk, rfl⟩ := ho'
  refine run_sent i hs hQ hZ (N_gslot i hi kk) hA (BIBase.Entails.trans ?_ h)
  unfold sndPay agShare; rw [if_neg hi, if_pos hi']
  iintro ⟨H, HS, HB⟩
  isplitr [HB]; swap
  · iexact HB
  iapply (put_gl (σ := {σ with Q := σ.Q.erase i, Z := insert i σ.Z}) hg)
  isplitl [H]; · iexact H
  iexact HS
theorem run_sent_agL (i : Fin 30) (hi' : ¬ i.val < 23) {sh : Shape} {e : EltTy} {m : Memref sig .tc .vmem sh e} {off' : Fin 3 → ℕ} {sS : DmaSem sig}
    (hs : sS = sndD i) (ho' : ∃ k : Fin 16, off' = ![k.val, 0, 0]) (hQ : i ∈ σ.Q) (hZ : i ∉ σ.Z) (hg : agOff i ∉ σ.gr)
    {hb' : ∀ a, off' a + S1x128x1024.size a ≤ S16x128x1024.size a} {h2} {hsrc : m.view.WordExact} {hdst} {k : PUnit → PP F α}
    (hA : A ⊢ iprop(St v fin K c σ ∗ B))
    (h : iprop(St v fin K c {σ with Q := σ.Q.erase i, Z := insert i σ.Z, gr := insert (agOff i) σ.gr} ∗ B) ⊢ run c (k ⟨⟩) Q) :
    A ⊢ run c (Prog.lift (.waitDma2 sS m
      ((gatM.slice (Rect.unit (s := S16x128x1024) off' S1x128x1024.size hb') h2).squeeze S128x1024 squeezes_S1x128x1024_S128x1024) hsrc hdst) >>= k) Q := by
  obtain ⟨kk, rfl⟩ := ho'
  have hi : ¬ i.val < 15 := by omega
  refine run_sent i hs hQ hZ (N_gslot i hi kk) hA (BIBase.Entails.trans ?_ h)
  unfold sndPay agShare; rw [if_neg hi, if_neg hi']
  iintro ⟨H, HS, HB⟩
  isplitr [HB]; swap
  · iexact HB
  iapply (put_gr (σ := {σ with Q := σ.Q.erase i, Z := insert i σ.Z}) hg)
  isplitl [H]; · iexact H
  iexact HS

end Cert.KernelIdeal.Ring
-- ==== Proof.KernelIdeal.Blocks.lean ====
/- A device's share of a block of output rows: the values the kernel's inner loops leave. -/
module

public import proofs.«01_k».proof.Proof.KernelIdeal.Steps
public import proofs.«01_k».proof.Proof.Gen.KernelIdeal.Skeleton

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B : sProp (MM F)}

/-! ## Values -/

/-- The operands that the kernel's windows bring. -/
structure Inp (F : FTy → Type) where
  x : Vec F S2048x1024 .bf16
  wq : Vec F S1024x1024 .bf16
  k : Vec F S8x2048x128 .bf16
  va : Vec F S8x2048x256 .bf16
  wo : Vec F S1024x1024 .bf16

/-- A block of an array's elements. -/
abbrev rd {s : Shape} {V : Type} (X : s.Idx → V) (off sz : Fin s.rank → ℕ) (hb : ∀ a, off a + sz a ≤ s.size a) : (Rect.unit (s := s) off sz hb).shape.Idx → V :=
  fun j => X ((Rect.unit (s := s) off sz hb).emb j)

/-- A block's number as a word. -/
abbrev bw (b : Fin 16) : BitVec 32 := BitVec.ofNat 32 b.val
/-- The first key of the window that the rows of block `b` look at. -/
def ws (b : Fin 16) : ℕ := min (128 * (b.val - 1)) 1664
/-- The query numbers of the rows of block `w`. -/
def qi (w : BitVec 32) : IVec S128x2048 32 := addi (iota .tc S128x2048 32 [0] iota_S128x2048_d0_w32) (broadcast S128x2048 (Scalar.muli w 128#32))

theorem in_head (t : Fin 8) : ∀ a, (![0, 128 * t.val] : Fin 2 → ℕ) a + S128x128.size a ≤ S128x1024.size a := by revert t; decide
theorem in_wo (t : Fin 8) : ∀ a, (![128 * t.val, 0] : Fin 2 → ℕ) a + S128x1024.size a ≤ S1024x1024.size a := by revert t; decide
theorem in_k (t : Fin 8) : ∀ a, (![t.val, 0, 0] : Fin 3 → ℕ) a + S1x2048x128.size a ≤ S8x2048x128.size a := by revert t; decide
theorem in_v (t : Fin 8) : ∀ a, (![t.val, 0, 0] : Fin 3 → ℕ) a + S1x2048x256.size a ≤ S8x2048x256.size a := by revert t; decide
theorem in_kg (t : Fin 8) : ∀ a, (![t.val, 0, 0] : Fin 3 → ℕ) a + S1x128x128.size a ≤ S8x2048x128.size a := by revert t; decide
theorem in_vg (t : Fin 8) : ∀ a, (![t.val, 0, 0] : Fin 3 → ℕ) a + S1x128x256.size a ≤ S8x2048x256.size a := by revert t; decide
theorem in_kw (b : Fin 16) (t : Fin 8) : ∀ a, (![t.val, ws b, 0] : Fin 3 → ℕ) a + S1x384x128.size a ≤ S8x2048x128.size a := by revert b t; decide
theorem in_vw (b : Fin 16) (t : Fin 8) : ∀ a, (![t.val, ws b, 0] : Fin 3 → ℕ) a + S1x384x256.size a ≤ S8x2048x256.size a := by revert b t; decide

variable [FloatOps F] [Named F]

/-- The queries of the rows of block `b`. -/
def qv (I : Inp F) (b : Fin 16) : Vec F S128x1024 .bf16 :=
  k0_pay14 (rd I.x ![128 * b.val, 0] S128x1024.size (row_inb b)) (rd I.wq ![0, 0] S1024x1024.size inb_S1024x1024_S1024x1024_0_0)
/-- One head, over all the keys. -/
def dstep (I : Inp F) (b : Fin 16) (q : Vec F S128x1024 .bf16) (t : Fin 8) (a : FVec F S128x1024 .f32) : FVec F S128x1024 .f32 :=
  k0_pay16 (qi (bw b)) a (rd q ![0, 128 * t.val] S128x128.size (in_head t)) (rd I.k ![t.val, 0, 0] S1x2048x128.size (in_k t))
    (rd I.va ![t.val, 0, 0] S1x2048x256.size (in_v t)) (rd I.wo ![128 * t.val, 0] S128x1024.size (in_wo t))
/-- One head, over the window and the first keys. -/
def wstep (I : Inp F) (b : Fin 16) (q : Vec F S128x1024 .bf16) (t : Fin 8) (a : FVec F S128x1024 .f32) : FVec F S128x1024 .f32 :=
  k0_pay20 a (k0_pay1 (k0_pay17 (bw b) (qi (bw b))) (k0_pay18 (bw b)) (rd q ![0, 128 * t.val] S128x128.size (in_head t))
    (rd I.k ![t.val, ws b, 0] S1x384x128.size (in_kw b t)) (rd I.k ![t.val, 0, 0] S1x128x128.size (in_kg t))
    (rd I.va ![t.val, ws b, 0] S1x384x256.size (in_vw b t)) (rd I.va ![t.val, 0, 0] S1x128x256.size (in_vg t)))
    (rd I.wo ![128 * t.val, 0] S128x1024.size (in_wo t))
/-- One head. -/
def hstep (I : Inp F) (b : Fin 16) (q : Vec F S128x1024 .bf16) (t : Fin 8) (a : FVec F S128x1024 .f32) : FVec F S128x1024 .f32 :=
  if b = 0 then dstep I b q t a else wstep I b q t a
/-- The first `n` heads. -/
def heads (I : Inp F) (b : Fin 16) (q : Vec F S128x1024 .bf16) : ℕ → FVec F S128x1024 .f32
  | 0 => k0_pay15
  | n + 1 => if h : n < 8 then hstep I b q ⟨n, h⟩ (heads I b q n) else heads I b q n
/-- What a device adds to the output rows of block `b`. -/
def part (I : Inp F) (b : Fin 16) : FVec F S128x1024 .f32 := heads I b (qv I b) 8

/-! ## The loops -/

theorem run_load_rd {c : Dev nD} {α : Type} {Q : α → sProp (MM F)} {cs : CoreSpace} {s : Shape} {e : EltTy} {m : Memref sig .tc cs s e} {p : PosShare TreeShare} {X : s.Idx → Elt F e}
    {off off' sz : Fin s.rank → ℕ} (ho : off = off') {hb} (hb' : ∀ a, off' a + sz a ≤ s.size a)
    {hl : m.view.LoadsAt (Rect.unit (s := s) off sz hb).toLoadRect} {k : ((Rect.unit (s := s) off sz hb).shape.Idx → Elt F e) → PP F α}
    (hA : Lends A (owns (c : Thread nD τ) m p X)) (h : A ⊢ run c (k (rd X off' sz hb')) Q) :
    A ⊢ run c (Prog.lift (.load m (Rect.unit (s := s) off sz hb).toLoadRect hl) >>= k) Q := by
  subst ho; exact run_load hA h

theorem word_dev : ∀ d : Dev nD, Scalar.remsi (Scalar.divsi (Dev.word d) 1#32) 16#32 = BitVec.ofNat 32 d.val := by decide
theorem word_right : ∀ (d : Dev nD) (t : Fin k0_t3_loop.trips), Scalar.remsi (Scalar.addi (Scalar.subi (Scalar.addi (BitVec.ofNat 32 d.val) 8#32) (Scf.iv 0#32 1#32 t)) 32#32) 16#32
    = bw (ck (d.val + 40 - t.val)) := by decide
theorem word_left : ∀ (d : Dev nD) (t : Fin k0_t3_loop.trips), Scalar.remsi (Scalar.addi (Scalar.addi (Scalar.subi (BitVec.ofNat 32 d.val) 7#32) (Scf.iv 0#32 1#32 t)) 32#32) 16#32
    = bw (ck (d.val + t.val + 25)) := by decide
theorem bw_dev : ∀ d : Dev nD, bw (ck d.val) = BitVec.ofNat 32 d.val := by decide
theorem pay13_eq (d : Dev nD) : k0_pay13 d = qi (BitVec.ofNat 32 d.val) := by rw [← word_dev]; rfl
theorem pay4_eq (d : Dev nD) (t : Fin k0_t3_loop.trips) : k0_pay4 (BitVec.ofNat 32 d.val) 0#32 1#32 t = qi (bw (ck (d.val + 40 - t.val))) := by rw [← word_right]; rfl
theorem pay21_eq (d : Dev nD) (t : Fin k0_t3_loop.trips) : k0_pay21 (BitVec.ofNat 32 d.val) (Scf.iv 0#32 1#32 t) = qi (bw (ck (d.val + t.val + 25))) := by rw [← word_left]; rfl
theorem pay8_eq (d : Dev nD) (t : Fin k0_t3_loop.trips) (b : Fin 16) (hb : b = ck (d.val + 40 - t.val)) :
    k0_pay8 (BitVec.ofNat 32 d.val) 0#32 1#32 t = k0_pay17 (bw b) (qi (bw b)) := by subst hb; rw [← word_right]; rfl
theorem pay9_eq (d : Dev nD) (t : Fin k0_t3_loop.trips) (b : Fin 16) (hb : b = ck (d.val + 40 - t.val)) :
    k0_pay9 (BitVec.ofNat 32 d.val) 0#32 1#32 t = k0_pay18 (bw b) := by subst hb; rw [← word_right]; rfl
theorem pay25_eq (d : Dev nD) (t : Fin k0_t3_loop.trips) (b : Fin 16) (hb : b = ck (d.val + t.val + 25)) :
    k0_pay25 (BitVec.ofNat 32 d.val) (Scf.iv 0#32 1#32 t) = k0_pay17 (bw b) (qi (bw b)) := by subst hb; rw [← word_left]; rfl
theorem pay26_eq (d : Dev nD) (t : Fin k0_t3_loop.trips) (b : Fin 16) (hb : b = ck (d.val + t.val + 25)) :
    k0_pay26 (BitVec.ofNat 32 d.val) (Scf.iv 0#32 1#32 t) = k0_pay18 (bw b) := by subst hb; rw [← word_left]; rfl
theorem off7_eq : ∀ (d : Dev nD) (t : Fin k0_t2_loop.trips), ¬ k0_cond1 d = 1#1 → k0_off7 d t = ![t.val, ws (ck d.val), 0] := by decide +kernel
theorem off9_eq : ∀ (d : Dev nD) (t : Fin k0_t2_loop.trips), ¬ k0_cond1 d = 1#1 → k0_off9 d t = ![t.val, ws (ck d.val), 0] := by decide +kernel
theorem off18_eq : ∀ (d : Dev nD) (u : Fin k0_t3_loop.trips) (t : Fin k0_t5_loop.trips), ¬ k0_cond2 d u = 1#1 → k0_off18 d u t = ![t.val, ws (ck (d.val + 40 - u.val)), 0] := by decide +kernel
theorem off20_eq : ∀ (d : Dev nD) (u : Fin k0_t3_loop.trips) (t : Fin k0_t5_loop.trips), ¬ k0_cond2 d u = 1#1 → k0_off20 d u t = ![t.val, ws (ck (d.val + 40 - u.val)), 0] := by decide +kernel
theorem off37_eq : ∀ (d : Dev nD) (u : Fin k0_t3_loop.trips) (t : Fin k0_t7_loop.trips), k0_cond4 u = 1#1 → ¬ k0_cond5 d u = 1#1 → k0_off37 d u t = ![t.val, ws (ck (d.val + u.val + 25)), 0] := by decide +kernel
theorem off39_eq : ∀ (d : Dev nD) (u : Fin k0_t3_loop.trips) (t : Fin k0_t7_loop.trips), k0_cond4 u = 1#1 → ¬ k0_cond5 d u = 1#1 → k0_off39 d u t = ![t.val, ws (ck (d.val + u.val + 25)), 0] := by decide +kernel
theorem cond1_iff : ∀ d : Dev nD, k0_cond1 d = 1#1 ↔ ck d.val = 0 := by decide +kernel
theorem cond2_iff : ∀ (d : Dev nD) (u : Fin k0_t3_loop.trips), k0_cond2 d u = 1#1 ↔ ck (d.val + 40 - u.val) = 0 := by decide +kernel
theorem cond5_iff : ∀ (d : Dev nD) (u : Fin k0_t3_loop.trips), k0_cond4 u = 1#1 → (k0_cond5 d u = 1#1 ↔ ck (d.val + u.val + 25) = 0) := by decide +kernel

variable {c : Dev nD} {α : Type} {Q : α → sProp (MM F)}

theorem pure_and {φ : Prop} (h : φ) : A ⊢ iprop(⌜φ⌝ ∗ A) := by
  iintro H; isplitr; · ipureintro; exact h
  iexact H
theorem run_loop {l : Scf.Loop 32} {β : Type} (htr : l.trips = 8) {hok : l.OK} {init : β} {body : Fin l.trips → β → PP F β} {f : ℕ → β} {Q : β → sProp (MM F)}
    (h0 : init = f 0) (hb : ∀ (t : Fin l.trips) (Q' : β → sProp (MM F)), (A ⊢ Q' (f (t.val + 1))) → A ⊢ run c (body t (f t.val)) Q') (h : A ⊢ Q (f 8)) :
    A ⊢ run c (Scf.Loop.for l hok init body) Q := by
  unfold run
  iintro HA
  iapply (Scf.wp_for frame (wpE (defs₀ (F := F)) 𝒱₀ (c : Thread nD τ) none) Set.univ l.lb l.ub l.st hok init body
    (fun n a => iprop(⌜a = f n⌝ ∗ A)) (fun t a => by
      iintro ⟨%ha, HA⟩
      subst ha
      iapply (hb t (fun a => iprop(⌜a = f (t.val + 1)⌝ ∗ A)) (pure_and rfl))
      iexact HA))
  isplitl [HA]
  · isplitr; · ipureintro; exact h0
    iexact HA
  iintro %a ⟨%ha, HA⟩
  rw [show Scf.trips l.lb l.ub l.st = 8 from htr] at ha
  subst ha
  iapply h
  iexact HA
theorem run_loop_bind {l : Scf.Loop 32} {β : Type} (htr : l.trips = 8) {hok : l.OK} {init : β} {body : Fin l.trips → β → PP F β} {f : ℕ → β} {k : β → PP F α}
    (h0 : init = f 0) (hb : ∀ (t : Fin l.trips) (Q' : β → sProp (MM F)), (A ⊢ Q' (f (t.val + 1))) → A ⊢ run c (body t (f t.val)) Q') (h : A ⊢ run c (k (f 8)) Q) :
    A ⊢ run c (Scf.Loop.for l hok init body >>= k) Q :=
  run_bind (run_loop htr h0 hb h)

abbrev qM : Memref sig .tc .vmem S128x1024 .bf16 := Memref.whole cc0_scratch2

section Inner

variable {I : Inp F} {b : Fin 16} {q : Vec F S128x1024 .bf16}
variable (Hq : Lends A (owns (c : Thread nD τ) qM fullShare q)) (Hk : Lends A (owns (c : Thread nD τ) (stage0_2 0) fullShare I.k))
variable (Hv : Lends A (owns (c : Thread nD τ) (stage0_3 0) fullShare I.va)) (Hw : Lends A (owns (c : Thread nD τ) (stage0_4 0) fullShare I.wo))

theorem heads_succ_d (h : b = 0) {n : ℕ} (hn : n < 8) : heads I b q (n + 1) = dstep I b q ⟨n, hn⟩ (heads I b q n) := by
  rw [heads, dif_pos hn]; unfold hstep; rw [if_pos h]
theorem heads_succ_w (h : b ≠ 0) {n : ℕ} (hn : n < 8) : heads I b q (n + 1) = wstep I b q ⟨n, hn⟩ (heads I b q n) := by
  rw [heads, dif_pos hn]; unfold hstep; rw [if_neg h]

include Hq Hk Hv Hw

theorem run_t1 {d0 : Dev nD} {v5 v7 v29 z : BitVec 32} (h1 : k0_cond1 d0 = 1#1) (hb : b = ck d0.val) {k : FVec F S128x1024 .f32 → PP F α}
    (h : A ⊢ run c (k (heads I b q 8)) Q) :
    A ⊢ run c (Scf.Loop.for k0_t1_loop (k0_t1_ok d0 h1) (k0_pay15 (F := F)) (k0_t1_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 d0 (BitVec.ofNat 32 d0.val) v5 v7 (k0_pay13 d0) v29 z h1) >>= k) Q := by
  have h0 : b = 0 := by rw [hb]; exact (cond1_iff d0).1 h1
  refine run_loop_bind (f := heads I b q) (by decide) rfl (fun t Q' h' => ?_) h
  have ht : t.val < 8 := t.isLt
  rw [heads_succ_d h0 ht] at h'
  unfold k0_t1_body
  refine run_load_rd (k0_off2_eq t) (in_head ⟨t.val, ht⟩) Hq (run_load_rd (k0_off3_eq t) (in_k ⟨t.val, ht⟩) Hk
    (run_load_rd (k0_off4_eq t) (in_v ⟨t.val, ht⟩) Hv (run_load_rd (k0_off5_eq t) (in_wo ⟨t.val, ht⟩) Hw (run_pure ?_))))
  refine h'.trans (Entails.of_eq (congrArg Q' ?_))
  unfold dstep
  rw [show qi (bw b) = k0_pay13 d0 from by rw [hb]; rw [pay13_eq, bw_dev]]

theorem run_t4 {d0 : Dev nD} {v7 : BitVec 32} (u : Fin k0_t3_loop.trips) (h2 : k0_cond2 d0 u = 1#1) (hb : b = ck (d0.val + 40 - u.val)) {k : FVec F S128x1024 .f32 → PP F α}
    (h : A ⊢ run c (k (heads I b q 8)) Q) :
    A ⊢ run c (Scf.Loop.for k0_t4_loop (k0_t4_ok d0 u h2) (k0_pay6 (F := F)) (k0_t4_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 d0 (BitVec.ofNat 32 d0.val) v7 0#32 1#32 u h2) >>= k) Q := by
  have h0 : b = 0 := by rw [hb]; exact (cond2_iff d0 u).1 h2
  refine run_loop_bind (f := heads I b q) (by decide) rfl (fun t Q' h' => ?_) h
  have ht : t.val < 8 := t.isLt
  rw [heads_succ_d h0 ht] at h'
  unfold k0_t4_body
  refine run_load_rd (k0_off13_eq t) (in_head ⟨t.val, ht⟩) Hq (run_load_rd (k0_off14_eq t) (in_k ⟨t.val, ht⟩) Hk
    (run_load_rd (k0_off15_eq t) (in_v ⟨t.val, ht⟩) Hv (run_load_rd (k0_off16_eq t) (in_wo ⟨t.val, ht⟩) Hw (run_pure ?_))))
  refine h'.trans (Entails.of_eq (congrArg Q' ?_))
  unfold dstep
  rw [show qi (bw b) = k0_pay4 (BitVec.ofNat 32 d0.val) 0#32 1#32 u from by rw [hb]; exact (pay4_eq d0 u).symm]
  rfl

theorem run_t6 {d0 : Dev nD} {v5 v7 v29 z : BitVec 32} {v20 : IVec S128x2048 32} (u : Fin k0_t3_loop.trips) (h4 : k0_cond4 u = 1#1) (h5 : k0_cond5 d0 u = 1#1) (hb : b = ck (d0.val + u.val + 25)) {k : FVec F S128x1024 .f32 → PP F α}
    (h : A ⊢ run c (k (heads I b q 8)) Q) :
    A ⊢ run c (Scf.Loop.for k0_t6_loop (k0_t6_ok d0 u h4 h5) (k0_pay23 (F := F)) (k0_t6_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 d0 (BitVec.ofNat 32 d0.val) v5 v7 v20 v29 z u (Scf.iv 0#32 1#32 u) h4 h5) >>= k) Q := by
  have h0 : b = 0 := by rw [hb]; exact (cond5_iff d0 u h4).1 h5
  refine run_loop_bind (f := heads I b q) (by decide) rfl (fun t Q' h' => ?_) h
  have ht : t.val < 8 := t.isLt
  rw [heads_succ_d h0 ht] at h'
  unfold k0_t6_body
  refine run_load_rd (k0_off32_eq t) (in_head ⟨t.val, ht⟩) Hq (run_load_rd (k0_off33_eq t) (in_k ⟨t.val, ht⟩) Hk
    (run_load_rd (k0_off34_eq t) (in_v ⟨t.val, ht⟩) Hv (run_load_rd (k0_off35_eq t) (in_wo ⟨t.val, ht⟩) Hw (run_pure ?_))))
  refine h'.trans (Entails.of_eq (congrArg Q' ?_))
  unfold dstep
  rw [show qi (bw b) = k0_pay21 (BitVec.ofNat 32 d0.val) (Scf.iv 0#32 1#32 u) from by rw [hb]; exact (pay21_eq d0 u).symm]
  rfl

theorem run_t2 {d0 : Dev nD} {v5 v7 v29 z w : BitVec 32} (h1 : ¬ k0_cond1 d0 = 1#1) (hb : b = ck d0.val) {k : FVec F S128x1024 .f32 → PP F α}
    (h : A ⊢ run c (k (heads I b q 8)) Q) :
    A ⊢ run c (Scf.Loop.for k0_t2_loop (k0_t2_ok d0 h1) (k0_pay19 (F := F)) (k0_t2_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 d0 (BitVec.ofNat 32 d0.val) v5 v7 (k0_pay13 d0) v29 z h1 w) >>= k) Q := by
  have h0 : b ≠ 0 := by rw [hb]; exact fun e => h1 ((cond1_iff d0).2 e)
  refine run_loop_bind (f := heads I b q) (by decide) rfl (fun t Q' h' => ?_) h
  have ht : t.val < 8 := t.isLt
  rw [heads_succ_w h0 ht] at h'
  unfold k0_t2_body
  rw [k0_part1_eq_skeleton]
  dsimp only [k0_part1_skel]
  refine run_bind (run_load_rd (k0_off6_eq t) (in_head ⟨t.val, ht⟩) Hq (run_load_rd ((off7_eq d0 t h1).trans (by rw [hb])) (in_kw b ⟨t.val, ht⟩) Hk
    (run_load_rd (k0_off8_eq t) (in_kg ⟨t.val, ht⟩) Hk (run_load_rd ((off9_eq d0 t h1).trans (by rw [hb])) (in_vw b ⟨t.val, ht⟩) Hv
    (run_load_rd (k0_off10_eq t) (in_vg ⟨t.val, ht⟩) Hv (run_pure (run_load_rd (k0_off11_eq t) (in_wo ⟨t.val, ht⟩) Hw (run_pure ?_))))))))
  refine h'.trans (Entails.of_eq (congrArg Q' ?_))
  unfold wstep
  have hw : bw b = BitVec.ofNat 32 d0.val := by rw [hb, bw_dev]
  rw [hw, ← pay13_eq]

theorem run_t5 {d0 : Dev nD} {v7 w : BitVec 32} (u : Fin k0_t3_loop.trips) (h2 : ¬ k0_cond2 d0 u = 1#1) (hb : b = ck (d0.val + 40 - u.val)) {k : FVec F S128x1024 .f32 → PP F α}
    (h : A ⊢ run c (k (heads I b q 8)) Q) :
    A ⊢ run c (Scf.Loop.for k0_t5_loop (k0_t5_ok d0 u h2) (k0_pay10 (F := F)) (k0_t5_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 d0 (BitVec.ofNat 32 d0.val) v7 0#32 1#32 u h2 w) >>= k) Q := by
  have h0 : b ≠ 0 := by rw [hb]; exact fun e => h2 ((cond2_iff d0 u).2 e)
  refine run_loop_bind (f := heads I b q) (by decide) rfl (fun t Q' h' => ?_) h
  have ht : t.val < 8 := t.isLt
  rw [heads_succ_w h0 ht] at h'
  unfold k0_t5_body
  rw [k0_part2_eq_skeleton]
  dsimp only [k0_part2_skel]
  refine run_bind (run_load_rd (k0_off17_eq t) (in_head ⟨t.val, ht⟩) Hq (run_load_rd ((off18_eq d0 u t h2).trans (by rw [hb])) (in_kw b ⟨t.val, ht⟩) Hk
    (run_load_rd (k0_off19_eq t) (in_kg ⟨t.val, ht⟩) Hk (run_load_rd ((off20_eq d0 u t h2).trans (by rw [hb])) (in_vw b ⟨t.val, ht⟩) Hv
    (run_load_rd (k0_off21_eq t) (in_vg ⟨t.val, ht⟩) Hv (run_pure (run_load_rd (k0_off22_eq t) (in_wo ⟨t.val, ht⟩) Hw (run_pure ?_))))))))
  refine h'.trans (Entails.of_eq (congrArg Q' ?_))
  unfold wstep
  rw [← pay8_eq d0 u b hb, ← pay9_eq d0 u b hb]
  rfl

theorem run_t7 {d0 : Dev nD} {v5 v7 v29 z w : BitVec 32} {v20 : IVec S128x2048 32} (u : Fin k0_t3_loop.trips) (h4 : k0_cond4 u = 1#1) (h5 : ¬ k0_cond5 d0 u = 1#1) (hb : b = ck (d0.val + u.val + 25)) {k : FVec F S128x1024 .f32 → PP F α}
    (h : A ⊢ run c (k (heads I b q 8)) Q) :
    A ⊢ run c (Scf.Loop.for k0_t7_loop (k0_t7_ok d0 u h4 h5) (k0_pay27 (F := F)) (k0_t7_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 d0 (BitVec.ofNat 32 d0.val) v5 v7 v20 v29 z u (Scf.iv 0#32 1#32 u) h4 h5 w) >>= k) Q := by
  have h0 : b ≠ 0 := by rw [hb]; exact fun e => h5 ((cond5_iff d0 u h4).2 e)
  refine run_loop_bind (f := heads I b q) (by decide) rfl (fun t Q' h' => ?_) h
  have ht : t.val < 8 := t.isLt
  rw [heads_succ_w h0 ht] at h'
  unfold k0_t7_body
  rw [k0_part3_eq_skeleton]
  dsimp only [k0_part3_skel]
  refine run_bind (run_load_rd (k0_off36_eq t) (in_head ⟨t.val, ht⟩) Hq (run_load_rd ((off37_eq d0 u t h4 h5).trans (by rw [hb])) (in_kw b ⟨t.val, ht⟩) Hk
    (run_load_rd (k0_off38_eq t) (in_kg ⟨t.val, ht⟩) Hk (run_load_rd ((off39_eq d0 u t h4 h5).trans (by rw [hb])) (in_vw b ⟨t.val, ht⟩) Hv
    (run_load_rd (k0_off40_eq t) (in_vg ⟨t.val, ht⟩) Hv (run_pure (run_load_rd (k0_off41_eq t) (in_wo ⟨t.val, ht⟩) Hw (run_pure ?_))))))))
  refine h'.trans (Entails.of_eq (congrArg Q' ?_))
  unfold wstep
  rw [← pay25_eq d0 u b hb, ← pay26_eq d0 u b hb]
  rfl

end Inner

end Cert.KernelIdeal.Ring
-- ==== Proof.KernelIdeal.Rows.lean ====
/- The values that travel, and the steps over rows, slots and queries. -/
module

public import proofs.«01_k».proof.Proof.KernelIdeal.Blocks

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B : sProp (MM F)}

theorem ph_ext {a b : Ph} : (a.U = b.U ∧ a.Q = b.Q ∧ a.Z = b.Z ∧ a.V = b.V ∧ a.VD = b.VD ∧ a.T = b.T ∧ a.D = b.D ∧ a.gl = b.gl ∧ a.gr = b.gr ∧ a.C = b.C) ↔ a = b := by
  cases a; cases b; simp only [Ph.mk.injEq]
instance (a b : Ph) : Decidable (a = b) := decidable_of_iff _ ph_ext

/-! ## Values that travel -/

section Vals
variable [FloatOps F] [Named F] (J : Dev nD → Inp F)

/-- What goes to the right on the `s`-th reduce-scatter hop. -/
def rsR : ℕ → Dev nD → Vec F S128x1024 .f32
  | 0, c => part (J c) (ck (c.val + 40 - 0))
  | s + 1, c => k0_pay12 (part (J c) (ck (c.val + 40 - (s + 1)))) (up (rsR s (left c)))
/-- What goes to the left on the `s`-th reduce-scatter hop. -/
def rsL : ℕ → Dev nD → Vec F S128x1024 .f32
  | 0, c => part (J c) (ck (c.val + 0 + 25))
  | s + 1, c => k0_pay29 (part (J c) (ck (c.val + (s + 1) + 25))) (up (rsL s (right c)))
/-- A device's own rows, before the neighbours' sums come in, after the first and after the second. -/
def own (c : Dev nD) : Vec F S128x1024 .f32 := part (J c) (ck c.val)
def own1 (c : Dev nD) : Vec F S128x1024 .f32 := k0_pay30 (own J c) (up (rsR J 7 (left c)))
def tot (c : Dev nD) : Vec F S128x1024 .f32 := k0_pay31 (own1 J c) (up (rsL J 6 (right c)))
/-- What the copies carry. -/
def vals : Vals F where
  rs i c := if i.val < 8 then rsR J i.val c else rsL J (i.val - 8) c
  ag k := down (k0_pay32 (tot J ⟨k.val, k.isLt⟩))
/-- What the output rows end at. -/
def finv (c : Dev nD) (o : Fin 16) : Vec F S128x1024 .f32 := if o = 0 then tot J c else k0_pay33 (up ((vals J).ag (chunk c o)))

end Vals

variable [FloatOps F] [Named F] {c : Dev nD} {α : Type} {Q : α → sProp (MM F)}
variable {v : Vals F} {fin : Dev nD → Fin 16 → Vec F S128x1024 .f32} {K : Dev nD × Ci → ℕ} {σ : Ph}

/-! ## Rows -/

/-- A program that asks a condition. -/
theorem run_dite {P : Prop} {inst : Decidable P} {p : P → PP F α} {p' : ¬P → PP F α} (h : ∀ hp, A ⊢ run c (p hp) Q) (h' : ∀ hp, A ⊢ run c (p' hp) Q) : A ⊢ run c (dite P p p') Q := by
  by_cases hp : P
  · rw [dif_pos hp]; exact h hp
  · rw [dif_neg hp]; exact h' hp

/-- A store with nothing after it. -/
theorem run_st {Q : PUnit → sProp (MM F)} {s : Shape} {e : EltTy} {cs : CoreSpace} {m : Memref sig .tc cs s e} {r : Rect s} {hr} {w : r.shape.Idx → Elt F e} {hx} {hm}
    (hA : A ⊢ iprop(someAt c (m.slice r hr) ∗ B)) (h : iprop(owns (c : Thread nD τ) (m.slice r hr) fullShare w ∗ B) ⊢ Q ⟨⟩) :
    A ⊢ run c (Prog.lift (.store m r w Finset.univ hx hm) : PP F PUnit) Q := by
  have h1 := run_store (hx := hx) (hm := hm) (w := w) (k := pure) hA (run_pure h)
  rw [Prog.bind_pure] at h1
  exact h1

/-- The load that goes before a store of rows. -/
theorem run_row_ld {k : Fin 16} {off : Fin 2 → ℕ} (ho : off = ![128 * k.val, 0]) {hb : ∀ a, off a + S128x1024.size a ≤ S2048x1024.size a}
    {hl} {kk : Vec F S128x1024 .f32 → PP F α} (hA : Lends A (someAt c (rowM k))) (h : ∀ X, A ⊢ run c (kk X) Q) :
    A ⊢ run c (Prog.lift (.load outM (Rect.unit (s := S2048x1024) off S128x1024.size hb).toLoadRect hl) >>= kk) Q := by
  subst ho
  exact run_load_any (hr := fun _ => rfl) hA h

/-- A load of rows whose contents are told. -/
theorem run_row_rd {k : Fin 16} {off : Fin 2 → ℕ} (ho : off = ![128 * k.val, 0]) {hb : ∀ a, off a + S128x1024.size a ≤ S2048x1024.size a}
    {X : Vec F S128x1024 .f32} {hl} {kk : Vec F S128x1024 .f32 → PP F α} (hA : Lends A (owns (c : Thread nD τ) (rowM k) fullShare X)) (h : A ⊢ run c (kk X) Q) :
    A ⊢ run c (Prog.lift (.load outM (Rect.unit (s := S2048x1024) off S128x1024.size hb).toLoadRect hl) >>= kk) Q := by
  subst ho
  exact run_load_part (hr := fun _ => rfl) hA h

/-- A load of a slot. -/
theorem run_slot_rd {j : Fin 15} {off : Fin 3 → ℕ} (ho : off = ![j.val, 0, 0]) {hb : ∀ a, off a + S1x128x1024.size a ≤ S15x128x1024.size a}
    {Y : Vec F S128x1024 .f32} {hl} {kk : Vec F S1x128x1024 .f32 → PP F α} (hA : Lends A (owns (c : Thread nD τ) (slotM j) fullShare Y)) (h : A ⊢ run c (kk (up Y)) Q) :
    A ⊢ run c (Prog.lift (.load commM (Rect.unit (s := S15x128x1024) off S1x128x1024.size hb).toLoadRect hl) >>= kk) Q := by
  subst ho
  exact run_load_part (hr := fun _ => rfl) (hA.trans (lends_unsq (h := squeezes_S1x128x1024_S128x1024))) h

/-- A load of a gathered chunk. -/
theorem run_chunk_rd {k : Fin 16} {off : Fin 3 → ℕ} (ho : off = ![k.val, 0, 0]) {hb : ∀ a, off a + S1x128x1024.size a ≤ S16x128x1024.size a}
    {p : PosShare TreeShare} {Y : Vec F S128x1024 .bf16} {hl} {kk : Vec F S1x128x1024 .bf16 → PP F α} (hA : Lends A (owns (c : Thread nD τ) (gslotM k) p Y)) (h : A ⊢ run c (kk (up Y)) Q) :
    A ⊢ run c (Prog.lift (.load gatM (Rect.unit (s := S16x128x1024) off S1x128x1024.size hb).toLoadRect hl) >>= kk) Q := by
  subst ho
  exact run_load_part (hr := fun _ => rfl) (hA.trans (lends_unsq (h := squeezes_S1x128x1024_S128x1024))) h

/-- A store over rows. -/
theorem run_row_st {Q : PUnit → sProp (MM F)} {k : Fin 16} {off : Fin 2 → ℕ} (ho : off = ![128 * k.val, 0]) {hb : ∀ a, off a + S128x1024.size a ≤ S2048x1024.size a}
    {w w' : Vec F S128x1024 .f32} {hx hm} (hw : w = w') (hA : A ⊢ iprop(someAt c (rowM k) ∗ B)) (h : iprop(owns (c : Thread nD τ) (rowM k) fullShare w' ∗ B) ⊢ Q ⟨⟩) :
    A ⊢ run c (Prog.lift (.store outM (Rect.unit (s := S2048x1024) off S128x1024.size hb) w Finset.univ hx hm) : PP F PUnit) Q := by
  subst ho hw
  exact run_st (hr := fun _ => rfl) hA h
theorem some_row {k : Fin 16} {X : Vec F S128x1024 .f32} : (owns (c : Thread nD τ) (rowM k) fullShare X : sProp (MM F)) ⊢ someAt c (rowM k) := by
  iintro H; iapply (ownsSat_intro _ _ _ (X := X) trivial); iexact H

/-! ## The buffer of queries -/

abbrev qR (hb : ∀ a, (![0, 0] : Fin 2 → ℕ) a + S128x1024.size a ≤ S128x1024.size a) : Rect S128x1024 := Rect.unit (s := S128x1024) ![0, 0] S128x1024.size hb
theorem qR_emb (hb) (x : S128x1024.Idx) : (qR hb).emb x = x := by
  funext a; apply Fin.ext
  show (![0, 0] : Fin 2 → ℕ) a + 1 * (x a).val = (x a).val
  fin_cases a <;> simp
theorem q_set (hb hr) : (qM.slice (qR hb) hr).view.set = qM.view.set := by
  refine Finset.Subset.antisymm (set_slice_subset _ _) fun i hi => ?_
  obtain ⟨x, -, rfl⟩ := Finset.mem_map.mp hi
  exact Finset.mem_map.mpr ⟨x, Finset.mem_univ _, congrArg qM.view.emb (qR_emb hb x)⟩
theorem q_whole {hb hr} {w : Vec F S128x1024 .bf16} : (owns (c : Thread nD τ) (qM.slice (qR hb) hr) fullShare w : sProp (MM F)) ⊢ owns (c : Thread nD τ) qM fullShare w := by
  unfold owns
  rw [q_set]
  iintro ⟨%f, %hf, H⟩
  iexists f; isplitr; swap
  · iexact H
  ipureintro; funext x
  have := congrFun hf x
  rw [← this]
  exact congrArg (qM.view.read (Elt F) f) (qR_emb hb x).symm
theorem q_part {hb hr} {w : Vec F S128x1024 .bf16} : (owns (c : Thread nD τ) qM fullShare w : sProp (MM F)) ⊢ someAt c (qM.slice (qR hb) hr) := by
  unfold owns someAt ownsSat
  rw [q_set]
  iintro ⟨%f, %hf, H⟩
  iexists f; isplitr; · ipureintro; trivial
  iexact H

/-- The store of a block's queries. -/
theorem run_q_st {Q : PUnit → sProp (MM F)} {q w w' : Vec F S128x1024 .bf16} {hb : ∀ a, (![0, 0] : Fin 2 → ℕ) a + S128x1024.size a ≤ S128x1024.size a} {hx hm} (hw : w = w')
    (hA : A ⊢ iprop(owns (c : Thread nD τ) qM fullShare q ∗ B)) (h : iprop(owns (c : Thread nD τ) qM fullShare w' ∗ B) ⊢ Q ⟨⟩) :
    A ⊢ run c (Prog.lift (.store qM (Rect.unit (s := S128x1024) ![0, 0] S128x1024.size hb) w Finset.univ hx hm) : PP F PUnit) Q := by
  subst hw
  refine hA.trans (run_st (hr := fun _ => rfl) (B := B) ?_ (BIBase.Entails.trans ?_ h))
  · iintro ⟨H, HB⟩; isplitl [H]; · iapply q_part; iexact H
    iexact HB
  · iintro ⟨H, HB⟩; isplitl [H]; · iapply (q_whole (hr := fun _ => rfl)); iexact H
    iexact HB

end Cert.KernelIdeal.Ring
-- ==== Proof.KernelIdeal.Reduce.lean ====
/- The exchange of the partial sums. -/
module

public import proofs.«01_k».proof.Proof.KernelIdeal.Rows

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {fin : Dev nD → Fin 16 → Vec F S128x1024 .f32} {K : Dev nD × Ci → ℕ} {σ : Ph} {q : Vec F S128x1024 .bf16}

/-- The operands in their windows. -/
def Ops (c : Dev nD) (I : Inp F) : sProp (MM F) :=
  iprop(owns (c : Thread nD τ) (stage0_0 0) fullShare I.x ∗ owns (c : Thread nD τ) (stage0_1 0) fullShare I.wq ∗ owns (c : Thread nD τ) (stage0_2 0) fullShare I.k
    ∗ owns (c : Thread nD τ) (stage0_3 0) fullShare I.va ∗ owns (c : Thread nD τ) (stage0_4 0) fullShare I.wo)

section Lend
variable {I : Inp F}
theorem lx : Lends (Ops c I) (owns (c : Thread nD τ) (stage0_0 0) fullShare I.x) := (Lends.self _).left
theorem lwq : Lends (Ops c I) (owns (c : Thread nD τ) (stage0_1 0) fullShare I.wq) := (Lends.self _).left.right
theorem lk : Lends (Ops c I) (owns (c : Thread nD τ) (stage0_2 0) fullShare I.k) := (Lends.self _).left.right.right
theorem lva : Lends (Ops c I) (owns (c : Thread nD τ) (stage0_3 0) fullShare I.va) := (Lends.self _).left.right.right.right
theorem lwo : Lends (Ops c I) (owns (c : Thread nD τ) (stage0_4 0) fullShare I.wo) := (Lends.self _).right.right.right.right
end Lend

/-! ## The stages of the reduce-scatter -/

/-- With `nR`, `nL` hops sent to the right and to the left, and `mR`, `mL` received. -/
def phR (nR nL mR mL : ℕ) : Ph where
  U := Finset.univ.filter fun i : Fin 30 => (nR ≤ i.val ∧ i.val < 8) ∨ (8 + nL ≤ i.val ∧ i.val < 15) ∨ 15 ≤ i.val
  Q := Finset.univ.filter fun i : Fin 30 => i.val < nR ∨ (8 ≤ i.val ∧ i.val < 8 + nL)
  Z := ∅
  V := Finset.univ.filter fun i : Fin 30 => (mR ≤ i.val ∧ i.val < 8) ∨ 8 + mL ≤ i.val
  VD := Finset.univ.filter fun i : Fin 30 => i.val < mR ∨ (8 ≤ i.val ∧ i.val < 8 + mL)
  T := Finset.univ.filter fun o : Fin 16 => (0 < o.val ∧ o.val + nR < 9) ∨ 9 + nL ≤ o.val
  D := ∅
  gl := ∅
  gr := ∅
  C := Finset.univ.filter fun j : Fin 15 => j.val < mR ∨ (8 ≤ j.val ∧ j.val < 8 + mL)
/-- Where the loop stands before trip `s`. -/
def phT (s : ℕ) : Ph := phR s (min s 7) (s - 1) (min s 7 - 1)

attribute [local irreducible] k0_cond1 k0_cond2 k0_cond3 k0_cond4 k0_cond5 k0_cond6 k0_cond7

/-! ## What the conditions of the loop say -/

theorem cond3_iff : ∀ u : Fin k0_t3_loop.trips, k0_cond3 u = 1#1 ↔ 0 < u.val := by decide +kernel
theorem cond4_iff : ∀ u : Fin k0_t3_loop.trips, k0_cond4 u = 1#1 ↔ u.val < 7 := by decide +kernel
theorem cond6_iff : ∀ u : Fin k0_t3_loop.trips, k0_cond6 u = 1#1 ↔ 0 < u.val ∧ u.val < 7 := by decide +kernel
theorem cond7_iff : ∀ u : Fin k0_t3_loop.trips, k0_cond7 u = 1#1 ↔ u.val < 7 := by decide +kernel
theorem off23_eq : ∀ u : Fin k0_t3_loop.trips, 0 < u.val → k0_off23 u = ![u.val - 1] := by decide +kernel
theorem off24_eq : ∀ u : Fin k0_t3_loop.trips, 0 < u.val → k0_off24 u = ![u.val - 1, 0, 0] := by decide +kernel
theorem off27_eq : ∀ u : Fin k0_t3_loop.trips, 0 < u.val → k0_off27 u = ![u.val - 1, 0, 0] := by decide +kernel

/-- A reduce-scatter hop's arrival, added into rows. -/
theorem run_recv_add {v : Vals F} (i : Fin 30) (hi : i.val < 15) {sh : Shape} {e : EltTy} {m : Memref sig .tc .vmem sh e} {k : Fin 16} {off : Fin 2 → ℕ} {off' off'' : Fin 3 → ℕ} {sR : DmaSem sig}
    (hr : sR = rcvD i) (ho : off = ![128 * k.val, 0]) (ho' : off' = ![i.val, 0, 0]) (ho'' : off'' = ![i.val, 0, 0]) (hV : i ∈ σ.V) (hVD : i ∉ σ.VD) (hw : ∀ j ∈ σ.U, rank i < rank j) (hC : ⟨i.val, hi⟩ ∉ σ.C)
    {X : Vec F S128x1024 .f32} {pay : Vec F S128x1024 .f32 → Vec F S1x128x1024 .f32 → Vec F S128x1024 .f32}
    {hb : ∀ a, off a + S128x1024.size a ≤ S2048x1024.size a} {hb' : ∀ a, off' a + S1x128x1024.size a ≤ S15x128x1024.size a} {hb'' : ∀ a, off'' a + S1x128x1024.size a ≤ S15x128x1024.size a}
    {h2} {hsrc : m.view.WordExact} {hdst} {hl hl' hl'' hx hm} {kk : PUnit → PP F α}
    (hA : A ⊢ iprop(owns (c : Thread nD τ) (rowM k) fullShare X ∗ St v fin K c σ ∗ B))
    (h : iprop(owns (c : Thread nD τ) (rowM k) fullShare (pay X (up (v.rs i (src i c)))) ∗ St v fin K c {σ with V := σ.V.erase i, VD := insert i σ.VD, C := insert ⟨i.val, hi⟩ σ.C} ∗ B) ⊢ run c (kk ⟨⟩) Q) :
    A ⊢ run c (Prog.lift (.waitDma2 sR m ((commM.slice (Rect.unit (s := S15x128x1024) off' S1x128x1024.size hb') h2).squeeze S128x1024 squeezes_S1x128x1024_S128x1024) hsrc hdst) >>= fun _ =>
      Prog.lift (.load outM (Rect.unit (s := S2048x1024) off S128x1024.size hb).toLoadRect hl) >>= fun a =>
      Prog.lift (.load commM (Rect.unit (s := S15x128x1024) off'' S1x128x1024.size hb'').toLoadRect hl') >>= fun b =>
      Prog.lift (.load outM (Rect.unit (s := S2048x1024) off S128x1024.size hb).toLoadRect hl'') >>= fun _ =>
      Prog.lift (.store outM (Rect.unit (s := S2048x1024) off S128x1024.size hb) (pay a b) Finset.univ hx hm) >>= kk) Q := by
  refine run_recv_rs (v := v) (fin := fin) (K := K) i hi (B := iprop(owns (c : Thread nD τ) (rowM k) fullShare X ∗ B)) hr ho' hV hVD hw (hA.trans ?_) ?_
  · iintro ⟨HR, HS, HB⟩
    isplitl [HS]; · iexact HS
    isplitl [HR]; · iexact HR
    iexact HB
  refine run_row_rd ho (X := X) (Lends.self _).left.right.right (run_slot_rd (j := ⟨i.val, hi⟩) (Y := v.rs i (src i c)) ho'' (Lends.self _).left (run_row_rd ho (X := X) (Lends.self _).left.right.right
    (run_bind (run_row_st ho (w' := pay X (up (v.rs i (src i c)))) rfl (B := iprop(owns (c : Thread nD τ) (slotM ⟨i.val, hi⟩) fullShare (v.rs i (src i c)) ∗ St v fin K c {σ with V := σ.V.erase i, VD := insert i σ.VD} ∗ B)) ?_ (BIBase.Entails.trans ?_ h)))))
  · iintro ⟨HY, HS, HR, HB⟩
    isplitl [HR]; · iapply some_row; iexact HR
    isplitl [HY]; · iexact HY
    isplitl [HS]; · iexact HS
    iexact HB
  · iintro ⟨HR, HY, HS, HB⟩
    isplitl [HR]; · iexact HR
    isplitl [HY HS]
    · iapply (put_slot (σ := {σ with V := σ.V.erase i, VD := insert i σ.VD}) hC)
      isplitl [HY]; · iapply (ownsSat_intro _ _ _ (X := v.rs i (src i c)) trivial); iexact HY
      iexact HS
    iexact HB

/-! ## One trip -/

/-- A device's place in the loop. -/
abbrev Cx (J : Dev nD → Inp F) (fin : Dev nD → Fin 16 → Vec F S128x1024 .f32) (K : Dev nD × Ci → ℕ) (c : Dev nD) (σ : Ph) (q : Vec F S128x1024 .bf16) (X : sProp (MM F)) : sProp (MM F) :=
  iprop(owns (c : Thread nD τ) qM fullShare q ∗ Ops c (J c) ∗ St (vals J) fin K c σ ∗ X)

/-- The hop to the right that is waited for in trip `u`. -/
def rI (u : Fin k0_t3_loop.trips) : Fin 30 := ⟨u.val - 1, by have : u.val < 8 := u.isLt; omega⟩
theorem rI_lt (u : Fin k0_t3_loop.trips) : (rI u).val < 15 := by have : u.val < 8 := u.isLt; unfold rI; show u.val - 1 < 15; omega
theorem src_right : ∀ (i : Fin 30) (c : Dev nD), i.val < 8 → src i c = left c := by decide +kernel
theorem src_left : ∀ (i : Fin 30) (c : Dev nD), 8 ≤ i.val → i.val < 15 → src i c = right c := by decide +kernel
theorem rsR_step {u : Fin k0_t3_loop.trips} (hu : 0 < u.val) :
    rsR J u.val c = k0_pay12 (part (J c) (ck (c.val + 40 - u.val))) (up ((vals J).rs (rI u) (src (rI u) c))) := by
  have h8 : u.val < 8 := u.isLt
  have hl : (rI u).val < 8 := by unfold rI; show u.val - 1 < 8; omega
  rw [src_right _ _ hl]
  unfold vals; dsimp only; rw [if_pos hl]
  show rsR J u.val c = k0_pay12 _ (up (rsR J (u.val - 1) (left c)))
  obtain ⟨n, hn⟩ := Nat.exists_eq_succ_of_ne_zero (Nat.pos_iff_ne_zero.mp hu)
  rw [hn]; rfl

/-- The rows that the trip's hop to the right sends, after the device's share is in. -/
theorem run_part4 (u : Fin k0_t3_loop.trips) {w7 : BitVec 32} {k : (Σ' (_ : BitVec 32), BitVec 32) → sProp (MM F)}
    (h : ∀ q', iprop(owns (c : Thread nD τ) (rowM (ck (c.val + 40 - u.val))) fullShare (rsR J u.val c)
        ∗ Cx J fin K c {phR u.val (min u.val 7) u.val (min u.val 7 - 1) with T := (phT u.val).T.erase (ck (8 - u.val))} q' X) ⊢ k ⟨Scf.iv 0#32 1#32 u, 1#32⟩) :
    Cx J fin K c (phT u.val) q X ⊢ run c (k0_part4 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w7 0#32 1#32 u) k := by
  rw [k0_part4_eq_skeleton]
  dsimp only [k0_part4_skel]
  have e : ck (c.val + 40 - u.val) = chunk c (ck (8 - u.val)) := (show ∀ (c : Dev nD) (u : Fin k0_t3_loop.trips), ck (c.val + 40 - u.val) = chunk c (ck (8 - u.val)) by decide +kernel) c u
  refine run_load_rd (k0_off12_eq c u) (row_inb (ck (c.val + 40 - u.val))) lx.left.right (run_load_rd rfl inb_S1024x1024_S1024x1024_0_0 lwq.left.right
    (run_load_rd rfl inb_S128x1024_S128x1024_0_0 (Lends.self _).left (run_bind (run_q_st (w' := qv (J c) (ck (c.val + 40 - u.val))) rfl BIBase.Entails.refl ?_))))
  have hrow : Cx J fin K c (phT u.val) (qv (J c) (ck (c.val + 40 - u.val))) X ⊢ iprop(someAt c (rowM (ck (c.val + 40 - u.val)))
      ∗ Cx J fin K c {phT u.val with T := (phT u.val).T.erase (ck (8 - u.val))} (qv (J c) (ck (c.val + 40 - u.val))) X) := by
    rw [e]
    iintro ⟨Hq, HO, HS, HX⟩
    ihave HS := (take_row (o := ck (8 - u.val)) ((show ∀ u : Fin k0_t3_loop.trips, ck (8 - u.val) ∈ (phT u.val).T by decide +kernel) u)) $$ HS
    icases HS with ⟨HR, HS⟩
    isplitl [HR]; · iexact HR
    isplitl [Hq]; · iexact Hq
    isplitl [HO]; · iexact HO
    isplitl [HS]; · iexact HS
    iexact HX
  have hfin : iprop(owns (c : Thread nD τ) (rowM (ck (c.val + 40 - u.val))) fullShare (part (J c) (ck (c.val + 40 - u.val)))
      ∗ Cx J fin K c {phT u.val with T := (phT u.val).T.erase (ck (8 - u.val))} (qv (J c) (ck (c.val + 40 - u.val))) X)
      ⊢ run c (if h3 : k0_cond3 u = 1#1 then do
          Prog.lift (.waitDma2 ((SemArray.slice cc0_scratch4 (Rect.unit (s := S30) (k0_off23 u) S1.size (k0_off23_inb u h3))).squeeze S_ squeezes_S1_S_).sem
            (outM.slice (Rect.unit (s := S2048x1024) (k0_off25 c u) S128x1024.size (k0_off25_inb c u h3)) (fun _ => rfl))
            ((commM.slice (Rect.unit (s := S15x128x1024) (k0_off24 u) S1x128x1024.size (k0_off24_inb u h3)) (fun _ => rfl)).squeeze S128x1024 squeezes_S1x128x1024_S128x1024)
            (View.wordExact_bits rfl) ((View.wordExact_bits rfl).reshape _ _))
          let v945 : Vec F S128x1024 .f32 ← Prog.lift (.load outM (Rect.unit (s := S2048x1024) (k0_off26 c u) S128x1024.size (k0_off26_inb c u h3)).toLoadRect (View.loadsAt_vmem h_S128x1024))
          let v949 : Vec F S1x128x1024 .f32 ← Prog.lift (.load commM (Rect.unit (s := S15x128x1024) (k0_off27 u) S1x128x1024.size (k0_off27_inb u h3)).toLoadRect (View.loadsAt_vmem h_S1x128x1024))
          let _ : Vec F S128x1024 .f32 ← Prog.lift (.load outM (Rect.unit (s := S2048x1024) (k0_off26 c u) S128x1024.size (k0_off26_inb c u h3)).toLoadRect (View.loadsAt_vmem h_S128x1024))
          Prog.lift (.store outM (Rect.unit (s := S2048x1024) (k0_off26 c u) S128x1024.size (k0_off26_inb c u h3)) (k0_pay12 v945 v949) Finset.univ (View.stores_vmem_bits_univ h_S128x1024 rfl) (.inl rfl))
          pure ⟨Scf.iv 0#32 1#32 u, 1#32⟩
        else pure ⟨Scf.iv 0#32 1#32 u, 1#32⟩ : PP F (Σ' (_ : BitVec 32), BitVec 32)) k := by
    refine run_dite (fun h3 => ?_) (fun h3 => run_pure (BIBase.Entails.trans ?_ (h (qv (J c) (ck (c.val + 40 - u.val))))))
    · have hu := (cond3_iff u).1 h3
      have hx : rsR J u.val c = k0_pay12 (part (J c) (ck (c.val + 40 - u.val))) (up ((vals J).rs (rI u) (src (rI u) c))) := rsR_step hu
      rw [hx] at h
      refine run_recv_add (v := vals J) (fin := fin) (K := K) (X := part (J c) (ck (c.val + 40 - u.val))) (pay := k0_pay12) (rI u) (rI_lt u) (k := ck (c.val + 40 - u.val)) (σ := {phT u.val with T := (phT u.val).T.erase (ck (8 - u.val))})
        (B := iprop(owns (c : Thread nD τ) qM fullShare (qv (J c) (ck (c.val + 40 - u.val))) ∗ Ops c (J c) ∗ X)) (sem_rcv _ (off23_eq u hu) _) (k0_off26_eq c u) (off24_eq u hu) (off27_eq u hu)
        ((show ∀ u : Fin k0_t3_loop.trips, 0 < u.val → rI u ∈ (phT u.val).V by decide +kernel) u hu)
        ((show ∀ u : Fin k0_t3_loop.trips, 0 < u.val → rI u ∉ (phT u.val).VD by decide +kernel) u hu)
        ((show ∀ u : Fin k0_t3_loop.trips, 0 < u.val → ∀ j ∈ (phT u.val).U, rank (rI u) < rank j by decide +kernel) u hu)
        ((show ∀ u : Fin k0_t3_loop.trips, 0 < u.val → ⟨(rI u).val, rI_lt u⟩ ∉ (phT u.val).C by decide +kernel) u hu)
        ?_ (run_pure (BIBase.Entails.trans ?_ (h (qv (J c) (ck (c.val + 40 - u.val))))))
      · iintro ⟨HR, Hq, HO, HS, HX⟩
        isplitl [HR]; · iexact HR
        isplitl [HS]; · iexact HS
        isplitl [Hq]; · iexact Hq
        isplitl [HO]; · iexact HO
        iexact HX
      · have hσ : ({phR u.val (min u.val 7) u.val (min u.val 7 - 1) with T := (phT u.val).T.erase (ck (8 - u.val))} : Ph)
            = ({phT u.val with T := (phT u.val).T.erase (ck (8 - u.val)), V := (phT u.val).V.erase (rI u), VD := insert (rI u) (phT u.val).VD, C := insert ⟨(rI u).val, rI_lt u⟩ (phT u.val).C} : Ph) :=
          (show ∀ u : Fin k0_t3_loop.trips, 0 < u.val → ({phR u.val (min u.val 7) u.val (min u.val 7 - 1) with T := (phT u.val).T.erase (ck (8 - u.val))} : Ph)
            = ({phT u.val with T := (phT u.val).T.erase (ck (8 - u.val)), V := (phT u.val).V.erase (rI u), VD := insert (rI u) (phT u.val).VD, C := insert ⟨(rI u).val, rI_lt u⟩ (phT u.val).C} : Ph) by decide +kernel) u hu
        rw [hσ]
        iintro ⟨HR, HS, Hq, HO, HX⟩
        isplitl [HR]; · iexact HR
        isplitl [Hq]; · iexact Hq
        isplitl [HO]; · iexact HO
        isplitl [HS]; · iexact HS
        iexact HX
    · have hu : u = ⟨0, by decide⟩ := (show ∀ u : Fin k0_t3_loop.trips, ¬ 0 < u.val → u = ⟨0, by decide⟩ by decide +kernel) u (fun hu => h3 ((cond3_iff u).2 hu))
      subst hu
      exact BIBase.Entails.refl
  have run_hrow : ∀ {p : PP F (Σ' (_ : BitVec 32), BitVec 32)}, _ → _ := fun {p} h => BIBase.Entails.trans (R := run c p k) hrow h
  refine run_dite (fun h2 => ?_) (fun h2 => ?_)
  · refine run_t4 (q := qv (J c) (ck (c.val + 40 - u.val))) (Lends.self _).left lk.left.right lva.left.right lwo.left.right u h2 rfl (run_pure_bind ?_)
    exact run_hrow (run_row_ld (k0_off12_eq c u) (Lends.self _).left fun _ => run_bind (run_row_st (k0_off12_eq c u) rfl BIBase.Entails.refl hfin))
  · refine run_t5 (q := qv (J c) (ck (c.val + 40 - u.val))) (Lends.self _).left lk.left.right lva.left.right lwo.left.right u h2 rfl (run_pure_bind ?_)
    exact run_hrow (run_row_ld (k0_off12_eq c u) (Lends.self _).left fun _ => run_bind (run_row_st (k0_off12_eq c u) rfl BIBase.Entails.refl hfin))

/-- The hops to the right and to the left that trip `u` sends, and the one to the left that it waits for. -/
def sI (u : Fin k0_t3_loop.trips) : Fin 30 := ⟨u.val, by have : u.val < 8 := u.isLt; omega⟩
def tI (u : Fin k0_t3_loop.trips) : Fin 30 := ⟨u.val + 8, by have : u.val < 8 := u.isLt; omega⟩
def lI (u : Fin k0_t3_loop.trips) : Fin 30 := ⟨u.val + 7, by have : u.val < 8 := u.isLt; omega⟩
theorem rsL_step {u : Fin k0_t3_loop.trips} (hu : 0 < u.val) (hu' : u.val < 7) :
    rsL J u.val c = k0_pay29 (part (J c) (ck (c.val + u.val + 25))) (up ((vals J).rs (lI u) (src (lI u) c))) := by
  have hl : ¬ (lI u).val < 8 := by unfold lI; show ¬ u.val + 7 < 8; omega
  rw [src_left _ _ (by unfold lI; show 8 ≤ u.val + 7; omega) (by unfold lI; show u.val + 7 < 15; omega)]
  unfold vals; dsimp only; rw [if_neg hl]
  show rsL J u.val c = k0_pay29 _ (up (rsL J (u.val + 7 - 8) (right c)))
  obtain ⟨n, hn⟩ := Nat.exists_eq_succ_of_ne_zero (Nat.pos_iff_ne_zero.mp hu)
  rw [hn, show n.succ + 7 - 8 = n by omega]; rfl
/-- After the hop to the right of trip `u`. -/
abbrev phA (u : Fin k0_t3_loop.trips) : Ph := phR (u.val + 1) (min u.val 7) u.val (min u.val 7 - 1)
theorem phA_eq : ∀ u : Fin k0_t3_loop.trips, phA u = {phR u.val (min u.val 7) u.val (min u.val 7 - 1) with
    T := (phT u.val).T.erase (ck (8 - u.val)), U := (phR u.val (min u.val 7) u.val (min u.val 7 - 1)).U.erase (sI u), Q := insert (sI u) (phR u.val (min u.val 7) u.val (min u.val 7 - 1)).Q} := by
  decide +kernel

/-- The rest of a trip that still has a hop to the left to send, once the device's share is in the rows. -/
theorem run_tail (u : Fin k0_t3_loop.trips) (hu7 : u.val < 7) {k : Unit → sProp (MM F)} (h : ∀ q', Cx J fin K c (phT (u.val + 1)) q' X ⊢ k ()) {q'} :
    iprop(owns (c : Thread nD τ) (rowM (ck (c.val + u.val + 25))) fullShare (part (J c) (ck (c.val + u.val + 25))) ∗ Cx J fin K c {phA u with T := (phA u).T.erase (ck (u.val + 9))} q' X)
      ⊢ run c
      (if h6 : k0_cond6 u = 1#1 then do
        Prog.lift (.waitDma2 ((cc0_scratch4.slice (Rect.unit (s := S30) (k0_off42 u) S1.size (k0_off42_inb u h6))).squeeze S_ squeezes_S1_S_).sem
          (outM.slice (Rect.unit (s := S2048x1024) (k0_off44 c u) S128x1024.size (k0_off44_inb c u h6)) (fun _ => rfl))
          ((commM.slice (Rect.unit (s := S15x128x1024) (k0_off43 u) S1x128x1024.size (k0_off43_inb u h6)) (fun _ => rfl)).squeeze S128x1024 squeezes_S1x128x1024_S128x1024)
          (View.wordExact_bits rfl) ((View.wordExact_bits rfl).reshape _ _))
        let a : Vec F S128x1024 .f32 ← Prog.lift (.load outM (Rect.unit (s := S2048x1024) (k0_off45 c u) S128x1024.size (k0_off45_inb c u h6)).toLoadRect (View.loadsAt_vmem h_S128x1024))
        let b : Vec F S1x128x1024 .f32 ← Prog.lift (.load commM (Rect.unit (s := S15x128x1024) (k0_off46 u) S1x128x1024.size (k0_off46_inb u h6)).toLoadRect (View.loadsAt_vmem h_S1x128x1024))
        let _ : Vec F S128x1024 .f32 ← Prog.lift (.load outM (Rect.unit (s := S2048x1024) (k0_off45 c u) S128x1024.size (k0_off45_inb c u h6)).toLoadRect (View.loadsAt_vmem h_S128x1024))
        Prog.lift (.store outM (Rect.unit (s := S2048x1024) (k0_off45 c u) S128x1024.size (k0_off45_inb c u h6)) (k0_pay29 a b) Finset.univ (View.stores_vmem_bits_univ h_S128x1024 rfl) (.inl rfl))
        if h7 : k0_cond7 u = 1#1 then do
            Prog.lift (.enqueueDma (outM.slice (Rect.unit (s := S2048x1024) (k0_off49 c u) S128x1024.size (k0_off49_inb c u h7)) (fun _ => rfl))
              (.remote (Dev.tc (⟨k0_dev4 c, k0_dev4_lt c u h7⟩ : Dev nD)) ((commM.slice (Rect.unit (s := S15x128x1024) (k0_off48 u) S1x128x1024.size (k0_off48_inb u h7)) (fun _ => rfl)).squeeze S128x1024 squeezes_S1x128x1024_S128x1024)
                (.dma ((cc0_scratch3.slice (Rect.unit (s := S30) (k0_off47 u) S1.size (k0_off47_inb u h7))).squeeze S_ squeezes_S1_S_).sem))
              (.dma ((cc0_scratch4.slice (Rect.unit (s := S30) (k0_off47 u) S1.size (k0_off47_inb u h7))).squeeze S_ squeezes_S1_S_).sem) (View.wordExact_bits rfl) ((View.wordExact_bits rfl).reshape _ _) ⟨⟨rfl, Or.inl rfl⟩, trivial⟩)
            pure ()
          else pure ()
      else
        if h7 : k0_cond7 u = 1#1 then do
            Prog.lift (.enqueueDma (outM.slice (Rect.unit (s := S2048x1024) (k0_off49 c u) S128x1024.size (k0_off49_inb c u h7)) (fun _ => rfl))
              (.remote (Dev.tc (⟨k0_dev4 c, k0_dev4_lt c u h7⟩ : Dev nD)) ((commM.slice (Rect.unit (s := S15x128x1024) (k0_off48 u) S1x128x1024.size (k0_off48_inb u h7)) (fun _ => rfl)).squeeze S128x1024 squeezes_S1x128x1024_S128x1024)
                (.dma ((cc0_scratch3.slice (Rect.unit (s := S30) (k0_off47 u) S1.size (k0_off47_inb u h7))).squeeze S_ squeezes_S1_S_).sem))
              (.dma ((cc0_scratch4.slice (Rect.unit (s := S30) (k0_off47 u) S1.size (k0_off47_inb u h7))).squeeze S_ squeezes_S1_S_).sem) (View.wordExact_bits rfl) ((View.wordExact_bits rfl).reshape _ _) ⟨⟨rfl, Or.inl rfl⟩, trivial⟩)
            pure ()
          else pure () : PP F Unit) k := by
  have hsend : ∀ {A : sProp (MM F)}, (A ⊢ iprop(owns (c : Thread nD τ) (rowM (ck (c.val + u.val + 25))) fullShare (rsL J u.val c)
      ∗ Cx J fin K c {phA u with T := (phA u).T.erase (ck (u.val + 9)), V := (phT (u.val + 1)).V, VD := (phT (u.val + 1)).VD, C := (phT (u.val + 1)).C} q' X)) → A ⊢ run c
      (if h7 : k0_cond7 u = 1#1 then do
        Prog.lift (.enqueueDma (outM.slice (Rect.unit (s := S2048x1024) (k0_off49 c u) S128x1024.size (k0_off49_inb c u h7)) (fun _ => rfl))
          (.remote (Dev.tc (⟨k0_dev4 c, k0_dev4_lt c u h7⟩ : Dev nD)) ((commM.slice (Rect.unit (s := S15x128x1024) (k0_off48 u) S1x128x1024.size (k0_off48_inb u h7)) (fun _ => rfl)).squeeze S128x1024 squeezes_S1x128x1024_S128x1024)
            (.dma ((cc0_scratch3.slice (Rect.unit (s := S30) (k0_off47 u) S1.size (k0_off47_inb u h7))).squeeze S_ squeezes_S1_S_).sem))
          (.dma ((cc0_scratch4.slice (Rect.unit (s := S30) (k0_off47 u) S1.size (k0_off47_inb u h7))).squeeze S_ squeezes_S1_S_).sem) (View.wordExact_bits rfl) ((View.wordExact_bits rfl).reshape _ _) ⟨⟨rfl, Or.inl rfl⟩, trivial⟩)
        pure ()
      else pure () : PP F Unit) k := by
    intro A hA
    refine run_dite (fun h7 => ?_) (fun h7 => absurd ((cond7_iff u).2 hu7) h7)
    have hrs : (vals J).rs (tI u) c = rsL J u.val c := by
      unfold vals tI; dsimp only; rw [if_neg (by omega), show u.val + 8 - 8 = u.val by omega]
    have hch : rsChunk (tI u) c = ck (c.val + u.val + 25) := (show ∀ (c : Dev nD) (u : Fin k0_t3_loop.trips), u.val < 7 → rsChunk (tI u) c = ck (c.val + u.val + 25) by decide +kernel) c u hu7
    rw [← hrs, ← hch] at hA
    refine run_send_rs (v := vals J) (fin := fin) (K := K) (tI u) (by unfold tI; show u.val + 8 < 15; omega) (B := iprop(owns (c : Thread nD τ) qM fullShare q' ∗ Ops c (J c) ∗ X))
      (σ := {phA u with T := (phA u).T.erase (ck (u.val + 9)), V := (phT (u.val + 1)).V, VD := (phT (u.val + 1)).VD, C := (phT (u.val + 1)).C})
      ((show ∀ (c : Dev nD) (u : Fin k0_t3_loop.trips) h, u.val < 7 → (⟨k0_dev4 c, h⟩ : Dev nD) = tgt (tI u) c by
        intro c u h hu; apply Fin.ext; show k0_dev4 c = _; rw [k0_dev4_eq]; revert c u; decide +kernel) c u _ hu7)
      (sem_snd _ (k0_off47_eq u) _) (sem_rcv _ (k0_off47_eq u) _) (by rw [hch]; exact k0_off49_eq c u) (k0_off48_eq u)
      ((show ∀ u : Fin k0_t3_loop.trips, u.val < 7 → tI u ∈ (phA u).U by decide +kernel) u hu7)
      ((show ∀ u : Fin k0_t3_loop.trips, u.val < 7 → tI u ∉ (phA u).Q by decide +kernel) u hu7)
      (hA.trans ?_) (run_pure (BIBase.Entails.trans ?_ (h q')))
    · iintro ⟨HR, Hq, HO, HS, HX⟩
      isplitl [HR]; · iexact HR
      isplitl [HS]; · iexact HS
      isplitl [Hq]; · iexact Hq
      isplitl [HO]; · iexact HO
      iexact HX
    · have hσ : phT (u.val + 1) = ({phA u with T := (phA u).T.erase (ck (u.val + 9)), V := (phT (u.val + 1)).V, VD := (phT (u.val + 1)).VD, C := (phT (u.val + 1)).C, U := (phA u).U.erase (tI u), Q := insert (tI u) (phA u).Q} : Ph) :=
        (show ∀ u : Fin k0_t3_loop.trips, u.val < 7 → phT (u.val + 1) = ({phA u with T := (phA u).T.erase (ck (u.val + 9)), V := (phT (u.val + 1)).V, VD := (phT (u.val + 1)).VD, C := (phT (u.val + 1)).C, U := (phA u).U.erase (tI u), Q := insert (tI u) (phA u).Q} : Ph) by decide +kernel) u hu7
      rw [Cx, hσ]
      iintro ⟨HS, Hq, HO, HX⟩
      isplitl [Hq]; · iexact Hq
      isplitl [HO]; · iexact HO
      isplitl [HS]; · iexact HS
      iexact HX
  refine run_dite (fun h6 => ?_) (fun h6 => hsend ?_)
  · have hu := ((cond6_iff u).1 h6).1
    refine run_recv_add (v := vals J) (fin := fin) (K := K) (X := part (J c) (ck (c.val + u.val + 25))) (pay := k0_pay29) (lI u) (by unfold lI; show u.val + 7 < 15; omega) (k := ck (c.val + u.val + 25)) (σ := {phA u with T := (phA u).T.erase (ck (u.val + 9))})
      (B := iprop(owns (c : Thread nD τ) qM fullShare q' ∗ Ops c (J c) ∗ X)) (sem_rcv _ (k0_off42_eq u) _) (k0_off45_eq c u) (k0_off43_eq u) (k0_off46_eq u)
      ((show ∀ u : Fin k0_t3_loop.trips, 0 < u.val → u.val < 7 → lI u ∈ (phA u).V by decide +kernel) u hu hu7)
      ((show ∀ u : Fin k0_t3_loop.trips, 0 < u.val → u.val < 7 → lI u ∉ (phA u).VD by decide +kernel) u hu hu7)
      ((show ∀ u : Fin k0_t3_loop.trips, 0 < u.val → u.val < 7 → ∀ j ∈ (phA u).U, rank (lI u) < rank j by decide +kernel) u hu hu7)
      ((show ∀ (u : Fin k0_t3_loop.trips) h, 0 < u.val → u.val < 7 → (⟨(lI u).val, h⟩ : Fin 15) ∉ (phA u).C by decide +kernel) u _ hu hu7) ?_ (hsend ?_)
    · iintro ⟨HR, Hq, HO, HS, HX⟩
      isplitl [HR]; · iexact HR
      isplitl [HS]; · iexact HS
      isplitl [Hq]; · iexact Hq
      isplitl [HO]; · iexact HO
      iexact HX
    · rw [rsL_step hu hu7]
      have hσ : ({phA u with T := (phA u).T.erase (ck (u.val + 9)), V := (phT (u.val + 1)).V, VD := (phT (u.val + 1)).VD, C := (phT (u.val + 1)).C} : Ph)
          = ({phA u with T := (phA u).T.erase (ck (u.val + 9)), V := (phA u).V.erase (lI u), VD := insert (lI u) (phA u).VD, C := insert ⟨(lI u).val, by unfold lI; show u.val + 7 < 15; omega⟩ (phA u).C} : Ph) :=
        (show ∀ (u : Fin k0_t3_loop.trips) h, 0 < u.val → u.val < 7 → ({phA u with T := (phA u).T.erase (ck (u.val + 9)), V := (phT (u.val + 1)).V, VD := (phT (u.val + 1)).VD, C := (phT (u.val + 1)).C} : Ph)
          = ({phA u with T := (phA u).T.erase (ck (u.val + 9)), V := (phA u).V.erase (lI u), VD := insert (lI u) (phA u).VD, C := insert ⟨(lI u).val, h⟩ (phA u).C} : Ph) by decide +kernel) u _ hu hu7
      rw [hσ]
      iintro ⟨HR, HS, Hq, HO, HX⟩
      isplitl [HR]; · iexact HR
      isplitl [Hq]; · iexact Hq
      isplitl [HO]; · iexact HO
      isplitl [HS]; · iexact HS
      iexact HX
  · have hu : u = ⟨0, by decide⟩ := (show ∀ u : Fin k0_t3_loop.trips, u.val < 7 → ¬ 0 < u.val → u = ⟨0, by decide⟩ by decide +kernel) u hu7 (fun hu => h6 ((cond6_iff u).2 ⟨hu, hu7⟩))
    subst hu
    exact BIBase.Entails.refl

end Cert.KernelIdeal.Ring
-- ==== Proof.KernelIdeal.Trip.lean ====
/- A trip of the loop that exchanges the partial sums. -/
module

public import proofs.«01_k».proof.Proof.KernelIdeal.Reduce

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {fin : Dev nD → Fin 16 → Vec F S128x1024 .f32} {K : Dev nD × Ci → ℕ} {σ : Ph} {q : Vec F S128x1024 .bf16}

attribute [local irreducible] k0_cond1 k0_cond2 k0_cond3 k0_cond4 k0_cond5 k0_cond6 k0_cond7

/-- One trip of the loop: a hop to the right, and while there is one left a hop to the left. -/
theorem run_trip {v5 v7 v29 z : BitVec 32} {v20 : IVec S128x2048 32} (u : Fin k0_t3_loop.trips) {k : Unit → sProp (MM F)} (h : ∀ q', Cx J fin K c (phT (u.val + 1)) q' X ⊢ k ()) :
    Cx J fin K c (phT u.val) q X ⊢ run c (k0_t3_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) v5 v7 v20 v29 z u ()) k := by
  unfold k0_t3_body
  dsimp only
  refine run_bind (run_part4 u fun q' => ?_)
  have hrs : (vals J).rs (sI u) c = rsR J u.val c := by
    unfold vals sI; dsimp only; rw [if_pos (show u.val < 8 from u.isLt)]
  have hch : rsChunk (sI u) c = ck (c.val + 40 - u.val) := (show ∀ (c : Dev nD) (u : Fin k0_t3_loop.trips), rsChunk (sI u) c = ck (c.val + 40 - u.val) by decide +kernel) c u
  rw [← hrs, ← hch]
  refine run_send_rs (v := vals J) (fin := fin) (K := K) (sI u) (by have := u.isLt; unfold sI; show u.val < 15; have : u.val < 8 := u.isLt; omega) (B := iprop(owns (c : Thread nD τ) qM fullShare q' ∗ Ops c (J c) ∗ X))
    (σ := {phR u.val (min u.val 7) u.val (min u.val 7 - 1) with T := (phT u.val).T.erase (ck (8 - u.val))})
    ((show ∀ (c : Dev nD) (u : Fin k0_t3_loop.trips) h, (⟨k0_dev3 c, h⟩ : Dev nD) = tgt (sI u) c by
      intro c u h; apply Fin.ext; show k0_dev3 c = _; rw [k0_dev3_eq]; revert c u; decide +kernel) c u _)
    (sem_snd _ (k0_off28_eq u) _) (sem_rcv _ (k0_off28_eq u) _) (by rw [hch]; exact k0_off30_eq c u) (k0_off29_eq u)
    ((show ∀ u : Fin k0_t3_loop.trips, sI u ∈ (phR u.val (min u.val 7) u.val (min u.val 7 - 1)).U by decide +kernel) u)
    ((show ∀ u : Fin k0_t3_loop.trips, sI u ∉ (phR u.val (min u.val 7) u.val (min u.val 7 - 1)).Q by decide +kernel) u)
    ?_ ?_
  · iintro ⟨HR, Hq, HO, HS, HX⟩
    isplitl [HR]; · iexact HR
    isplitl [HS]; · iexact HS
    isplitl [Hq]; · iexact Hq
    isplitl [HO]; · iexact HO
    iexact HX
  dsimp only
  have hCx : iprop(St (vals J) fin K c (phA u) ∗ owns (c : Thread nD τ) qM fullShare q' ∗ Ops c (J c) ∗ X) ⊢ Cx J fin K c (phA u) q' X := by
    iintro ⟨HS, Hq, HO, HX⟩
    isplitl [Hq]; · iexact Hq
    isplitl [HO]; · iexact HO
    isplitl [HS]; · iexact HS
    iexact HX
  rw [← phA_eq u]
  refine hCx.trans ?_
  refine run_dite (fun h4 => ?_) (fun h4 => ?_)
  · have hu7 := (cond4_iff u).1 h4
    have e : ck (c.val + u.val + 25) = chunk c (ck (u.val + 9)) := (show ∀ (c : Dev nD) (u : Fin k0_t3_loop.trips), ck (c.val + u.val + 25) = chunk c (ck (u.val + 9)) by decide +kernel) c u
    have hrow : ∀ {q''}, Cx J fin K c (phA u) q'' X ⊢ iprop(someAt c (rowM (ck (c.val + u.val + 25)))
        ∗ Cx J fin K c {phA u with T := (phA u).T.erase (ck (u.val + 9))} q'' X) := by
      intro q''
      rw [e]
      iintro ⟨Hq, HO, HS, HX⟩
      ihave HS := (take_row (o := ck (u.val + 9)) ((show ∀ u : Fin k0_t3_loop.trips, u.val < 7 → ck (u.val + 9) ∈ (phA u).T by decide +kernel) u hu7)) $$ HS
      icases HS with ⟨HR, HS⟩
      isplitl [HR]; · iexact HR
      isplitl [Hq]; · iexact Hq
      isplitl [HO]; · iexact HO
      isplitl [HS]; · iexact HS
      iexact HX
    refine run_load_rd (k0_off31_eq c u) (row_inb (ck (c.val + u.val + 25))) lx.left.right (run_load_rd rfl inb_S1024x1024_S1024x1024_0_0 lwq.left.right
      (run_load_rd rfl inb_S128x1024_S128x1024_0_0 (Lends.self _).left (run_bind (run_q_st (w' := qv (J c) (ck (c.val + u.val + 25))) rfl BIBase.Entails.refl ?_))))
    have run_hrow : ∀ {p : PP F Unit}, _ → _ := fun {p} h => BIBase.Entails.trans (R := run c p k) (hrow (q'' := qv (J c) (ck (c.val + u.val + 25)))) h
    refine run_dite (fun h5 => ?_) (fun h5 => ?_)
    · refine run_t6 (q := qv (J c) (ck (c.val + u.val + 25))) (Lends.self _).left lk.left.right lva.left.right lwo.left.right u h4 h5 rfl (run_pure_bind ?_)
      exact run_hrow (run_row_ld (k0_off31_eq c u) (Lends.self _).left fun _ => run_bind (run_row_st (k0_off31_eq c u) rfl BIBase.Entails.refl (run_tail u hu7 h)))
    · refine run_t7 (q := qv (J c) (ck (c.val + u.val + 25))) (Lends.self _).left lk.left.right lva.left.right lwo.left.right u h4 h5 rfl (run_pure_bind ?_)
      exact run_hrow (run_row_ld (k0_off31_eq c u) (Lends.self _).left fun _ => run_bind (run_row_st (k0_off31_eq c u) rfl BIBase.Entails.refl (run_tail u hu7 h)))
  · have h7 : ¬ k0_cond7 u = 1#1 := fun h7 => h4 ((cond4_iff u).2 ((cond7_iff u).1 h7))
    have h6 : ¬ k0_cond6 u = 1#1 := fun h6 => h4 ((cond4_iff u).2 ((cond6_iff u).1 h6).2)
    refine run_dite (fun h6' => absurd h6' h6) (fun _ => run_dite (fun h7' => absurd h7' h7) (fun _ => run_pure ?_))
    have hσ : phA u = phT (u.val + 1) := (show ∀ u : Fin k0_t3_loop.trips, ¬ u.val < 7 → phA u = phT (u.val + 1) by decide +kernel) u (fun hu => h4 ((cond4_iff u).2 hu))
    rw [hσ]
    exact h q'

/-- The loop. -/
theorem run_trips {v5 v7 v29 z : BitVec 32} {v20 : IVec S128x2048 32} {k : Unit → sProp (MM F)} (h : ∀ q', Cx J fin K c (phT 8) q' X ⊢ k ()) :
    Cx J fin K c (phT 0) q X ⊢ run c (Scf.Loop.for k0_t3_loop k0_t3_ok ⟨⟩ (k0_t3_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) v5 v7 v20 v29 z)) k := by
  unfold run
  iintro HA
  iapply (Scf.wp_for frame (wpE (defs₀ (F := F)) 𝒱₀ (c : Thread nD τ) none) Set.univ k0_t3_loop.lb k0_t3_loop.ub k0_t3_loop.st k0_t3_ok ⟨⟩ (k0_t3_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) v5 v7 v20 v29 z)
    (fun n _ => iprop(∃ q', Cx J fin K c (phT n) q' X)) (fun t a => by
      iintro ⟨%q', HA⟩
      have h1 := run_trip (J := J) (fin := fin) (K := K) (c := c) (X := X) (q := q') (v5 := v5) (v7 := v7) (v29 := v29) (z := z) (v20 := v20) t
        (k := fun _ => iprop(∃ q', Cx J fin K c (phT (t.val + 1)) q' X)) (fun q' => by iintro H; iexists q'; iexact H)
      iapply h1; iexact HA))
  isplitl [HA]
  · iexists q; iexact HA
  iintro %a ⟨%q', HA⟩
  iapply (h q'); iexact HA

end Cert.KernelIdeal.Ring
-- ==== Proof.KernelIdeal.Start.lean ====
/- The signals and the device's own rows. -/
module

public import proofs.«01_k».proof.Proof.KernelIdeal.Trip

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {fin : Dev nD → Fin 16 → Vec F S128x1024 .f32} {K : Dev nD × Ci → ℕ} {σ : Ph} {q : Vec F S128x1024 .bf16} {v : Vals F}

attribute [local irreducible] k0_cond1 k0_cond2 k0_cond3 k0_cond4 k0_cond5 k0_cond6 k0_cond7

/-- What a device holds towards hop `i` before its neighbours have spoken. -/
def sendT (c : Dev nD) (i : Fin 30) : sProp (MM F) :=
  iprop(dutyTok ER (rcvC (tgt i c) i) 0 true ∗ dutyTok ER (sndC c i) 0 true ∗ reached ER (sndC c i) 0 ∗ atPos ER (sndC c i) 0 ∅ 0)
/-- What a device owes at the start: the two signals and all the hops. -/
def owe0 (c : Dev nD) : CellTallies nD τ sig Unit := owe c Finset.univ + tallyAt (barC (right c)) () 1 + tallyAt (barC (left c)) () 1
/-- All that a device holds of the protocol before it signals. -/
def Start (v : Vals F) (K : Dev nD × Ci → ℕ) (c : Dev nD) : sProp (MM F) :=
  iprop((invs v K ∗ levAts L lv) ∗ (∃ W, owes (c : Thread nD τ) (owe0 c) W)
    ∗ (dutyTok ER (barC (left c)) 0 true ∗ reached ER (barC (left c)) 0) ∗ (dutyTok ER (barC (right c)) 0 false ∗ reached ER (barC (right c)) 0)
    ∗ (cred (tallyAt (barC c) () 2) ∗ atPos ER (barC c) 0 ∅ 0) ∗ barPay (left c) true ∗ barPay (right c) false
    ∗ bigSep Finset.univ (sendT c) ∗ bigSep Finset.univ (recvR c) ∗ bigSep (phT 0).T (fun o => someAt c (rowM (chunk c o))))

theorem mem_bar (v : Vals F) (c : Dev nD) (d : Bool) : d ∈ (Rd v).duties (barC c) 0 := by rw [duties_bar]; exact Finset.mem_univ _

/-- The two signals and the wait for the neighbours' signals. -/
theorem run_open {d₁ d₂ : Dev nD} (h₁ : d₁ = left c) (h₂ : d₂ = right c) {k : PUnit → PP F α} (hA : A ⊢ iprop(Start v K c ∗ B))
    (h : iprop(St v fin K c (phT 0) ∗ semVal (barC c) 0 ∗ B) ⊢ run c (k ⟨⟩) Q) :
    A ⊢ run c (semSignalWord d₁ barS 1#32 >>= fun _ => semSignalWord d₂ barS 1#32 >>= fun _ => semWaitWord barS 2#32 >>= k) Q := by
  subst h₁ h₂
  refine hA.trans ?_
  unfold Start owe0 run
  iintro ⟨⟨⟨#Hi, #Hl⟩, ⟨%W, HO⟩, ⟨Ht, #Hr⟩, ⟨Ht', #Hr'⟩, ⟨Hc, Hp⟩, Hb, Hb', HS, HV, HT⟩, HB⟩
  iapply (Rounds.wp_signal 𝒱₀ ER (Rd v) (c : Thread nD τ) none (dst := (left c : Thread nD τ)) (sem := barS) (r := 0) (d := true) (κ := K (left c, none))
      (mem_bar v (left c) true) (amount_bar v (left c) true) () (owe c Finset.univ + tallyAt (barC (right c)) () 1) rfl) $$ [HO Ht Hb]
  · isplitr; · iapply (invs_get v K (left c) none); iexact Hi
    isplitl [HO]; · iexact HO
    isplitl [Ht]; · iexact Ht
    isplitl [Hb]; · iapply (show barPay (left c) true ⊢ (Rd v).payload ((left c : Thread nD τ), SemLoc.reg barS) 0 true from Entails.of_eq (payload_bar v (left c) true).symm); iexact Hb
    iexact Hr
  iintro HO
  iapply (Rounds.wp_signal 𝒱₀ ER (Rd v) (c : Thread nD τ) none (dst := (right c : Thread nD τ)) (sem := barS) (r := 0) (d := false) (κ := K (right c, none))
      (mem_bar v (right c) false) (amount_bar v (right c) false) () (owe c Finset.univ) rfl) $$ [HO Ht' Hb']
  · isplitr; · iapply (invs_get v K (right c) none); iexact Hi
    isplitl [HO]; · iexact HO
    isplitl [Ht']; · iexact Ht'
    isplitl [Hb']; · iapply (show barPay (right c) false ⊢ (Rd v).payload ((right c : Thread nD τ), SemLoc.reg barS) 0 false from Entails.of_eq (payload_bar v (right c) false).symm); iexact Hb'
    iexact Hr'
  iintro HO
  iapply (Rounds.wp_wait_rest_token 𝒱₀ ER (Rd v) (c : Thread nD τ) none (κ := K (c, none))
      (wpE_semWait_eq 𝒱₀ (c : Thread nD τ) none Set.univ) (Set.mem_univ _) () (O := owe c Finset.univ) (W := W) (R := 0) (m := 0) (T := ∅)
      ((Nat.zero_add 2).trans (expect_bar v c).symm)) $$ [Hc HO Hp]
  · isplitr; · iapply (invs_get v K c none); iexact Hi
    isplitl [Hc]; · iexact Hc
    isplitl [HO]; · iexact HO
    isplitr
    · iapply (mayWait c none Finset.univ (fun j hj => by rw [lv_bar]; omega)); iexact Hl
    iexact Hp
  iintro ⟨HO, Hp, -, Hpay⟩
  ihave Hpay := (show bigSep ((Rd v).duties ((c : Thread nD τ), .reg barS) 0 \ ∅) (fun d => (Rd v).payload ((c : Thread nD τ), .reg barS) 0 d)
    ⊢ bigSep Finset.univ (fun i : Fin 30 => iprop(land i (tgt i c) ∗ reached ER (rcvC (tgt i c) i) 0)) from rest_bar v c) $$ Hpay
  imod (Rounds.cell_close ER (Rd v) (Set.mem_univ (K (c, none))) id (duties_later v (barC c))) $$ [Hp] with Hv
  · isplitr; · iapply (invs_get v K c none); iexact Hi
    iexact Hp
  iapply h
  unfold St
  isplitr [Hv HB]
  · isplitr
    · isplitr; · iexact Hi
      iexact Hl
    isplitl [HO]; · iexists _; iexact HO
    rw [show (phT 0).U = Finset.univ by decide +kernel, show (phT 0).Q = ∅ by decide +kernel, show (phT 0).Z = ∅ by decide +kernel,
      show (phT 0).V = Finset.univ by decide +kernel, show (phT 0).VD = ∅ by decide +kernel]
    unfold Mm
    rw [show (phT 0).D = ∅ by decide +kernel, show (phT 0).gl = ∅ by decide +kernel, show (phT 0).gr = ∅ by decide +kernel, show (phT 0).C = ∅ by decide +kernel]
    simp only [bigSep_empty]
    isplitl [Hpay HS]
    · iapply (show iprop(bigSep Finset.univ (fun i : Fin 30 => iprop(land i (tgt i c) ∗ reached ER (rcvC (tgt i c) i) 0)) ∗ bigSep Finset.univ (sendT (F := F) c))
        ⊢ bigSep Finset.univ (sendR c) from Entails.of_eq (bigSep_sep _ _ _).symm)
      isplitl [Hpay]; · iexact Hpay
      iexact HS
    isplitr; · iempintro
    isplitr; · iempintro
    isplitl [HV]; · iexact HV
    isplitr; · iempintro
    isplitl [HT]; · iexact HT
    isplitr; · iempintro
    isplitr; · iempintro
    isplitr; · iempintro
    iempintro
  isplitl [Hv]; · iexact Hv
  iexact HB

theorem off1_eq : ∀ c : Dev nD, k0_off1 c = ![128 * (ck c.val).val, 0] := by decide +kernel
/-- The first part: the signals, the wait, and the queries of the device's own block. -/
theorem run_part5 {k : (Σ' (d0 : Dev nD) (v2 : BitVec 32) (v5 : BitVec 32) (v7 : BitVec 32) (v20 : IVec S128x2048 32) (v29 : BitVec 32), BitVec 32) → sProp (MM F)}
    (h : ∀ v5 v7 v29, Cx J fin K c (phT 0) (qv (J c) (ck c.val)) iprop(semVal (barC c) 0 ∗ X) ⊢ k ⟨c, BitVec.ofNat 32 c.val, v5, v7, k0_pay13 c, v29, 0#32⟩) :
    iprop(owns (c : Thread nD τ) qM fullShare q ∗ Ops c (J c) ∗ Start (vals J) K c ∗ X) ⊢ run c (k0_part5 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4) k := by
  rw [k0_part5_eq_skeleton]
  dsimp only [k0_part5_skel]
  refine run_deviceId (run_open (fin := fin) (v := vals J) (K := K) (B := iprop(owns (c : Thread nD τ) qM fullShare q ∗ Ops c (J c) ∗ X)) (Fin.ext (k0_dev1_eq c)) (Fin.ext (k0_dev2_eq c)) ?_ ?_)
  · iintro ⟨Hq, HO, HS, HX⟩
    isplitl [HS]; · iexact HS
    isplitl [Hq]; · iexact Hq
    isplitl [HO]; · iexact HO
    iexact HX
  have hCx : iprop(St (vals J) fin K c (phT 0) ∗ semVal (barC c) 0 ∗ owns (c : Thread nD τ) qM fullShare q ∗ Ops c (J c) ∗ X) ⊢ Cx J fin K c (phT 0) q iprop(semVal (barC c) 0 ∗ X) := by
    iintro ⟨HS, Hb, Hq, HO, HX⟩
    isplitl [Hq]; · iexact Hq
    isplitl [HO]; · iexact HO
    isplitl [HS]; · iexact HS
    isplitl [Hb]; · iexact Hb
    iexact HX
  refine hCx.trans ?_
  refine run_load_rd (off1_eq c) (row_inb (ck c.val)) lx.left.right (run_load_rd rfl inb_S1024x1024_S1024x1024_0_0 lwq.left.right
    (run_load_rd rfl inb_S128x1024_S128x1024_0_0 (Lends.self _).left (run_bind (run_q_st (w' := qv (J c) (ck c.val)) rfl BIBase.Entails.refl (run_pure ?_)))))
  rw [word_dev]
  exact h _ _ _

theorem cRow : ∀ c : Dev nD, ck c.val = chunk c 0 := by decide +kernel

/-- The loop, and the sum that then comes from the left. -/
theorem run_mid {v5 v7 v29 z : BitVec 32} {v20 : IVec S128x2048 32} {w : BitVec 32} {k : BitVec 32 → sProp (MM F)} {hb h1 h2 hsrc hdst hl' hb'} {hl hl'' : outM.view.LoadsAt (Rect.unit (s := S2048x1024) (k0_off1 c) S128x1024.size hb').toLoadRect}
    (h : ∀ w q', Cx J fin K c (phR 8 7 8 6) q' iprop(owns (c : Thread nD τ) (rowM (ck c.val)) fullShare (own1 J c) ∗ X) ⊢ k w) :
    Cx J fin K c (phT 0) q iprop(owns (c : Thread nD τ) (rowM (ck c.val)) fullShare (own J c) ∗ X) ⊢ run c
      (Scf.Loop.for k0_t3_loop k0_t3_ok ⟨⟩ (k0_t3_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) v5 v7 v20 v29 z) >>= fun _ =>
      Prog.lift (.waitDma2 ((cc0_scratch4.slice (Rect.unit (s := S30) ![7] S1.size inb_S30_S1_7)).squeeze S_ squeezes_S1_S_).sem
        (outM.slice (Rect.unit (s := S2048x1024) (k0_off50 c 7#32) S128x1024.size hb) h1)
        ((commM.slice (Rect.unit (s := S15x128x1024) ![7, 0, 0] S1x128x1024.size inb_S15x128x1024_S1x128x1024_7_0_0) h2).squeeze S128x1024 squeezes_S1x128x1024_S128x1024) hsrc hdst) >>= fun _ =>
      Prog.lift (.load outM (Rect.unit (s := S2048x1024) (k0_off1 c) S128x1024.size hb').toLoadRect hl) >>= fun a =>
      Prog.lift (.load commM (Rect.unit (s := S15x128x1024) ![7, 0, 0] S1x128x1024.size inb_S15x128x1024_S1x128x1024_7_0_0).toLoadRect hl') >>= fun b =>
      Prog.lift (.load outM (Rect.unit (s := S2048x1024) (k0_off1 c) S128x1024.size hb').toLoadRect hl'') >>= fun _ =>
      Prog.lift (.store outM (Rect.unit (s := S2048x1024) (k0_off1 c) S128x1024.size hb') (k0_pay30 a b) Finset.univ (View.stores_vmem_bits_univ h_S128x1024 rfl) (.inl rfl)) >>= fun _ => pure w) k := by
  refine run_bind (run_trips fun q' => ?_)
  refine run_recv_add (v := vals J) (fin := fin) (K := K) (X := own J c) (pay := k0_pay30) 7 (by decide) (k := ck c.val) (σ := phT 8)
    (B := iprop(owns (c : Thread nD τ) qM fullShare q' ∗ Ops c (J c) ∗ X)) rfl (off1_eq c) rfl rfl
    (by decide +kernel) (by decide +kernel) (by decide +kernel) (by decide +kernel) ?_ (run_pure (BIBase.Entails.trans ?_ (h w q')))
  · iintro ⟨Hq, HO, HS, HR, HX⟩
    isplitl [HR]; · iexact HR
    isplitl [HS]; · iexact HS
    isplitl [Hq]; · iexact Hq
    isplitl [HO]; · iexact HO
    iexact HX
  · have hσ : phR 8 7 8 6 = ({phT 8 with V := (phT 8).V.erase 7, VD := insert 7 (phT 8).VD, C := insert ⟨7, by decide⟩ (phT 8).C} : Ph) := by decide +kernel
    have hx : own1 J c = k0_pay30 (own J c) (up ((vals J).rs 7 (src 7 c))) := rfl
    rw [Cx, hσ, hx]
    iintro ⟨HR, HS, Hq, HO, HX⟩
    isplitl [Hq]; · iexact Hq
    isplitl [HO]; · iexact HO
    isplitl [HS]; · iexact HS
    isplitl [HR]; · iexact HR
    iexact HX

/-- The part that fills the device's own rows, exchanges the others' and adds the sum that came from the left. -/
theorem run_part6 {v5 v7 v29 z : BitVec 32} {k : BitVec 32 → sProp (MM F)}
    (h : ∀ w q', Cx J fin K c (phR 8 7 8 6) q' iprop(owns (c : Thread nD τ) (rowM (ck c.val)) fullShare (own1 J c) ∗ X) ⊢ k w) :
    Cx J fin K c (phT 0) (qv (J c) (ck c.val)) iprop(someAt c (rowM (ck c.val)) ∗ X) ⊢ run c (k0_part6 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) v5 v7 (k0_pay13 c) v29 z) k := by
  rw [k0_part6_eq_skeleton]
  dsimp only [k0_part6_skel]
  have hrow : Cx J fin K c (phT 0) (qv (J c) (ck c.val)) iprop(someAt c (rowM (ck c.val)) ∗ X) ⊢ iprop(someAt c (rowM (ck c.val)) ∗ Cx J fin K c (phT 0) (qv (J c) (ck c.val)) X) := by
    iintro ⟨Hq, HO, HS, HR, HX⟩
    isplitl [HR]; · iexact HR
    isplitl [Hq]; · iexact Hq
    isplitl [HO]; · iexact HO
    isplitl [HS]; · iexact HS
    iexact HX
  have hback : iprop(owns (c : Thread nD τ) (rowM (ck c.val)) fullShare (own J c) ∗ Cx J fin K c (phT 0) (qv (J c) (ck c.val)) X)
      ⊢ Cx J fin K c (phT 0) (qv (J c) (ck c.val)) iprop(owns (c : Thread nD τ) (rowM (ck c.val)) fullShare (own J c) ∗ X) := by
    iintro ⟨HR, Hq, HO, HS, HX⟩
    isplitl [Hq]; · iexact Hq
    isplitl [HO]; · iexact HO
    isplitl [HS]; · iexact HS
    isplitl [HR]; · iexact HR
    iexact HX
  refine run_dite (fun h1 => ?_) (fun h1 => ?_)
  · refine run_t1 (b := ck c.val) (I := J c) (q := qv (J c) (ck c.val)) (Lends.self _).left lk.left.right lva.left.right lwo.left.right h1 rfl (run_pure_bind ?_)
    refine hrow.trans (run_row_ld (off1_eq c) (Lends.self _).left fun _ => run_bind (run_row_st (off1_eq c) rfl BIBase.Entails.refl (hback.trans ?_)))
    exact run_mid h
  · refine run_t2 (b := ck c.val) (I := J c) (q := qv (J c) (ck c.val)) (Lends.self _).left lk.left.right lva.left.right lwo.left.right h1 rfl (run_pure_bind ?_)
    refine hrow.trans (run_row_ld (off1_eq c) (Lends.self _).left fun _ => run_bind (run_row_st (off1_eq c) rfl BIBase.Entails.refl (hback.trans ?_)))
    exact run_mid h

/-- The part that adds the sum that came from the right. -/
theorem run_part7 {w2 w5 w : BitVec 32} {k : PUnit → sProp (MM F)}
    (h : Cx J fin K c (phR 8 7 8 7) q iprop(owns (c : Thread nD τ) (rowM (ck c.val)) fullShare (tot J c) ∗ X) ⊢ k ⟨⟩) :
    Cx J fin K c (phR 8 7 8 6) q iprop(owns (c : Thread nD τ) (rowM (ck c.val)) fullShare (own1 J c) ∗ X) ⊢ run c (k0_part7 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c w2 w5 w) k := by
  rw [k0_part7_eq_skeleton]
  dsimp only [k0_part7_skel]
  refine run_recv_add (v := vals J) (fin := fin) (K := K) (X := own1 J c) (pay := k0_pay31) 14 (by decide) (k := ck c.val) (σ := phR 8 7 8 6)
    (B := iprop(owns (c : Thread nD τ) qM fullShare q ∗ Ops c (J c) ∗ X)) rfl (off1_eq c) rfl rfl
    (by decide +kernel) (by decide +kernel) (by decide +kernel) (by decide +kernel) ?_ (run_pure (BIBase.Entails.trans ?_ h))
  · iintro ⟨Hq, HO, HS, HR, HX⟩
    isplitl [HR]; · iexact HR
    isplitl [HS]; · iexact HS
    isplitl [Hq]; · iexact Hq
    isplitl [HO]; · iexact HO
    iexact HX
  · have hσ : phR 8 7 8 7 = ({phR 8 7 8 6 with V := (phR 8 7 8 6).V.erase 14, VD := insert 14 (phR 8 7 8 6).VD, C := insert ⟨14, by decide⟩ (phR 8 7 8 6).C} : Ph) := by decide +kernel
    have hx : tot J c = k0_pay31 (own1 J c) (up ((vals J).rs 14 (src 14 c))) := rfl
    rw [Cx, hσ, hx]
    iintro ⟨HR, HS, Hq, HO, HX⟩
    isplitl [Hq]; · iexact Hq
    isplitl [HO]; · iexact HO
    isplitl [HS]; · iexact HS
    isplitl [HR]; · iexact HR
    iexact HX

end Cert.KernelIdeal.Ring
-- ==== Proof.KernelIdeal.Hops.lean ====
/- Single steps of the all-gather. -/
module

public import proofs.«01_k».proof.Proof.KernelIdeal.Trip

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {K : Dev nD × Ci → ℕ} {σ σ' : Ph} {q : Vec F S128x1024 .bf16}

/-! ## The stages of the all-gather -/

/-- After the reduce-scatter, with `z` of its hops seen gone. -/
def phS (z : ℕ) : Ph where
  U := Finset.univ.filter fun i : Fin 30 => 15 ≤ i.val
  Q := Finset.univ.filter fun i : Fin 30 => z ≤ i.val ∧ i.val < 15
  Z := Finset.univ.filter fun i : Fin 30 => i.val < z
  V := Finset.univ.filter fun i : Fin 30 => 15 ≤ i.val
  VD := Finset.univ.filter fun i : Fin 30 => i.val < 15
  T := Finset.univ.filter fun o : Fin 16 => (0 < o.val ∧ o.val ≤ 8 ∧ 8 < o.val + z) ∨ (9 ≤ o.val ∧ o.val ≤ z)
  D := ∅
  gl := ∅
  gr := ∅
  C := Finset.univ
/-- In the all-gather, with `z` hops seen gone, `sR`, `sL` sent to the right and to the left, `rR`, `rL` received, `cR`, `cL` copied out. -/
def phG (z sR sL rR rL cR cL : ℕ) : Ph where
  U := Finset.univ.filter fun i : Fin 30 => (15 + sR ≤ i.val ∧ i.val < 23) ∨ 23 + sL ≤ i.val
  Q := Finset.univ.filter fun i : Fin 30 => z ≤ i.val ∧ (i.val < 15 + sR ∨ (23 ≤ i.val ∧ i.val < 23 + sL))
  Z := Finset.univ.filter fun i : Fin 30 => i.val < z
  V := Finset.univ.filter fun i : Fin 30 => (15 + rR ≤ i.val ∧ i.val < 23) ∨ 23 + rL ≤ i.val
  VD := Finset.univ.filter fun i : Fin 30 => i.val < 15 + rR ∨ (23 ≤ i.val ∧ i.val < 23 + rL)
  T := Finset.univ.filter fun o : Fin 16 => cL < o.val ∧ o.val + cR < 16
  D := Finset.univ.filter fun o : Fin 16 => o.val ≤ cL ∨ 16 ≤ o.val + cR
  gl := Finset.univ.filter fun o : Fin 16 => (o.val ≤ rL ∨ 16 ≤ o.val + rR) ∧ ¬ (z ≤ 15 + (16 - o.val) % 16 ∧ (16 - o.val) % 16 < sR)
  gr := Finset.univ.filter fun o : Fin 16 => (o.val ≤ rL ∨ 16 ≤ o.val + rR) ∧ ¬ (z ≤ 23 + o.val ∧ o.val < sL)
  C := Finset.univ

/-- The whole context of a device in the all-gather. -/
abbrev Cg (J : Dev nD → Inp F) (K : Dev nD × Ci → ℕ) (c : Dev nD) (σ : Ph) (q : Vec F S128x1024 .bf16) (X : sProp (MM F)) : sProp (MM F) := Cx J (finv J) K c σ q X

theorem Cg_split : Cg J K c σ q X ⊢ iprop(St (vals J) (finv J) K c σ ∗ owns (c : Thread nD τ) qM fullShare q ∗ Ops c (J c) ∗ X) := by
  iintro ⟨Hq, HO, HS, HX⟩
  isplitl [HS]; · iexact HS
  isplitl [Hq]; · iexact Hq
  isplitl [HO]; · iexact HO
  iexact HX
theorem Cg_join : iprop(St (vals J) (finv J) K c σ ∗ owns (c : Thread nD τ) qM fullShare q ∗ Ops c (J c) ∗ X) ⊢ Cg J K c σ q X := by
  iintro ⟨HS, Hq, HO, HX⟩
  isplitl [Hq]; · iexact Hq
  isplitl [HO]; · iexact HO
  isplitl [HS]; · iexact HS
  iexact HX

/-! ## Single steps -/

/-- A hop to the right is sent. -/
theorem goR (i : Fin 30) (hi : ¬ i.val < 15 ∧ i.val < 23) {dv : Dev nD} {off : Fin 3 → ℕ} {sS sR : DmaSem sig}
    (hdv : dv = tgt i c) (hs : sS = sndD i) (hr : sR = rcvD i) (ho : off = ![(agChunk i c).val, 0, 0])
    (hσ : i ∈ σ.U ∧ i ∉ σ.Q ∧ agOff i ∈ σ.gl ∧ ({σ with U := σ.U.erase i, Q := insert i σ.Q, gl := σ.gl.erase (agOff i)} : Ph) = σ')
    {hb : ∀ a, off a + S1x128x1024.size a ≤ S16x128x1024.size a} {h1 h2 hsc} {hsrc} {hdst} {hsem} {k : PUnit → PP F α}
    (h : Cg J K c σ' q X ⊢ run c (k ⟨⟩) Q) :
    Cg J K c σ q X ⊢ run c (Prog.lift (.enqueueDma ((gatM.slice (Rect.unit (s := S16x128x1024) off S1x128x1024.size hb) h1).squeeze S128x1024 squeezes_S1x128x1024_S128x1024)
      (.remote (Dev.tc dv) ((gatM.slice (Rect.unit (s := S16x128x1024) off S1x128x1024.size hb) h2).squeeze S128x1024 squeezes_S1x128x1024_S128x1024) (.dma sS) hsc)
      (.dma sR) hsrc hdst hsem) >>= k) Q := by
  obtain ⟨hU, hQ, hg, rfl⟩ := hσ
  exact run_send_agR (v := vals J) (fin := finv J) (K := K) i hi.1 hi.2 hdv hs hr ho hU hQ hg Cg_split (Cg_join.trans h)
/-- A hop to the left is sent. -/
theorem goL (i : Fin 30) (hi : ¬ i.val < 23) {dv : Dev nD} {off : Fin 3 → ℕ} {sS sR : DmaSem sig}
    (hdv : dv = tgt i c) (hs : sS = sndD i) (hr : sR = rcvD i) (ho : off = ![(agChunk i c).val, 0, 0])
    (hσ : i ∈ σ.U ∧ i ∉ σ.Q ∧ agOff i ∈ σ.gr ∧ ({σ with U := σ.U.erase i, Q := insert i σ.Q, gr := σ.gr.erase (agOff i)} : Ph) = σ')
    {hb : ∀ a, off a + S1x128x1024.size a ≤ S16x128x1024.size a} {h1 h2 hsc} {hsrc} {hdst} {hsem} {k : PUnit → PP F α}
    (h : Cg J K c σ' q X ⊢ run c (k ⟨⟩) Q) :
    Cg J K c σ q X ⊢ run c (Prog.lift (.enqueueDma ((gatM.slice (Rect.unit (s := S16x128x1024) off S1x128x1024.size hb) h1).squeeze S128x1024 squeezes_S1x128x1024_S128x1024)
      (.remote (Dev.tc dv) ((gatM.slice (Rect.unit (s := S16x128x1024) off S1x128x1024.size hb) h2).squeeze S128x1024 squeezes_S1x128x1024_S128x1024) (.dma sS) hsc)
      (.dma sR) hsrc hdst hsem) >>= k) Q := by
  obtain ⟨hU, hQ, hg, rfl⟩ := hσ
  exact run_send_agL (v := vals J) (fin := finv J) (K := K) i hi hdv hs hr ho hU hQ hg Cg_split (Cg_join.trans h)
/-- A chunk comes. -/
theorem come (i : Fin 30) (hi : ¬ i.val < 15) {sh : Shape} {e : EltTy} {m : Memref sig .tc .vmem sh e} {off' : Fin 3 → ℕ} {sR : DmaSem sig} {k' : Fin 16}
    (hr : sR = rcvD i) (ho' : off' = ![k'.val, 0, 0])
    (hσ : i ∈ σ.V ∧ i ∉ σ.VD ∧ (∀ j ∈ σ.U, rank i < rank j) ∧ inOff i ∉ σ.gl ∧ inOff i ∉ σ.gr
      ∧ ({σ with V := σ.V.erase i, VD := insert i σ.VD, gl := insert (inOff i) σ.gl, gr := insert (inOff i) σ.gr} : Ph) = σ')
    {hb' : ∀ a, off' a + S1x128x1024.size a ≤ S16x128x1024.size a} {h2} {hsrc : m.view.WordExact} {hdst} {k : PUnit → PP F α}
    (h : Cg J K c σ' q X ⊢ run c (k ⟨⟩) Q) :
    Cg J K c σ q X ⊢ run c (Prog.lift (.waitDma2 sR m
      ((gatM.slice (Rect.unit (s := S16x128x1024) off' S1x128x1024.size hb') h2).squeeze S128x1024 squeezes_S1x128x1024_S128x1024) hsrc hdst) >>= k) Q := by
  obtain ⟨hV, hVD, hw, hl, hr', rfl⟩ := hσ
  exact run_recv_ag (v := vals J) (fin := finv J) (K := K) i hi hr ⟨k', ho'⟩ hV hVD hw hl hr' Cg_split (Cg_join.trans h)
/-- A hop of the reduce-scatter is seen gone. -/
theorem goneS (i : Fin 30) (hi : i.val < 15) {sh : Shape} {e : EltTy} {m : Memref sig .tc .vmem sh e} {off : Fin 2 → ℕ} {sS : DmaSem sig} {k' : Fin 16}
    (hs : sS = sndD i) (ho : off = ![128 * k'.val, 0])
    (hσ : i ∈ σ.Q ∧ i ∉ σ.Z ∧ rsOff i ∉ σ.T ∧ ({σ with Q := σ.Q.erase i, Z := insert i σ.Z, T := insert (rsOff i) σ.T} : Ph) = σ')
    {hb : ∀ a, off a + S128x1024.size a ≤ S2048x1024.size a} {h1} {hsrc : m.view.WordExact} {hdst} {k : PUnit → PP F α}
    (h : Cg J K c σ' q X ⊢ run c (k ⟨⟩) Q) :
    Cg J K c σ q X ⊢ run c (Prog.lift (.waitDma2 sS m (outM.slice (Rect.unit (s := S2048x1024) off S128x1024.size hb) h1) hsrc hdst) >>= k) Q := by
  obtain ⟨hQ, hZ, hT, rfl⟩ := hσ
  exact run_sent_rs (v := vals J) (fin := finv J) (K := K) i hi hs ⟨k', ho⟩ hQ hZ hT Cg_split (Cg_join.trans h)
/-- A hop to the right is seen gone. -/
theorem goneR (i : Fin 30) (hi : ¬ i.val < 15 ∧ i.val < 23) {sh : Shape} {e : EltTy} {m : Memref sig .tc .vmem sh e} {off' : Fin 3 → ℕ} {sS : DmaSem sig} {k' : Fin 16}
    (hs : sS = sndD i) (ho' : off' = ![k'.val, 0, 0])
    (hσ : i ∈ σ.Q ∧ i ∉ σ.Z ∧ agOff i ∉ σ.gl ∧ ({σ with Q := σ.Q.erase i, Z := insert i σ.Z, gl := insert (agOff i) σ.gl} : Ph) = σ')
    {hb' : ∀ a, off' a + S1x128x1024.size a ≤ S16x128x1024.size a} {h2} {hsrc : m.view.WordExact} {hdst} {k : PUnit → PP F α}
    (h : Cg J K c σ' q X ⊢ run c (k ⟨⟩) Q) :
    Cg J K c σ q X ⊢ run c (Prog.lift (.waitDma2 sS m
      ((gatM.slice (Rect.unit (s := S16x128x1024) off' S1x128x1024.size hb') h2).squeeze S128x1024 squeezes_S1x128x1024_S128x1024) hsrc hdst) >>= k) Q := by
  obtain ⟨hQ, hZ, hg, rfl⟩ := hσ
  exact run_sent_agR (v := vals J) (fin := finv J) (K := K) i hi.1 hi.2 hs ⟨k', ho'⟩ hQ hZ hg Cg_split (Cg_join.trans h)
/-- A hop to the left is seen gone. -/
theorem goneL (i : Fin 30) (hi : ¬ i.val < 23) {sh : Shape} {e : EltTy} {m : Memref sig .tc .vmem sh e} {off' : Fin 3 → ℕ} {sS : DmaSem sig} {k' : Fin 16}
    (hs : sS = sndD i) (ho' : off' = ![k'.val, 0, 0])
    (hσ : i ∈ σ.Q ∧ i ∉ σ.Z ∧ agOff i ∉ σ.gr ∧ ({σ with Q := σ.Q.erase i, Z := insert i σ.Z, gr := insert (agOff i) σ.gr} : Ph) = σ')
    {hb' : ∀ a, off' a + S1x128x1024.size a ≤ S16x128x1024.size a} {h2} {hsrc : m.view.WordExact} {hdst} {k : PUnit → PP F α}
    (h : Cg J K c σ' q X ⊢ run c (k ⟨⟩) Q) :
    Cg J K c σ q X ⊢ run c (Prog.lift (.waitDma2 sS m
      ((gatM.slice (Rect.unit (s := S16x128x1024) off' S1x128x1024.size hb') h2).squeeze S128x1024 squeezes_S1x128x1024_S128x1024) hsrc hdst) >>= k) Q := by
  obtain ⟨hQ, hZ, hg, rfl⟩ := hσ
  exact run_sent_agL (v := vals J) (fin := finv J) (K := K) i hi hs ⟨k', ho'⟩ hQ hZ hg Cg_split (Cg_join.trans h)
/-- A chunk's rows are stored. -/
theorem put (o : Fin 16) {off' : Fin 2 → ℕ} (ho' : off' = ![128 * (chunk c o).val, 0]) {w : Vec F S128x1024 .f32} (hw : w = finv J c o)
    (hσ : o ∈ σ.T ∧ o ∉ σ.D ∧ ({σ with T := σ.T.erase o, D := insert o σ.D} : Ph) = σ')
    {hb : ∀ a, off' a + S128x1024.size a ≤ S2048x1024.size a} {hl hx hm} {k : PUnit → PP F α}
    (h : Cg J K c σ' q X ⊢ run c (k ⟨⟩) Q) :
    Cg J K c σ q X ⊢ run c (Prog.lift (.load outM (Rect.unit (s := S2048x1024) off' S128x1024.size hb).toLoadRect hl) >>= fun _ =>
      Prog.lift (.store outM (Rect.unit (s := S2048x1024) off' S128x1024.size hb) w Finset.univ hx hm) >>= k) Q := by
  obtain ⟨hT, hD, rfl⟩ := hσ
  have h1 : Cg J K c σ q X ⊢ iprop(someAt c (rowM (chunk c o)) ∗ Cg J K c {σ with T := σ.T.erase o} q X) := by
    iintro ⟨Hq, HO, HS, HX⟩
    ihave HS := (take_row hT) $$ HS
    icases HS with ⟨HR, HS⟩
    isplitl [HR]; · iexact HR
    isplitl [Hq]; · iexact Hq
    isplitl [HO]; · iexact HO
    isplitl [HS]; · iexact HS
    iexact HX
  refine h1.trans (run_row_ld ho' (Lends.self _).left fun _ => run_bind (run_row_st ho' hw BIBase.Entails.refl (BIBase.Entails.trans ?_ h)))
  iintro ⟨HR, Hq, HO, HS, HX⟩
  isplitl [Hq]; · iexact Hq
  isplitl [HO]; · iexact HO
  isplitl [HR HS]
  · iapply (put_done (σ := {σ with T := σ.T.erase o}) hD)
    isplitl [HR]; · iexact HR
    iexact HS
  iexact HX
theorem ldl {o : Fin 16} (ho : o ∈ σ.gl) : Lends (Cg J K c σ q X) (owns (c : Thread nD τ) (gslotM (chunk c o)) (fullShare : PosShare TreeShare).left ((vals J).ag (chunk c o))) :=
  (lends_gl ho).left.right.right
theorem ldr {o : Fin 16} (ho : o ∈ σ.gr) : Lends (Cg J K c σ q X) (owns (c : Thread nD τ) (gslotM (chunk c o)) (fullShare : PosShare TreeShare).right ((vals J).ag (chunk c o))) :=
  (lends_gr ho).left.right.right
/-- A chunk is read. -/
theorem see (o : Fin 16) {off : Fin 3 → ℕ} (ho : off = ![(chunk c o).val, 0, 0]) (hσ : o ∈ σ.gl ∨ o ∈ σ.gr)
    {hb : ∀ a, off a + S1x128x1024.size a ≤ S16x128x1024.size a} {hl} {k : Vec F S1x128x1024 .bf16 → PP F α}
    (h : Cg J K c σ q X ⊢ run c (k (up ((vals J).ag (chunk c o)))) Q) :
    Cg J K c σ q X ⊢ run c (Prog.lift (.load gatM (Rect.unit (s := S16x128x1024) off S1x128x1024.size hb).toLoadRect hl) >>= k) Q := by
  rcases hσ with hg | hg
  · exact run_chunk_rd ho (ldl hg) h
  · exact run_chunk_rd ho (ldr hg) h
theorem fin_ne {o : Fin 16} (ho : o ≠ 0) : k0_pay33 (up ((vals J).ag (chunk c o))) = finv J c o := by unfold finv; rw [if_neg ho]

/-! ## Where the chunks stand -/

theorem o50 : ∀ (c : Dev nD) (r : Fin 8), k0_off50 c (BitVec.ofNat 32 r.val) = ![128 * (ck (c.val + 40 - r.val)).val, 0] := by decide +kernel
theorem o51 : ∀ (c : Dev nD) (r : Fin 7), k0_off51 c (BitVec.ofNat 32 r.val) = ![128 * (ck (c.val + r.val + 25)).val, 0] := by decide +kernel
theorem o53 : ∀ c : Dev nD, k0_off53 c = ![(chunk c 0).val, 0, 0] := by decide +kernel
theorem o54 : ∀ (c : Dev nD) (r : Fin 9), k0_off54 c (BitVec.ofNat 32 r.val) = ![(chunk c (ck (16 - r.val))).val, 0, 0] := by decide +kernel
theorem o55 : ∀ (c : Dev nD) (r : Fin 8), k0_off55 c (BitVec.ofNat 32 (1 + r.val)) = ![(chunk c (ck (15 - r.val))).val, 0, 0] := by decide +kernel
theorem o56 : ∀ (c : Dev nD) (r : Fin 8), k0_off56 c (BitVec.ofNat 32 (1 + r.val)) = ![128 * (chunk c (ck (15 - r.val))).val, 0] := by decide +kernel
theorem o57 : ∀ (c : Dev nD) (r : Fin 8), k0_off57 c (BitVec.ofNat 32 r.val) = ![(chunk c (ck r.val)).val, 0, 0] := by decide +kernel
theorem o58 : ∀ (c : Dev nD) (r : Fin 7), k0_off58 c (BitVec.ofNat 32 (1 + r.val)) = ![(chunk c (ck (1 + r.val))).val, 0, 0] := by decide +kernel
theorem o59 : ∀ (c : Dev nD) (r : Fin 7), k0_off59 c (BitVec.ofNat 32 (1 + r.val)) = ![128 * (chunk c (ck (1 + r.val))).val, 0] := by decide +kernel

end Cert.KernelIdeal.Ring
-- ==== Proof.KernelIdeal.Gather1.lean ====
/- The all-gather's first operations. -/
module

public import proofs.«01_k».proof.Proof.KernelIdeal.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {K : Dev nD × Ci → ℕ} {σ σ' : Ph} {q : Vec F S128x1024 .bf16}

/-! ## The waits for the reduce-scatter's hops -/

/-- The part that sees hops of the reduce-scatter gone. -/
theorem run_part8 {k : PUnit → sProp (MM F)} (h : Cg J K c (phS 3) q X ⊢ k ⟨⟩) :
    Cg J K c (phS 0) q X ⊢ run c (k0_part8 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) ) k := by
  rw [k0_part8_eq_skeleton]
  dsimp only [k0_part8_skel]
  exact goneS 0 (by decide) rfl (o50 c 0) (σ' := phS 1) (by decide +kernel)
    (goneS 1 (by decide) rfl (o50 c 1) (σ' := phS 2) (by decide +kernel)
    (goneS 2 (by decide) rfl (o50 c 2) (σ' := phS 3) (by decide +kernel) (run_pure h)))

/-- The part that sees hops of the reduce-scatter gone. -/
theorem run_part9 {k : BitVec 32 → sProp (MM F)} (h : ∀ w, Cg J K c (phS 6) q X ⊢ k w) :
    Cg J K c (phS 3) q X ⊢ run c (k0_part9 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) ) k := by
  rw [k0_part9_eq_skeleton]
  dsimp only [k0_part9_skel]
  exact goneS 3 (by decide) rfl (o50 c 3) (σ' := phS 4) (by decide +kernel)
    (goneS 4 (by decide) rfl (o50 c 4) (σ' := phS 5) (by decide +kernel)
    (goneS 5 (by decide) rfl (o50 c 5) (σ' := phS 6) (by decide +kernel) (run_pure (h _))))

/-- The part that sees hops of the reduce-scatter gone. -/
theorem run_part10 {w1 : BitVec 32} {k : PUnit → sProp (MM F)} (h : Cg J K c (phS 8) q X ⊢ k ⟨⟩) :
    Cg J K c (phS 6) q X ⊢ run c (k0_part10 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1) k := by
  rw [k0_part10_eq_skeleton]
  dsimp only [k0_part10_skel]
  exact goneS 6 (by decide) rfl (o50 c 6) (σ' := phS 7) (by decide +kernel)
    (goneS 7 (by decide) rfl (o50 c 7) (σ' := phS 8) (by decide +kernel) (run_pure h))

/-- The part that sees hops of the reduce-scatter gone. -/
theorem run_part11 {k : (Σ' (_ : BitVec 32), BitVec 32) → sProp (MM F)} (h : ∀ w, Cg J K c (phS 11) q X ⊢ k w) :
    Cg J K c (phS 8) q X ⊢ run c (k0_part11 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) ) k := by
  rw [k0_part11_eq_skeleton]
  dsimp only [k0_part11_skel]
  exact goneS 8 (by decide) rfl (o51 c 0) (σ' := phS 9) (by decide +kernel)
    (goneS 9 (by decide) rfl (o51 c 1) (σ' := phS 10) (by decide +kernel)
    (goneS 10 (by decide) rfl (o51 c 2) (σ' := phS 11) (by decide +kernel) (run_pure (h _))))

/-- The part that sees hops of the reduce-scatter gone. -/
theorem run_part12 {w1 w2 : BitVec 32} {k : PUnit → sProp (MM F)} (h : Cg J K c (phS 14) q X ⊢ k ⟨⟩) :
    Cg J K c (phS 11) q X ⊢ run c (k0_part12 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part12_eq_skeleton]
  dsimp only [k0_part12_skel]
  exact goneS 11 (by decide) rfl (o51 c 3) (σ' := phS 12) (by decide +kernel)
    (goneS 12 (by decide) rfl (o51 c 4) (σ' := phS 13) (by decide +kernel)
    (goneS 13 (by decide) rfl (o51 c 5) (σ' := phS 14) (by decide +kernel) (run_pure h)))

/-! ## The device's own chunk -/

theorem off1_eq' : ∀ c : Dev nD, k0_off1 c = ![128 * (chunk c 0).val, 0] := by decide +kernel
theorem off52_eq : ∀ c : Dev nD, k0_off52 c = ![(chunk c 0).val, 0, 0] := by decide +kernel
theorem ag_own : (vals J).ag (chunk c 0) = down (e := .bf16) (k0_pay32 (tot J c)) :=
  congrArg (fun d : Dev nD => down (e := .bf16) (k0_pay32 (tot J d)))
    ((show ∀ c : Dev nD, (⟨(chunk c 0).val, (chunk c 0).isLt⟩ : Dev nD) = c by decide +kernel) c)
/-- The own slot is filled with the rounded sum: the slot is then held whole in the two halves that the two directions send from. -/
theorem run_own {off : Fin 3 → ℕ} (ho : off = ![(chunk c 0).val, 0, 0]) {hb : ∀ a, off a + S1x128x1024.size a ≤ S16x128x1024.size a}
    {hl : gatM.view.LoadsAt (Rect.unit (s := S16x128x1024) off S1x128x1024.size hb).toLoadRect} {hx hm} {k : PUnit → PP F α}
    (h : Cg J K c (phG 15 0 0 0 0 0 0) q X ⊢ run c (k ⟨⟩) Q) :
    Cg J K c (phS 15) q iprop(owns (c : Thread nD τ) (rowM (chunk c 0)) fullShare (tot J c) ∗ someAt c (gslotM (chunk c 0)) ∗ X)
      ⊢ run c (Prog.lift (.load gatM (Rect.unit (s := S16x128x1024) off S1x128x1024.size hb).toLoadRect hl) >>= fun _ =>
        Prog.lift (.store gatM (Rect.unit (s := S16x128x1024) off S1x128x1024.size hb) (k0_pay32 (tot J c)) Finset.univ hx hm) >>= k) Q := by
  subst ho
  have h1 : Cg J K c (phS 15) q iprop(owns (c : Thread nD τ) (rowM (chunk c 0)) fullShare (tot J c) ∗ someAt c (gslotM (chunk c 0)) ∗ X)
      ⊢ iprop(someAt c (gatM.slice (Rect.unit (s := S16x128x1024) ![(chunk c 0).val, 0, 0] S1x128x1024.size hb) (fun _ => rfl))
        ∗ owns (c : Thread nD τ) (rowM (chunk c 0)) fullShare (tot J c) ∗ Cg J K c (phS 15) q X) := by
    iintro ⟨Hq, HO, HS, HR, HG, HX⟩
    isplitl [HG]
    · iapply (someAt_unsq (h := squeezes_S1x128x1024_S128x1024)); iexact HG
    isplitl [HR]; · iexact HR
    isplitl [Hq]; · iexact Hq
    isplitl [HO]; · iexact HO
    isplitl [HS]; · iexact HS
    iexact HX
  refine h1.trans (run_load_any (c := c) (m := gatM) (hr := fun _ => rfl) (Lends.self _).left fun _ => run_store BIBase.Entails.refl (BIBase.Entails.trans ?_ h))
  have hσ : phG 15 0 0 0 0 0 0 = ({phS 15 with D := insert 0 (phS 15).D, gl := insert 0 (phS 15).gl, gr := insert 0 (phS 15).gr} : Ph) := by decide +kernel
  have hin : (owns (c : Thread nD τ) (gatM.slice (Rect.unit (s := S16x128x1024) ![(chunk c 0).val, 0, 0] S1x128x1024.size hb) (fun _ => rfl)) fullShare (k0_pay32 (tot J c)) : sProp (MM F))
      ⊢ iprop(owns (c : Thread nD τ) (gslotM (chunk c 0)) (fullShare : PosShare TreeShare).left ((vals J).ag (chunk c 0))
        ∗ owns (c : Thread nD τ) (gslotM (chunk c 0)) (fullShare : PosShare TreeShare).right ((vals J).ag (chunk c 0))) := by
    refine BIBase.Entails.trans ?_ (owns_halves _ _ _ _).1
    rw [ag_own]
    refine BIBase.Entails.trans ?_ (owns_sq (h := squeezes_S1x128x1024_S128x1024))
    rw [up_down]
  rw [Cg, Cx, hσ]
  iintro ⟨HG, HR, Hq, HO, HS, HX⟩
  ihave HG := hin $$ HG
  icases HG with ⟨Hl, Hr⟩
  isplitl [Hq]; · iexact Hq
  isplitl [HO]; · iexact HO
  isplitl [HR HS Hl Hr]
  · iapply (put_gr (v := vals J) (fin := finv J) (K := K) (c := c) (o := 0) (σ := ({phS 15 with D := insert 0 (phS 15).D, gl := insert 0 (phS 15).gl} : Ph)) (by decide +kernel))
    isplitl [Hr]; · iexact Hr
    iapply (put_gl (v := vals J) (fin := finv J) (K := K) (c := c) (o := 0) (σ := ({phS 15 with D := insert 0 (phS 15).D} : Ph)) (by decide +kernel))
    isplitl [Hl]; · iexact Hl
    iapply (put_done (v := vals J) (fin := finv J) (K := K) (c := c) (o := 0) (σ := phS 15) (by decide +kernel))
    isplitl [HR]; · iexact HR
    iexact HS
  iexact HX

/-- The part that puts the device's own sum in its slot and sends it to the right. -/
theorem run_part13 {w5 w7 : BitVec 32} {k : BitVec 32 → sProp (MM F)} (h : ∀ w, Cg J K c (phG 15 1 0 0 0 0 0) q X ⊢ k w) :
    Cg J K c (phS 14) q iprop(owns (c : Thread nD τ) (rowM (chunk c 0)) fullShare (tot J c) ∗ someAt c (gslotM (chunk c 0)) ∗ X) ⊢ run c (k0_part13 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w5 w7) k := by
  rw [k0_part13_eq_skeleton]
  dsimp only [k0_part13_skel]
  refine goneS 14 (by decide) rfl (o51 c 6) (σ' := phS 15) (by decide +kernel) ?_
  refine run_row_rd (off1_eq' c) (Lends.self _).left.right.right.right ?_
  refine run_own (off52_eq c) ?_
  exact goR 15 (by decide) (Fin.ext (k0_dev5_eq c)) rfl rfl (o53 c) (σ' := phG 15 1 0 0 0 0 0) (by decide +kernel) (run_pure (h _))

end Cert.KernelIdeal.Ring
-- ==== Proof.KernelIdeal.Gather2.lean ====
/- The all-gather's first hops. -/
module

public import proofs.«01_k».proof.Proof.KernelIdeal.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {K : Dev nD × Ci → ℕ} {σ σ' : Ph} {q : Vec F S128x1024 .bf16}

/-! ## The waits for the reduce-scatter's hops -/

/-- The part that sends its chunk to the left and takes the first from the left. -/
theorem run_part14 {w1 w2 w3 : BitVec 32} {k : PUnit → sProp (MM F)} (h : Cg J K c (phG 15 1 1 1 0 0 0) q X ⊢ k ⟨⟩) :
    Cg J K c (phG 15 1 0 0 0 0 0) q X ⊢ run c (k0_part14 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2 w3) k := by
  rw [k0_part14_eq_skeleton]
  dsimp only [k0_part14_skel]
  exact goL 23 (by decide) (Fin.ext (k0_dev6_eq c)) rfl rfl (o53 c) (σ' := phG 15 1 1 0 0 0 0) (by decide +kernel)
    (come 15 (by decide) rfl (o54 c 1) (σ' := phG 15 1 1 1 0 0 0) (by decide +kernel) (run_pure h))

/-- The part that passes the first chunk on, stores its rows and takes the first from the right. -/
theorem run_part15 {w1 w2 : BitVec 32} {k : PUnit → sProp (MM F)} (h : Cg J K c (phG 15 2 1 1 1 1 0) q X ⊢ k ⟨⟩) :
    Cg J K c (phG 15 1 1 1 0 0 0) q X ⊢ run c (k0_part15 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part15_eq_skeleton]
  dsimp only [k0_part15_skel]
  exact goR 16 (by decide) (Fin.ext (k0_dev7_eq c)) rfl rfl (o54 c 1) (σ' := phG 15 2 1 1 0 0 0) (by decide +kernel)
    (see 15 (o55 c 0) (by decide +kernel) (put 15 (o56 c 0) (fin_ne (by decide)) (σ' := phG 15 2 1 1 0 1 0) (by decide +kernel)
    (come 23 (by decide) rfl (o57 c 1) (σ' := phG 15 2 1 1 1 1 0) (by decide +kernel) (run_pure h))))

/-- The part that goes on in turn. -/
theorem run_part16 {w1 w2 : BitVec 32} {k : BitVec 32 → sProp (MM F)} (h : ∀ w, Cg J K c (phG 15 2 2 2 1 1 1) q X ⊢ k w) :
    Cg J K c (phG 15 2 1 1 1 1 0) q X ⊢ run c (k0_part16 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part16_eq_skeleton]
  dsimp only [k0_part16_skel]
  exact goL 24 (by decide) (Fin.ext (k0_dev8_eq c)) rfl rfl (o57 c 1) (σ' := phG 15 2 2 1 1 1 0) (by decide +kernel)
    (see 1 (o58 c 0) (by decide +kernel) (put 1 (o59 c 0) (fin_ne (by decide)) (σ' := phG 15 2 2 1 1 1 1) (by decide +kernel)
    (come 16 (by decide) rfl (o54 c 2) (σ' := phG 15 2 2 2 1 1 1) (by decide +kernel) (run_pure (h _)))))

/-- The part that goes on in turn. -/
theorem run_part17 {w1 w2 : BitVec 32} {k : BitVec 32 → sProp (MM F)} (h : ∀ w, Cg J K c (phG 15 3 2 2 2 2 1) q X ⊢ k w) :
    Cg J K c (phG 15 2 2 2 1 1 1) q X ⊢ run c (k0_part17 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part17_eq_skeleton]
  dsimp only [k0_part17_skel]
  exact goR 17 (by decide) (Fin.ext (k0_dev9_eq c)) rfl rfl (o54 c 2) (σ' := phG 15 3 2 2 1 1 1) (by decide +kernel)
    (see 14 (o55 c 1) (by decide +kernel) (put 14 (o56 c 1) (fin_ne (by decide)) (σ' := phG 15 3 2 2 1 2 1) (by decide +kernel)
    (come 24 (by decide) rfl (o57 c 2) (σ' := phG 15 3 2 2 2 2 1) (by decide +kernel) (run_pure (h _)))))

/-- The part that goes on in turn. -/
theorem run_part18 {w1 w2 : BitVec 32} {k : PUnit → sProp (MM F)} (h : Cg J K c (phG 15 3 3 2 2 2 2) q X ⊢ k ⟨⟩) :
    Cg J K c (phG 15 3 2 2 2 2 1) q X ⊢ run c (k0_part18 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part18_eq_skeleton]
  dsimp only [k0_part18_skel]
  exact goL 25 (by decide) (Fin.ext (k0_dev10_eq c)) rfl rfl (o57 c 2) (σ' := phG 15 3 3 2 2 2 1) (by decide +kernel)
    (see 2 (o58 c 1) (by decide +kernel) (put 2 (o59 c 1) (fin_ne (by decide)) (σ' := phG 15 3 3 2 2 2 2) (by decide +kernel) (run_pure h)))

/-- The part that goes on in turn. -/
theorem run_part19 {w1 : BitVec 32} {k : PUnit → sProp (MM F)} (h : Cg J K c (phG 15 4 3 3 2 3 2) q X ⊢ k ⟨⟩) :
    Cg J K c (phG 15 3 3 2 2 2 2) q X ⊢ run c (k0_part19 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1) k := by
  rw [k0_part19_eq_skeleton]
  dsimp only [k0_part19_skel]
  exact come 17 (by decide) rfl (o54 c 3) (σ' := phG 15 3 3 3 2 2 2) (by decide +kernel)
    (goR 18 (by decide) (Fin.ext (k0_dev11_eq c)) rfl rfl (o54 c 3) (σ' := phG 15 4 3 3 2 2 2) (by decide +kernel)
    (see 13 (o55 c 2) (by decide +kernel) (put 13 (o56 c 2) (fin_ne (by decide)) (σ' := phG 15 4 3 3 2 3 2) (by decide +kernel) (run_pure h))))

/-- The part that goes on in turn. -/
theorem run_part20 {w1 : BitVec 32} {k : BitVec 32 → sProp (MM F)} (h : ∀ w, Cg J K c (phG 15 4 4 3 3 3 3) q X ⊢ k w) :
    Cg J K c (phG 15 4 3 3 2 3 2) q X ⊢ run c (k0_part20 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1) k := by
  rw [k0_part20_eq_skeleton]
  dsimp only [k0_part20_skel]
  exact come 25 (by decide) rfl (o57 c 3) (σ' := phG 15 4 3 3 3 3 2) (by decide +kernel)
    (goL 26 (by decide) (Fin.ext (k0_dev12_eq c)) rfl rfl (o57 c 3) (σ' := phG 15 4 4 3 3 3 2) (by decide +kernel)
    (see 3 (o58 c 2) (by decide +kernel) (put 3 (o59 c 2) (fin_ne (by decide)) (σ' := phG 15 4 4 3 3 3 3) (by decide +kernel) (run_pure (h _)))))

/-- The part that goes on in turn. -/
theorem run_part21 {w1 w2 w3 : BitVec 32} {k : (Σ' (_ : BitVec 32), BitVec 32) → sProp (MM F)} (h : ∀ w, Cg J K c (phG 15 5 4 4 3 4 3) q X ⊢ k w) :
    Cg J K c (phG 15 4 4 3 3 3 3) q X ⊢ run c (k0_part21 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2 w3) k := by
  rw [k0_part21_eq_skeleton]
  dsimp only [k0_part21_skel]
  exact come 18 (by decide) rfl (o54 c 4) (σ' := phG 15 4 4 4 3 3 3) (by decide +kernel)
    (goR 19 (by decide) (Fin.ext (k0_dev13_eq c)) rfl rfl (o54 c 4) (σ' := phG 15 5 4 4 3 3 3) (by decide +kernel)
    (see 12 (o55 c 3) (by decide +kernel) (put 12 (o56 c 3) (fin_ne (by decide)) (σ' := phG 15 5 4 4 3 4 3) (by decide +kernel) (run_pure (h _)))))

/-- The part that goes on in turn and reads the chunk it stores next. -/
theorem run_part22 {w1 w2 w3 w4 : BitVec 32} {k : FVec F S128x1024 .f32 → sProp (MM F)} (h : Cg J K c (phG 15 5 5 4 4 4 3) q X ⊢ k (finv J c 4)) :
    Cg J K c (phG 15 5 4 4 3 4 3) q X ⊢ run c (k0_part22 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2 w3 w4) k := by
  rw [k0_part22_eq_skeleton]
  dsimp only [k0_part22_skel]
  exact come 26 (by decide) rfl (o57 c 4) (σ' := phG 15 5 4 4 4 4 3) (by decide +kernel)
    (goL 27 (by decide) (Fin.ext (k0_dev14_eq c)) rfl rfl (o57 c 4) (σ' := phG 15 5 5 4 4 4 3) (by decide +kernel)
    (see 4 (o58 c 3) (by decide +kernel) (run_pure h)))

/-- The part that stores that chunk's rows and goes on. -/
theorem run_part23 {w1 w2 : BitVec 32} {k : BitVec 32 → sProp (MM F)} (h : ∀ w, Cg J K c (phG 15 6 5 5 4 4 4) q X ⊢ k w) :
    Cg J K c (phG 15 5 5 4 4 4 3) q X ⊢ run c (k0_part23 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2 (finv J c 4)) k := by
  rw [k0_part23_eq_skeleton]
  dsimp only [k0_part23_skel]
  exact put 4 (o59 c 3) rfl (σ' := phG 15 5 5 4 4 4 4) (by decide +kernel)
    (come 19 (by decide) rfl (o54 c 5) (σ' := phG 15 5 5 5 4 4 4) (by decide +kernel)
    (goR 20 (by decide) (Fin.ext (k0_dev15_eq c)) rfl rfl (o54 c 5) (σ' := phG 15 6 5 5 4 4 4) (by decide +kernel) (run_pure (h _))))

end Cert.KernelIdeal.Ring
-- ==== Proof.KernelIdeal.Gather3.lean ====
/- The all-gather's last hops. -/
module

public import proofs.«01_k».proof.Proof.KernelIdeal.Hops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {K : Dev nD × Ci → ℕ} {σ σ' : Ph} {q : Vec F S128x1024 .bf16}

/-! ## The waits for the reduce-scatter's hops -/

/-- The part that goes on in turn. -/
theorem run_part24 {w1 w2 w3 : BitVec 32} {k : (Σ' (_ : BitVec 32), BitVec 32) → sProp (MM F)} (h : ∀ w, Cg J K c (phG 15 6 6 5 5 5 4) q X ⊢ k w) :
    Cg J K c (phG 15 6 5 5 4 4 4) q X ⊢ run c (k0_part24 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2 w3) k := by
  rw [k0_part24_eq_skeleton]
  dsimp only [k0_part24_skel]
  exact see 11 (o55 c 4) (by decide +kernel) (put 11 (o56 c 4) (fin_ne (by decide)) (σ' := phG 15 6 5 5 4 5 4) (by decide +kernel)
    (come 27 (by decide) rfl (o57 c 5) (σ' := phG 15 6 5 5 5 5 4) (by decide +kernel)
    (goL 28 (by decide) (Fin.ext (k0_dev16_eq c)) rfl rfl (o57 c 5) (σ' := phG 15 6 6 5 5 5 4) (by decide +kernel) (run_pure (h _)))))

/-- The part that goes on in turn. -/
theorem run_part25 {w1 w2 w3 w4 : BitVec 32} {k : PUnit → sProp (MM F)} (h : Cg J K c (phG 15 6 6 6 5 5 5) q X ⊢ k ⟨⟩) :
    Cg J K c (phG 15 6 6 5 5 5 4) q X ⊢ run c (k0_part25 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2 w3 w4) k := by
  rw [k0_part25_eq_skeleton]
  dsimp only [k0_part25_skel]
  exact see 5 (o58 c 4) (by decide +kernel) (put 5 (o59 c 4) (fin_ne (by decide)) (σ' := phG 15 6 6 5 5 5 5) (by decide +kernel)
    (come 20 (by decide) rfl (o54 c 6) (σ' := phG 15 6 6 6 5 5 5) (by decide +kernel) (run_pure h)))

/-- The part that goes on in turn. -/
theorem run_part26 {w1 w2 : BitVec 32} {k : PUnit → sProp (MM F)} (h : Cg J K c (phG 15 7 6 6 6 6 5) q X ⊢ k ⟨⟩) :
    Cg J K c (phG 15 6 6 6 5 5 5) q X ⊢ run c (k0_part26 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part26_eq_skeleton]
  dsimp only [k0_part26_skel]
  exact goR 21 (by decide) (Fin.ext (k0_dev17_eq c)) rfl rfl (o54 c 6) (σ' := phG 15 7 6 6 5 5 5) (by decide +kernel)
    (see 10 (o55 c 5) (by decide +kernel) (put 10 (o56 c 5) (fin_ne (by decide)) (σ' := phG 15 7 6 6 5 6 5) (by decide +kernel)
    (come 28 (by decide) rfl (o57 c 6) (σ' := phG 15 7 6 6 6 6 5) (by decide +kernel) (run_pure h))))

/-- The part that goes on in turn. -/
theorem run_part27 {w1 w2 : BitVec 32} {k : BitVec 32 → sProp (MM F)} (h : ∀ w, Cg J K c (phG 15 7 7 7 6 6 6) q X ⊢ k w) :
    Cg J K c (phG 15 7 6 6 6 6 5) q X ⊢ run c (k0_part27 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part27_eq_skeleton]
  dsimp only [k0_part27_skel]
  exact goL 29 (by decide) (Fin.ext (k0_dev18_eq c)) rfl rfl (o57 c 6) (σ' := phG 15 7 7 6 6 6 5) (by decide +kernel)
    (see 6 (o58 c 5) (by decide +kernel) (put 6 (o59 c 5) (fin_ne (by decide)) (σ' := phG 15 7 7 6 6 6 6) (by decide +kernel)
    (come 21 (by decide) rfl (o54 c 7) (σ' := phG 15 7 7 7 6 6 6) (by decide +kernel) (run_pure (h _)))))

/-- The part that sends the last hop and takes the last but one. -/
theorem run_part28 {w1 w2 : BitVec 32} {k : BitVec 32 → sProp (MM F)} (h : ∀ w, Cg J K c (phG 15 8 7 8 6 7 6) q X ⊢ k w) :
    Cg J K c (phG 15 7 7 7 6 6 6) q X ⊢ run c (k0_part28 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part28_eq_skeleton]
  dsimp only [k0_part28_skel]
  exact goR 22 (by decide) (Fin.ext (k0_dev19_eq c)) rfl rfl (o54 c 7) (σ' := phG 15 8 7 7 6 6 6) (by decide +kernel)
    (see 9 (o55 c 6) (by decide +kernel) (put 9 (o56 c 6) (fin_ne (by decide)) (σ' := phG 15 8 7 7 6 7 6) (by decide +kernel)
    (come 22 (by decide) rfl (o54 c 8) (σ' := phG 15 8 7 8 6 7 6) (by decide +kernel) (run_pure (h _)))))

/-- The part that takes the last chunk. -/
theorem run_part29 {w1 w2 : BitVec 32} {k : (Σ' (_ : BitVec 32), BitVec 32) → sProp (MM F)} (h : ∀ w, Cg J K c (phG 15 8 7 8 7 8 7) q X ⊢ k w) :
    Cg J K c (phG 15 8 7 8 6 7 6) q X ⊢ run c (k0_part29 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part29_eq_skeleton]
  dsimp only [k0_part29_skel]
  exact see 8 (o55 c 7) (by decide +kernel) (put 8 (o56 c 7) (fin_ne (by decide)) (σ' := phG 15 8 7 8 6 8 6) (by decide +kernel)
    (come 29 (by decide) rfl (o57 c 7) (σ' := phG 15 8 7 8 7 8 6) (by decide +kernel)
    (see 7 (o58 c 6) (by decide +kernel) (put 7 (o59 c 6) (fin_ne (by decide)) (σ' := phG 15 8 7 8 7 8 7) (by decide +kernel) (run_pure (h _))))))

/-- The part that sees hops gone. -/
theorem run_part30 {w1 w2 : BitVec 32} {k : (Σ' (_ : BitVec 32), BitVec 32) → sProp (MM F)} (h : ∀ w, Cg J K c (phG 18 8 7 8 7 8 7) q X ⊢ k w) :
    Cg J K c (phG 15 8 7 8 7 8 7) q X ⊢ run c (k0_part30 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part30_eq_skeleton]
  dsimp only [k0_part30_skel]
  exact goneR 15 (by decide) rfl (o54 c 0) (σ' := phG 16 8 7 8 7 8 7) (by decide +kernel)
    (goneR 16 (by decide) rfl (o54 c 1) (σ' := phG 17 8 7 8 7 8 7) (by decide +kernel)
    (goneR 17 (by decide) rfl (o54 c 2) (σ' := phG 18 8 7 8 7 8 7) (by decide +kernel) (run_pure (h _))))

/-- The part that sees hops gone. -/
theorem run_part31 {w1 w2 : BitVec 32} {k : (Σ' (_ : BitVec 32), BitVec 32) → sProp (MM F)} (h : ∀ w, Cg J K c (phG 21 8 7 8 7 8 7) q X ⊢ k w) :
    Cg J K c (phG 18 8 7 8 7 8 7) q X ⊢ run c (k0_part31 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part31_eq_skeleton]
  dsimp only [k0_part31_skel]
  exact goneR 18 (by decide) rfl (o54 c 3) (σ' := phG 19 8 7 8 7 8 7) (by decide +kernel)
    (goneR 19 (by decide) rfl (o54 c 4) (σ' := phG 20 8 7 8 7 8 7) (by decide +kernel)
    (goneR 20 (by decide) rfl (o54 c 5) (σ' := phG 21 8 7 8 7 8 7) (by decide +kernel) (run_pure (h _))))

/-- The part that sees hops gone. -/
theorem run_part32 {w1 w2 : BitVec 32} {k : (Σ' (_ : BitVec 32), BitVec 32) → sProp (MM F)} (h : ∀ w, Cg J K c (phG 24 8 7 8 7 8 7) q X ⊢ k w) :
    Cg J K c (phG 21 8 7 8 7 8 7) q X ⊢ run c (k0_part32 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part32_eq_skeleton]
  dsimp only [k0_part32_skel]
  exact goneR 21 (by decide) rfl (o54 c 6) (σ' := phG 22 8 7 8 7 8 7) (by decide +kernel)
    (goneR 22 (by decide) rfl (o54 c 7) (σ' := phG 23 8 7 8 7 8 7) (by decide +kernel)
    (goneL 23 (by decide) rfl (o57 c 0) (σ' := phG 24 8 7 8 7 8 7) (by decide +kernel) (run_pure (h _))))

/-- The part that sees hops gone. -/
theorem run_part33 {w1 w2 : BitVec 32} {k : (Σ' (_ : BitVec 32), BitVec 32) → sProp (MM F)} (h : ∀ w, Cg J K c (phG 27 8 7 8 7 8 7) q X ⊢ k w) :
    Cg J K c (phG 24 8 7 8 7 8 7) q X ⊢ run c (k0_part33 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 c (BitVec.ofNat 32 c.val) w1 w2) k := by
  rw [k0_part33_eq_skeleton]
  dsimp only [k0_part33_skel]
  exact goneL 24 (by decide) rfl (o57 c 1) (σ' := phG 25 8 7 8 7 8 7) (by decide +kernel)
    (goneL 25 (by decide) rfl (o57 c 2) (σ' := phG 26 8 7 8 7 8 7) (by decide +kernel)
    (goneL 26 (by decide) rfl (o57 c 3) (σ' := phG 27 8 7 8 7 8 7) (by decide +kernel) (run_pure (h _))))

end Cert.KernelIdeal.Ring
-- ==== Proof.KernelIdeal.Body.lean ====
/- The whole body. -/
module

public import proofs.«01_k».proof.Proof.KernelIdeal.Start
public import proofs.«01_k».proof.Proof.KernelIdeal.Gather1
public import proofs.«01_k».proof.Proof.KernelIdeal.Gather2
public import proofs.«01_k».proof.Proof.KernelIdeal.Gather3

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {α : Type} {Q : α → sProp (MM F)}
variable {J : Dev nD → Inp F} {K : Dev nD × Ci → ℕ} {σ σ' : Ph} {q : Vec F S128x1024 .bf16}

/-! ## The whole body -/

theorem swap_own {s r g : sProp (MM F)} : Cg J K c σ q iprop(s ∗ r ∗ g ∗ X) ⊢ Cg J K c σ q iprop(r ∗ g ∗ X ∗ s) := by
  iintro ⟨Hq, HO, HS, Hs, Hr, Hg, HX⟩
  isplitl [Hq]; · iexact Hq
  isplitl [HO]; · iexact HO
  isplitl [HS]; · iexact HS
  isplitl [Hr]; · iexact Hr
  isplitl [Hg]; · iexact Hg
  isplitl [HX]; · iexact HX
  iexact Hs
theorem own_chunk : Cg J K c σ q iprop(owns (c : Thread nD τ) (rowM (ck c.val)) fullShare (tot J c) ∗ X)
    ⊢ Cg J K c σ q iprop(owns (c : Thread nD τ) (rowM (chunk c 0)) fullShare (tot J c) ∗ X) := by rw [cRow]

/-- All but the last two waits: from the start, with the device's own rows and its own slot in any state, to the whole result. -/
theorem run_part34 {k : (Σ' (_ : Dev nD), BitVec 32) → sProp (MM F)}
    (h : ∀ q', Cg J K c (phG 28 8 7 8 7 8 7) q' iprop(X ∗ semVal (barC c) 0) ⊢ k ⟨c, BitVec.ofNat 32 c.val⟩) :
    iprop(owns (c : Thread nD τ) qM fullShare q ∗ Ops c (J c) ∗ Start (vals J) K c ∗ someAt c (rowM (ck c.val)) ∗ someAt c (gslotM (chunk c 0)) ∗ X)
      ⊢ run c (k0_part34 (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4) k := by
  rw [k0_part34_eq_skeleton]
  dsimp only [k0_part34_skel]
  refine run_bind (run_part5 (fin := finv J) fun v5 v7 v29 => swap_own.trans ?_)
  dsimp only
  refine run_bind (run_part6 fun v58 q' => ?_)
  refine run_bind (run_part7 ?_)
  have hR : phR 8 7 8 7 = phS 0 := by decide +kernel
  rw [hR]
  refine run_bind (run_part8 ?_)
  refine run_bind (run_part9 fun w9 => ?_)
  refine run_bind (run_part10 ?_)
  refine run_bind (run_part11 fun ⟨w11, w11'⟩ => ?_)
  dsimp only
  refine run_bind (run_part12 (own_chunk.trans ?_))
  refine run_bind (run_part13 fun w13 => ?_)
  refine run_bind (run_part14 ?_)
  refine run_bind (run_part15 ?_)
  refine run_bind (run_part16 fun w16 => ?_)
  refine run_bind (run_part17 fun w17 => ?_)
  refine run_bind (run_part18 ?_)
  refine run_bind (run_part19 ?_)
  refine run_bind (run_part20 fun w20 => ?_)
  refine run_bind (run_part21 fun ⟨w21, w21'⟩ => ?_)
  dsimp only
  refine run_bind (run_part22 ?_)
  refine run_bind (run_part23 fun w23 => ?_)
  refine run_bind (run_part24 fun ⟨w24, w24'⟩ => ?_)
  dsimp only
  refine run_bind (run_part25 ?_)
  refine run_bind (run_part26 ?_)
  refine run_bind (run_part27 fun w27 => ?_)
  refine run_bind (run_part28 fun w28 => ?_)
  refine run_bind (run_part29 fun ⟨w29, w29'⟩ => ?_)
  dsimp only
  refine run_bind (run_part30 fun ⟨w30, w30'⟩ => ?_)
  dsimp only
  refine run_bind (run_part31 fun ⟨w31, w31'⟩ => ?_)
  dsimp only
  refine run_bind (run_part32 fun ⟨w32, w32'⟩ => ?_)
  dsimp only
  refine run_bind (run_part33 fun ⟨w33, w33'⟩ => ?_)
  exact goneL 27 (by decide) rfl (o57 c 4) (σ' := phG 28 8 7 8 7 8 7) (by decide +kernel) (run_pure (h _))

/-- The whole body. -/
theorem run_body {k : PUnit → sProp (MM F)}
    (h : ∀ q', Cg J K c (phG 30 8 7 8 7 8 7) q' iprop(X ∗ semVal (barC c) 0) ⊢ k ⟨⟩) :
    iprop(owns (c : Thread nD τ) qM fullShare q ∗ Ops c (J c) ∗ Start (vals J) K c ∗ someAt c (rowM (ck c.val)) ∗ someAt c (gslotM (chunk c 0)) ∗ X)
      ⊢ run c (cc0_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4) k := by
  rw [cc0_body_eq_skeleton]
  dsimp only [cc0_body_skel]
  refine run_bind (run_part34 fun q' => ?_)
  dsimp only
  exact goneL 28 (by decide) rfl (o57 c 5) (σ' := phG 29 8 7 8 7 8 7) (by decide +kernel)
    (goneL 29 (by decide) rfl (o57 c 6) (σ' := phG 30 8 7 8 7 8 7) (by decide +kernel) (run_pure (h _)))

end Cert.KernelIdeal.Ring
-- ==== Proof.KernelIdeal.Whole.lean ====
/- Whole buffers and their parts. -/
module

public import proofs.«01_k».proof.Proof.KernelIdeal.Body
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD}
variable {J : Dev nD → Inp F} {K : Dev nD × Ci → ℕ}

/-! ## Covers -/

theorem row_dj (k k' : Fin 16) (h : k ≠ k') : Disjoint (rowR k).set (rowR k').set :=
  Idealize.ShloMosaic.Ring.lead_disjoint (s := S2048x1024) (0 : Fin 2) 128 (fun k : Fin 16 => ![128 * k.val, 0]) S128x1024.size row_inb (fun _ => rfl) rfl k k' h
theorem row_cov : (Finset.univ : Finset (Fin 16)).biUnion (fun k => (rowR k).set) = Finset.univ :=
  Idealize.ShloMosaic.Ring.lead_cover (s := S2048x1024) (0 : Fin 2) 128 (fun k : Fin 16 => ![128 * k.val, 0]) S128x1024.size row_inb (fun _ => rfl)
    (fun b a h => by fin_cases a; exact absurd rfl h; rfl) rfl (fun a h => by fin_cases a; exact absurd rfl h; rfl) rfl
theorem comm_dj (k k' : Fin 15) (h : k ≠ k') : Disjoint (commR k).set (commR k').set :=
  Idealize.ShloMosaic.Ring.lead_disjoint (s := S15x128x1024) (0 : Fin 3) 1 (fun k : Fin 15 => ![k.val, 0, 0]) S1x128x1024.size comm_inb (fun b => (Nat.one_mul b.val).symm) rfl k k' h
theorem comm_cov : (Finset.univ : Finset (Fin 15)).biUnion (fun k => (commR k).set) = Finset.univ :=
  Idealize.ShloMosaic.Ring.lead_cover (s := S15x128x1024) (0 : Fin 3) 1 (fun k : Fin 15 => ![k.val, 0, 0]) S1x128x1024.size comm_inb (fun b => (Nat.one_mul b.val).symm)
    (fun b a h => by fin_cases a; exact absurd rfl h; rfl; rfl) rfl (fun a h => by fin_cases a; exact absurd rfl h; rfl; rfl) rfl
theorem gat_dj (k k' : Fin 16) (h : k ≠ k') : Disjoint (gatR k).set (gatR k').set :=
  Idealize.ShloMosaic.Ring.lead_disjoint (s := S16x128x1024) (0 : Fin 3) 1 (fun k : Fin 16 => ![k.val, 0, 0]) S1x128x1024.size gat_inb (fun b => (Nat.one_mul b.val).symm) rfl k k' h
theorem gat_cov : (Finset.univ : Finset (Fin 16)).biUnion (fun k => (gatR k).set) = Finset.univ :=
  Idealize.ShloMosaic.Ring.lead_cover (s := S16x128x1024) (0 : Fin 3) 1 (fun k : Fin 16 => ![k.val, 0, 0]) S1x128x1024.size gat_inb (fun b => (Nat.one_mul b.val).symm)
    (fun b a h => by fin_cases a; exact absurd rfl h; rfl; rfl) rfl (fun a h => by fin_cases a; exact absurd rfl h; rfl; rfl) rfl

/-- A family over two disjoint sets. -/
theorem fam_union {I : Type} [DecidableEq I] {S T : Finset I} {Φ : I → sProp (MM F)} (h : Disjoint S T) : bigSep (S ∪ T) Φ = iprop(bigSep S Φ ∗ bigSep T Φ) := bigSep_union h

/-! ## Buffers in parts -/

theorem rows_split : (someAt c outM : sProp (MM F)) ⊢ bigSep Finset.univ (fun k => someAt c (rowM k)) :=
  (ownsSat_mono _ _ _ (fun _ _ _ => trivial)).trans (ownsSat_rects (c : Thread nD τ) outM fullShare rowR (fun _ _ => rfl) row_dj row_cov (fun _ _ => True))
theorem slots_split : (someAt c commM : sProp (MM F)) ⊢ bigSep Finset.univ (fun k => someAt c (slotM k)) :=
  ((ownsSat_mono _ _ _ (fun _ _ _ => trivial)).trans (ownsSat_rects (c : Thread nD τ) commM fullShare commR (fun _ _ => rfl) comm_dj comm_cov (fun _ _ => True))).trans
    (bigSep_mono fun _ _ => someAt_sq)
theorem gslots_split : (someAt c gatM : sProp (MM F)) ⊢ bigSep Finset.univ (fun k => someAt c (gslotM k)) :=
  ((ownsSat_mono _ _ _ (fun _ _ _ => trivial)).trans (ownsSat_rects (c : Thread nD τ) gatM fullShare gatR (fun _ _ => rfl) gat_dj gat_cov (fun _ _ => True))).trans
    (bigSep_mono fun _ _ => someAt_sq)
theorem slots_join : bigSep Finset.univ (fun k => someAt c (slotM k)) ⊢ (someAt c commM : sProp (MM F)) :=
  (bigSep_mono fun _ _ => someAt_unsq).trans ((ownsSat_of_rects (c : Thread nD τ) commM fullShare commR (fun _ _ => rfl) comm_dj comm_cov (fun _ _ => True)).trans
    (ownsSat_mono _ _ _ (fun _ _ => trivial)))
theorem gslots_join : bigSep Finset.univ (fun k => someAt c (gslotM k)) ⊢ (someAt c gatM : sProp (MM F)) :=
  (bigSep_mono fun _ _ => someAt_unsq).trans ((ownsSat_of_rects (c : Thread nD τ) gatM fullShare gatR (fun _ _ => rfl) gat_dj gat_cov (fun _ _ => True)).trans
    (ownsSat_mono _ _ _ (fun _ _ => trivial)))

/-- Chunks counted from a device's own. -/
def turn (c : Dev nD) : Fin 16 ≃ Fin 16 where
  toFun o := chunk c o
  invFun k := ck (k.val + (16 - c.val))
  left_inv := by revert c; decide +kernel
  right_inv := by revert c; decide +kernel
/-- The output of a device. -/
def outv (J : Dev nD → Inp F) (c : Dev nD) : Vec F S2048x1024 .f32 := Rect.glue rowR row_cov (fun k => finv J c ((turn c).symm k))
theorem outv_row (k : Fin 16) (j : S128x1024.Idx) : outv J c ((rowR k).emb j) = finv J c ((turn c).symm k) j :=
  Rect.glue_emb rowR row_cov row_dj _ k j
theorem rows_join : bigSep Finset.univ (fun o => owns (c : Thread nD τ) (rowM (chunk c o)) fullShare (finv J c o)) ⊢ (owns (c : Thread nD τ) outM fullShare (outv J c) : sProp (MM F)) := by
  refine BIBase.Entails.trans ?_ (owns_of_rects (c : Thread nD τ) outM fullShare rowR (fun _ _ => rfl) row_dj row_cov (outv J c))
  rw [bigSep_univ_equiv (turn c) (fun k => (owns (c : Thread nD τ) (outM.slice (rowR k) (fun _ => rfl)) fullShare (fun j => outv J c ((rowR k).emb j)) : sProp (MM F)))]
  refine bigSep_mono fun o _ => ?_
  simp only [outv_row, Equiv.symm_apply_apply]
  exact BI.Entails.refl _

/-- The output rows as a device's own and the others. -/
theorem rows_own : bigSep Finset.univ (fun k => someAt c (rowM k)) ⊢ (iprop(someAt c (rowM (ck c.val)) ∗ bigSep (phT 0).T (fun o => someAt c (rowM (chunk c o)))) : sProp (MM F)) := by
  rw [bigSep_univ_equiv (turn c) (fun k => (someAt c (rowM k) : sProp (MM F))), show (Finset.univ : Finset (Fin 16)) = insert 0 (phT 0).T by decide +kernel, cRow]
  exact Entails.of_eq (show _ = (iprop(someAt c (rowM (chunk c 0)) ∗ bigSep (phT 0).T (fun o => someAt c (rowM (chunk c o)))) : sProp (MM F)) from bigSep_insert (by decide +kernel))

/-- The chunks that the all-gather hops bring. -/
def inE (c : Dev nD) : Fin 15 ↪ Fin 16 := ⟨fun j => chunk c (inOff ⟨15 + j.val, by omega⟩), by revert c; decide +kernel⟩
theorem inE_univ : ∀ c : Dev nD, (Finset.univ : Finset (Fin 16)) = insert (chunk c 0) (Finset.univ.map (inE c)) := by decide +kernel
theorem inE_not : ∀ c : Dev nD, chunk c 0 ∉ Finset.univ.map (inE c) := by decide +kernel
def hopA : Fin 15 ↪ Fin 30 := ⟨fun j => ⟨j.val, by omega⟩, by decide⟩
def hopB : Fin 15 ↪ Fin 30 := ⟨fun j => ⟨15 + j.val, by omega⟩, by decide⟩

/-- All the places that the hops land in, and the device's own slot. -/
theorem lands : iprop(bigSep Finset.univ (fun j => someAt c (slotM j)) ∗ bigSep Finset.univ (fun k => someAt c (gslotM k)))
    ⊢ (iprop(bigSep Finset.univ (fun i : Fin 30 => land i c) ∗ someAt c (gslotM (chunk c 0))) : sProp (MM F)) := by
  have hg : bigSep Finset.univ (fun k => someAt c (gslotM k)) ⊢ (iprop(someAt c (gslotM (chunk c 0)) ∗ bigSep Finset.univ (fun j => someAt c (gslotM (inE c j)))) : sProp (MM F)) := by
    rw [inE_univ c, bigSep_insert (inE_not c), bigSep_map]; exact BIBase.Entails.refl
  rw [show (Finset.univ : Finset (Fin 30)) = Finset.univ.map hopA ∪ Finset.univ.map hopB by decide +kernel]
  have hu : (bigSep (Finset.univ.map hopA ∪ Finset.univ.map hopB) (fun i : Fin 30 => land i c) : sProp (MM F))
      = iprop(bigSep Finset.univ (fun j => land (hopA j) c) ∗ bigSep Finset.univ (fun j => land (hopB j) c)) := by
    rw [fam_union (by decide +kernel), bigSep_map, bigSep_map]
  rw [hu]
  have hA : bigSep Finset.univ (fun j : Fin 15 => someAt c (slotM j)) ⊢ (bigSep Finset.univ (fun j => land (hopA j) c) : sProp (MM F)) :=
    Entails.of_eq (bigSep_congr fun j _ => by unfold land; rw [dif_pos (show (hopA j).val < 15 from j.isLt)]; rfl)
  have hB : bigSep Finset.univ (fun j : Fin 15 => someAt c (gslotM (inE c j))) ⊢ (bigSep Finset.univ (fun j => land (hopB j) c) : sProp (MM F)) :=
    Entails.of_eq (bigSep_congr fun j _ => by
      unfold land; rw [dif_neg (show ¬(hopB j).val < 15 from Nat.not_lt.mpr (Nat.le_add_right _ _)), agChunk_src (hopB j) c (Nat.le_add_right _ _)]; rfl)
  iintro ⟨Ha, Hg⟩
  ihave Hg := hg $$ Hg
  icases Hg with ⟨Ho, Hb⟩
  isplitl [Ha Hb]
  · isplitl [Ha]
    · iapply hA; iexact Ha
    · iapply hB; iexact Hb
  iexact Ho

theorem tgt_left {i : Fin 30} (h : goesRight i = true) : tgt i (left c) = c := by unfold tgt; rw [if_pos h, right_left]
theorem tgt_right {i : Fin 30} (h : goesRight i = false) : tgt i (right c) = c := by unfold tgt; rw [if_neg (by rw [h]; decide), left_right]

/-- What the two signals carry. -/
theorem barPays : iprop(bigSep Finset.univ (fun i : Fin 30 => land i c) ∗ bigSep Finset.univ (fun i : Fin 30 => reached ER (rcvC c i) 0))
    ⊢ (iprop(barPay (left c) true ∗ barPay (right c) false) : sProp (MM F)) := by
  refine (Entails.of_eq (bigSep_sep _ _ _).symm).trans ?_
  rw [show (Finset.univ : Finset (Fin 30)) = (Finset.univ.filter fun i : Fin 30 => goesRight i = true) ∪ (Finset.univ.filter fun i : Fin 30 => goesRight i = false) by decide]
  refine (Entails.of_eq (fam_union (by decide))).trans ?_
  have ha : bigSep (Finset.univ.filter fun i : Fin 30 => goesRight i = true) (fun i => iprop(land i c ∗ reached ER (rcvC c i) 0)) ⊢ (barPay (left c) true : sProp (MM F)) :=
    Entails.of_eq (bigSep_congr fun i hi => by rw [tgt_left (Finset.mem_filter.mp hi).2])
  have hb : bigSep (Finset.univ.filter fun i : Fin 30 => goesRight i = false) (fun i => iprop(land i c ∗ reached ER (rcvC c i) 0)) ⊢ (barPay (right c) false : sProp (MM F)) :=
    Entails.of_eq (bigSep_congr fun i hi => by rw [tgt_right (Finset.mem_filter.mp hi).2])
  iintro ⟨Ha, Hb⟩
  isplitl [Ha]
  · iapply ha; iexact Ha
  · iapply hb; iexact Hb

/-- A slot's two halves. -/
theorem gslots_back {w : Fin 16 → Vec F S128x1024 .bf16} :
    iprop(bigSep Finset.univ (fun o => owns (c : Thread nD τ) (gslotM (chunk c o)) (fullShare : PosShare TreeShare).left (w o))
      ∗ bigSep Finset.univ (fun o => owns (c : Thread nD τ) (gslotM (chunk c o)) (fullShare : PosShare TreeShare).right (w o)))
    ⊢ (someAt c gatM : sProp (MM F)) := by
  refine (Entails.of_eq (bigSep_sep _ _ _).symm).trans (BIBase.Entails.trans ?_ gslots_join)
  rw [bigSep_univ_equiv (turn c) (fun k => (someAt c (gslotM k) : sProp (MM F)))]
  exact bigSep_mono fun o _ => (owns_halves (c : Thread nD τ) (gslotM (chunk c o)) fullShare (w o)).2.trans (ownsSat_intro _ _ _ trivial)

/-- The three scratch buffers whole. -/
def scratch (c : Dev nD) : sProp (MM F) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
theorem whole_in {b : Ref sig .tc} : (iprop(∃ f : Buf (Elt F) ((c : Thread nD τ).loc b), ((c : Thread nD τ).loc b) ↦{fullShare} f) : sProp (MM F)) ⊢ someAt c (Memref.whole b) := by
  iintro ⟨%f, H⟩
  iapply (ownsSat_intro (c : Thread nD τ) (Memref.whole b) fullShare (X := f) trivial)
  iapply (Entails.of_eq (owns_whole (c : Thread nD τ) b fullShare f).symm); iexact H
theorem whole_out {b : Ref sig .tc} : (someAt c (Memref.whole b) : sProp (MM F)) ⊢ iprop(∃ f : Buf (Elt F) ((c : Thread nD τ).loc b), ((c : Thread nD τ).loc b) ↦{fullShare} f) := by
  refine (ownsSat_any (c : Thread nD τ) (Memref.whole b) fullShare).trans ?_
  iintro ⟨%f, H⟩
  iexists f
  iapply (Entails.of_eq (owns_whole (c : Thread nD τ) b fullShare f)); iexact H

end Cert.KernelIdeal.Ring
-- ==== Proof.KernelIdeal.Region.lean ====
/- What a device brings to the kernel and takes from it. -/
module

public import proofs.«01_k».proof.Proof.KernelIdeal.Whole
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit.Geometry
public import Idealize.ShloMosaic.Lib.Pipeline.RegionTalk
public import Idealize.ShloMosaic.Lib.Rounds.Family
public import Idealize.ShloMosaic.Harness.Basic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable {A B X : sProp (MM F)}
variable [FloatOps F] [Named F] {c : Dev nD} {K : Dev nD × Ci → ℕ}
attribute [local irreducible] k0_cond1 k0_cond2 k0_cond3 k0_cond4 k0_cond5 k0_cond6 k0_cond7
open Idealize.ShloMosaic.Pipeline (Dat)
variable (m : (ℓ : Loc nD τ sig) → Buf (Elt F) ℓ)

/-- The five operands each device hands the kernel. -/
def J (c : Dev nD) : Inp F := ⟨V1 m c main_v18, V1 m c main_v10, V1 m c main_v21, V1 m c main_v27, V1 m c main_v16⟩

/-- The kernel's own counters. -/
abbrev osem : Bool × Fin 30 → SemLoc sig := fun x => sl (some x)
theorem own_sems : Pipeline.OwnSemFacts spec0 osem := by decide +kernel

/-- What a device keeps for the exchange besides its own copies' cells: the tokens it pays with, what it knows of its neighbours' barriers, its credit. -/
def Keep (c : Dev nD) : sProp (MM F) :=
  iprop((dutyTok ER (barC (left c)) 0 true ∗ reached ER (barC (left c)) 0) ∗ (dutyTok ER (barC (right c)) 0 false ∗ reached ER (barC (right c)) 0)
    ∗ (cred (tallyAt (barC c) () 2) ∗ atPos ER (barC c) 0 ∅ 0)
    ∗ bigSep Finset.univ (fun i : Fin 30 => iprop(dutyTok ER (rcvC (tgt i c) i) 0 true ∗ dutyTok ER (sndC c i) 0 true))
    ∗ bigSep Finset.univ (fun i : Fin 30 => cred (tallyAt (rcvC c i) () (N i))))
/-- What it brings to the kernel. -/
def Tk (c : Dev nD) : sProp (MM F) :=
  iprop(∃ K, invs (vals (J m)) K ∗ Keep c ∗ bigSep Finset.univ (fun x : Bool × Fin 30 => openTok ER (cell c (some x))))
/-- The same with its copies' cells opened. -/
def Xk (c : Dev nD) : sProp (MM F) :=
  iprop((∃ K, invs (vals (J m)) K ∗ Keep c ∗ bigSep Finset.univ (fun x : Bool × Fin 30 => iprop(atPos ER (cell c (some x)) 0 ∅ 0 ∗ reached ER (cell c (some x)) 0)))
    ∗ levAts L lv)
/-- What it keeps afterwards. -/
def Yk (c : Dev nD) : sProp (MM F) := semVal (barC c) 0

/-- What the kernel finds in its windows and leaves in them. -/
def dat (c : Dev nD) : Dat τ (Elt F) Unit ℕ UU ℕ cfg0 c where
  A w := V1 m c (Proc.devRef .tc (Pipeline.arrRef spec0 w))
  after := fun | 0 => fun _ => (J m c).x | 1 => fun _ => (J m c).wq | 2 => fun _ => (J m c).k | 3 => fun _ => (J m c).va | 4 => fun _ => (J m c).wo | 5 => fun _ => outv (J m) c | ⟨_ + 6, h⟩ => absurd h (Nat.not_lt.2 (Nat.le_add_left _ _))
  Φ t := if t.val = 0 then iprop(Xk m c ∗ scratch c ∗ ∃ r, prngReg c r)
    else iprop(Yk c ∗ Pipeline.ownSems0 osem c ∗ scratch c ∗ ∃ r, prngReg c r)
  q _ := fullShare
  owed t := if t.val = 0 then owe0 c else 0

def pdats : (p : Fin 1) → (c : Dev nD) → Dat τ (Elt F) Unit ℕ UU ℕ (cfgs p) c := fun _ => dat m

theorem index_zero : ∀ (w : Fin 6) (a : Fin (win0 w).shape.rank), (win0 w).index t0_0 a = 0 := by decide +kernel
theorem index_zero' (w : Fin cfg0.W) (a : Fin (cfg0.win w).shape.rank) : (cfg0.win w).index t0_0 a = 0 := index_zero w a
theorem blk_emb (w : Fin cfg0.W) (y) (a : Fin (cfg0.win w).shape.rank) : (((cfg0.win w).rect t0_0).emb y a : ℕ) = y a :=
  Pipeline.Window.rect_emb_val_of_index_zero _ _ _ (index_zero' w a) y

variable {m}

theorem before_0 (d) : (dat m c).before 0 t0_0 d = (J m c).x := by
  rw [(dat m c).before_fetched 0 t0_0 (fetch0_0 _)]
  funext y; exact congrArg (V1 m c main_v18) (funext fun a => Fin.ext (blk_emb 0 y a))
theorem before_1 (d) : (dat m c).before 1 t0_0 d = (J m c).wq := by
  rw [(dat m c).before_fetched 1 t0_0 (fetch0_1 _)]
  funext y; exact congrArg (V1 m c main_v10) (funext fun a => Fin.ext (blk_emb 1 y a))
theorem before_2 (d) : (dat m c).before 2 t0_0 d = (J m c).k := by
  rw [(dat m c).before_fetched 2 t0_0 (fetch0_2 _)]
  funext y; exact congrArg (V1 m c main_v21) (funext fun a => Fin.ext (blk_emb 2 y a))
theorem before_3 (d) : (dat m c).before 3 t0_0 d = (J m c).va := by
  rw [(dat m c).before_fetched 3 t0_0 (fetch0_3 _)]
  funext y; exact congrArg (V1 m c main_v27) (funext fun a => Fin.ext (blk_emb 3 y a))
theorem before_4 (d) : (dat m c).before 4 t0_0 d = (J m c).wo := by
  rw [(dat m c).before_fetched 4 t0_0 (fetch0_4 _)]
  funext y; exact congrArg (V1 m c main_v16) (funext fun a => Fin.ext (blk_emb 4 y a))

theorem owed_first : (dat m c).owed t0_0.castSucc = owe0 c := by
  show (if (t0_0.castSucc : Fin (cfg0.N + 1)).val = 0 then owe0 c else 0) = owe0 c; exact if_pos rfl
theorem owed_zero : (dat m c).owed 0 = owe0 c := by
  show (if (0 : Fin (cfg0.N + 1)).val = 0 then owe0 c else 0) = owe0 c; exact if_pos rfl
theorem owed_last : (dat m c).owed (Fin.last _) = 0 := by
  show (if (Fin.last cfg0.N).val = 0 then owe0 c else 0) = 0
  rw [Fin.val_last, if_neg (by rw [show cfg0.N = 1 from N_0]; decide)]
theorem owes_in (t : Fin (cfg0.N + 1)) {O : CellTallies nD τ sig Unit} (h : (dat m c).owed t = O) :
    (iprop(∃ W, owes (c : Thread nD τ) O W) : sProp (MM F)) ⊢ (dat m c).owesAt () t := by
  unfold Dat.owesAt Pipeline.owesWithin Dat.bound; rw [h, show (dat m c).recorded t = Set.univ from rfl]
  iintro ⟨%W, H⟩; iexists W; isplitr; · ipureintro; exact fun _ _ => Or.inl trivial
  iexact H
theorem owes_out (t : Fin (cfg0.N + 1)) {O : CellTallies nD τ sig Unit} (h : (dat m c).owed t = O) :
    (dat m c).owesAt () t ⊢ (iprop(∃ W, owes (c : Thread nD τ) O W) : sProp (MM F)) := by
  unfold Dat.owesAt Pipeline.owesWithin; rw [h]
  iintro ⟨%W, -, H⟩; iexists W; iexact H

/-- A family of pairs is a pair of families. -/
theorem fam_parts {I : Type} [Fintype I] {Φ Ψ : I → sProp (MM F)} :
    bigSep Finset.univ (fun i => iprop(Φ i ∗ Ψ i)) ⊢ iprop(bigSep Finset.univ Φ ∗ bigSep Finset.univ Ψ) := Entails.of_eq (bigSep_sep' _ _ _)
theorem fam_zip {I : Type} [Fintype I] {Φ Ψ : I → sProp (MM F)} :
    iprop(bigSep Finset.univ Φ ∗ bigSep Finset.univ Ψ) ⊢ bigSep Finset.univ (fun i => iprop(Φ i ∗ Ψ i)) := Entails.of_eq (bigSep_sep' _ _ _).symm

/-- Over both kinds of copies' cells: the sends and the receives. -/
theorem both (Φ : Bool × Fin 30 → sProp (MM F)) :
    bigSep Finset.univ Φ = iprop(bigSep Finset.univ (fun i => Φ (false, i)) ∗ bigSep Finset.univ (fun i => Φ (true, i))) := by
  rw [bigSep_univ_prod, show (Finset.univ : Finset Bool) = {false, true} from by decide, bigSep_insert (by decide), bigSep_singleton]
  rfl

/-- What the body starts from, out of what the device brings and its scratch. -/
theorem start_intro : iprop(Xk m c ∗ scratch c ∗ (∃ W, owes (c : Thread nD τ) (owe0 c) W) ∗ someAt c outM)
    ⊢ (iprop(∃ K, Start (vals (J m)) K c ∗ someAt c qM ∗ someAt c (rowM (ck c.val)) ∗ someAt c (gslotM (chunk c 0))) : sProp (MM F)) := by
  unfold Xk scratch Keep
  rw [both]
  iintro ⟨⟨⟨%K, #HI, ⟨HtL, HtR, HB, Htok, Hcr⟩, HS, HV⟩, #Hlev⟩, ⟨Hs0, Hs1, Hs2⟩, HO, Hout⟩
  ihave HS := fam_parts $$ HS
  icases HS with ⟨HSa, #HSr⟩
  ihave HV := fam_parts $$ HV
  icases HV with ⟨HVa, #HVr⟩
  ihave Htok := fam_parts $$ Htok
  icases Htok with ⟨Ht1, Ht2⟩
  ihave Hs0 := whole_in $$ Hs0
  ihave Hs0 := slots_split $$ Hs0
  ihave Hs1 := whole_in $$ Hs1
  ihave Hs1 := gslots_split $$ Hs1
  ihave HL := lands $$ [Hs0 Hs1]
  · isplitl [Hs0]; · iexact Hs0
    iexact Hs1
  icases HL with ⟨HL, Hg⟩
  ihave HP := barPays $$ [HL]
  · isplitl [HL]; · iexact HL
    iexact HVr
  icases HP with ⟨HP1, HP2⟩
  ihave Hrow := rows_split $$ Hout
  ihave Hrow := rows_own $$ Hrow
  icases Hrow with ⟨Hr0, Hr⟩
  iexists K
  isplitr [Hs2 Hr0 Hg]
  · unfold Start
    isplitr; · isplitr; · iexact HI
               iexact Hlev
    isplitl [HO]; · iexact HO
    isplitl [HtL]; · iexact HtL
    isplitl [HtR]; · iexact HtR
    isplitl [HB]; · iexact HB
    isplitl [HP1]; · iexact HP1
    isplitl [HP2]; · iexact HP2
    isplitl [Ht1 Ht2 HSa]
    · unfold sendT
      iapply fam_zip; isplitl [Ht1]; · iexact Ht1
      iapply fam_zip; isplitl [Ht2]; · iexact Ht2
      iapply fam_zip; isplitr; · iexact HSr
      iexact HSa
    isplitl [Hcr HVa]
    · unfold recvR
      iapply fam_zip; isplitl [Hcr]; · iexact Hcr
      iexact HVa
    iexact Hr
  isplitl [Hs2]; · iapply whole_in; iexact Hs2
  isplitl [Hr0]; · iexact Hr0
  iexact Hg

theorem end_U : (phG 30 8 7 8 7 8 7).U = ∅ := by decide +kernel
theorem end_Z : (phG 30 8 7 8 7 8 7).Z = Finset.univ := by decide +kernel
theorem end_VD : (phG 30 8 7 8 7 8 7).VD = Finset.univ := by decide +kernel
theorem end_D : (phG 30 8 7 8 7 8 7).D = Finset.univ := by decide +kernel
theorem end_gl : (phG 30 8 7 8 7 8 7).gl = Finset.univ := by decide +kernel
theorem end_gr : (phG 30 8 7 8 7 8 7).gr = Finset.univ := by decide +kernel
theorem end_C : (phG 30 8 7 8 7 8 7).C = Finset.univ := by decide +kernel

/-- What the body ends with: the operands, the result whole, the scratch, every counter at zero, nothing owed. -/
theorem end_elim {q' : Vec F S128x1024 .bf16} : Cg (J m) K c (phG 30 8 7 8 7 8 7) q' iprop(X ∗ semVal (barC c) 0)
    ⊢ (iprop(Ops c (J m c) ∗ owns (c : Thread nD τ) outM fullShare (outv (J m) c) ∗ scratch c ∗ Pipeline.ownSems0 osem c
      ∗ (∃ W, owes (c : Thread nD τ) 0 W) ∗ Yk c ∗ X) : sProp (MM F)) := by
  unfold Cg Cx St Mm scratch Pipeline.ownSems0 Yk
  rw [end_U, end_Z, end_VD, end_D, end_gl, end_gr, end_C, both]
  iintro ⟨Hq, HOps, ⟨-, HO, -, -, HZ, -, HVD, -, HD, Hgl, Hgr, HC⟩, HX, Hb⟩
  isplitl [HOps]; · iexact HOps
  isplitl [HD]; · iapply rows_join; iexact HD
  isplitl [Hq Hgl Hgr HC]
  · isplitl [HC]; · iapply whole_out; iapply slots_join; iexact HC
    isplitl [Hgl Hgr]
    · iapply whole_out; iapply gslots_back
      isplitl [Hgl]; · iexact Hgl
      iexact Hgr
    iapply whole_out
    iapply (ownsSat_intro (c : Thread nD τ) qM fullShare (X := q') trivial); iexact Hq
  isplitl [HZ HVD]
  · isplitl [HZ]; · iexact HZ
    iexact HVD
  isplitl [HO]; · iexact HO
  isplitl [Hb]; · iexact Hb
  iexact HX

theorem region_from {R : sProp (MM F)} (h : ∀ K q, iprop(owns (c : Thread nD τ) qM fullShare q ∗ Ops c (J m c) ∗ Start (vals (J m)) K c ∗ someAt c (rowM (ck c.val)) ∗ someAt c (gslotM (chunk c 0)) ∗ ∃ r, prngReg c r) ⊢ R) :
    iprop((Xk m c ∗ scratch c ∗ ∃ r, prngReg c r) ∗ (∃ W, owes (c : Thread nD τ) (owe0 c) W) ∗ Ops c (J m c) ∗ someAt c outM) ⊢ R := by
  iintro ⟨⟨HX, Hscr, Hreg⟩, HO, HOps, H5⟩
  ihave Hs := (start_intro (m := m) (c := c)) $$ [HX Hscr HO H5]
  · isplitl [HX]; · iexact HX
    isplitl [Hscr]; · iexact Hscr
    isplitl [HO]; · iexact HO
    iexact H5
  icases Hs with ⟨%K, Hst, Hq, Hr, Hg⟩
  ihave Hq := (ownsSat_any (c : Thread nD τ) qM fullShare) $$ Hq
  icases Hq with ⟨%q, Hq⟩
  iapply (h K q)
  isplitl [Hq]; · iexact Hq
  isplitl [HOps]; · iexact HOps
  isplitl [Hst]; · iexact Hst
  isplitl [Hr]; · iexact Hr
  isplitl [Hg]; · iexact Hg
  iexact Hreg

/-- The body's run from what the device brings, to what it leaves. -/
theorem region_run {O : sProp (MM F)} (hO : (iprop(∃ W, owes (c : Thread nD τ) 0 W) : sProp (MM F)) ⊢ O) :
    iprop((Xk m c ∗ scratch c ∗ ∃ r, prngReg c r) ∗ (∃ W, owes (c : Thread nD τ) (owe0 c) W) ∗ Ops c (J m c) ∗ someAt c outM)
      ⊢ run c (cc0_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4) (fun _ => iprop((Yk c ∗ Pipeline.ownSems0 osem c ∗ scratch c ∗ ∃ r, prngReg c r) ∗ O
        ∗ Ops c (J m c) ∗ owns (c : Thread nD τ) outM fullShare (outv (J m) c))) :=
  region_from fun K q => run_body (J := J m) (K := K) (c := c) (q := q) (X := iprop(∃ r, prngReg c r))
    (k := fun _ => iprop((Yk c ∗ Pipeline.ownSems0 osem c ∗ scratch c ∗ ∃ r, prngReg c r) ∗ O
      ∗ Ops c (J m c) ∗ owns (c : Thread nD τ) outM fullShare (outv (J m) c))) fun q' => by
    refine end_elim.trans ?_
    iintro ⟨HOps, Hout, Hscr, Hos, HO, HY, HX⟩
    isplitl [Hscr Hos HY HX]
    · isplitl [HY]; · iexact HY
      isplitl [Hos]; · iexact Hos
      isplitl [Hscr]; · iexact Hscr
      iexact HX
    isplitl [HO]; · iapply hO; iexact HO
    isplitl [HOps]; · iexact HOps
    iexact Hout

theorem body_eq : (defs₀ (F := F) .tc cfg0.body (cfg0.bodyArgs t0_0 (cfg0.slots t0_0))) = cc0_body (stage0_0 0) (hstage0_0 0) (stage0_1 0) (hstage0_1 0) (stage0_2 0) (hstage0_2 0) (stage0_3 0) (hstage0_3 0) (stage0_4 0) (hstage0_4 0) outM (hstage0_5 0) commM (Memref.isWhole_whole _) gatM (Memref.isWhole_whole _) qM (Memref.isWhole_whole _) cc0_scratch3 cc0_scratch4 := rfl

theorem body (c : Dev nD) : Pipeline.BodyObligation (dat m c) defs₀ 𝒱₀ () Set.univ := fun t => by
  obtain rfl := fin_N0 t
  rw [bigSep_W0, bigSep_W0]
  rw [show (dat m c).Φ t0_0.castSucc = iprop(Xk m c ∗ scratch c ∗ ∃ r, prngReg c r) from rfl,
    show (dat m c).Φ t0_0.succ = iprop(Yk c ∗ Pipeline.ownSems0 osem c ∗ scratch c ∗ ∃ r, prngReg c r) from rfl]
  have h := region_run (m := m) (c := c) (O := (dat m c).owesAt () t0_0.succ) (owes_in (m := m) (c := c) t0_0.succ (O := 0) owed_last)
  rw [← body_eq] at h
  refine BIBase.Entails.trans ?_ (h.trans (wp_mono _ _ _ fun _ => ?_))
  · clear h
    iintro ⟨HX, HO, ⟨%d0, H0⟩, ⟨%d1, H1⟩, ⟨%d2, H2⟩, ⟨%d3, H3⟩, ⟨%d4, H4⟩, ⟨%d5, H5⟩⟩
    isplitl [HX]; · iexact HX
    isplitl [HO]; · iapply (owes_out (m := m) (c := c) t0_0.castSucc owed_first); iexact HO
    isplitl [H0 H1 H2 H3 H4]
    · unfold Ops
      isplitl [H0]; · iapply (Entails.of_eq (congrArg (owns (c : Thread nD τ) (stage0_0 0) fullShare) (before_0 (m := m) (c := c) d0))); iexact H0
      isplitl [H1]; · iapply (Entails.of_eq (congrArg (owns (c : Thread nD τ) (stage0_1 0) fullShare) (before_1 (m := m) (c := c) d1))); iexact H1
      isplitl [H2]; · iapply (Entails.of_eq (congrArg (owns (c : Thread nD τ) (stage0_2 0) fullShare) (before_2 (m := m) (c := c) d2))); iexact H2
      isplitl [H3]; · iapply (Entails.of_eq (congrArg (owns (c : Thread nD τ) (stage0_3 0) fullShare) (before_3 (m := m) (c := c) d3))); iexact H3
      iapply (Entails.of_eq (congrArg (owns (c : Thread nD τ) (stage0_4 0) fullShare) (before_4 (m := m) (c := c) d4))); iexact H4
    · iapply (ownsSat_intro (c : Thread nD τ) outM fullShare (X := (dat m c).before 5 t0_0 d5) trivial); iexact H5
  · unfold Ops
    iintro ⟨HY, HO, ⟨H0, H1, H2, H3, H4⟩, H5⟩
    isplitl [HY]; · iexact HY
    isplitl [HO]; · iexact HO
    isplitl [H0]; · iexact H0
    isplitl [H1]; · iexact H1
    isplitl [H2]; · iexact H2
    isplitl [H3]; · iexact H3
    isplitl [H4]; · iexact H4
    iexact H5

end Cert.KernelIdeal.Ring
-- ==== Proof.KernelIdeal.Enter.lean ====
/- The kernel's call as one step of the program. -/
module

public import proofs.«01_k».proof.Proof.KernelIdeal.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable [FloatOps F] [Named F] {c : Dev nD}
open Idealize.ShloMosaic.Pipeline (Dat Seg HostSeg RegionSeg)
variable (m : (ℓ : Loc nD τ sig) → Buf (Elt F) ℓ)

/-- The copies' cells opened at the kernel's entry. -/
theorem hopen (c : Dev nD) : iprop(Tk m c ∗ Pipeline.ownSems0 osem c ∗ levAts L lv) ⊢ |={Set.univ}=> Xk m c := by
  unfold Tk Xk Pipeline.ownSems0
  iintro ⟨⟨%K, #HI, HK, Ho⟩, Hs, #Hlev⟩
  ihave Hc := (bigSep_with_persistent (S := Finset.univ) (R := invs (vals (J m)) K) (Φ := fun x : Bool × Fin 30 => openTok ER (cell c (some x)))
    (Ψ := fun x : Bool × Fin 30 => iprop(cellInv ER (Rd (vals (J m))) (K (c, some x)) (cell c (some x)) ∗ openTok ER (cell c (some x)))) fun x _ => by
      iintro ⟨#HI, H⟩
      isplitr; · iapply (invs_get (vals (J m)) K c (some x)); iexact HI
      iexact H) $$ [Ho]
  · isplitr; · iexact HI
    iexact Ho
  imod (Rounds.cells_open ER (Rd (vals (J m))) Finset.univ (fun x : Bool × Fin 30 => cell c (some x)) (fun x => K (c, some x)) (fun _ _ => Set.mem_univ _)) $$ [Hc Hs] with H
  · isplitl [Hc]; · iexact Hc
    iexact Hs
  imodintro
  isplitl [HK H]
  · iexists K
    isplitr; · iexact HI
    isplitl [HK]; · iexact HK
    iexact H
  iexact Hlev

theorem stage_level : ∀ (w : Fin 6) (s : Fin (spec0 w).nbuf), dec (.dma ((spec0 w).sem s)) = none := by decide +kernel

theorem owe0_pos {g : GSem nD τ sig} {u : Unit} (h : 0 < owe0 c g u) : (∃ d, g = barC d) ∨ ∃ d i, g = rcvC d i := by
  unfold owe0 at h
  rw [Pi.add_apply, Finsupp.add_apply, Pi.add_apply, Finsupp.add_apply, tallyAt_apply, tallyAt_apply] at h
  by_cases h1 : g = barC (right c)
  · exact .inl ⟨_, h1⟩
  by_cases h2 : g = barC (left c)
  · exact .inl ⟨_, h2⟩
  rw [if_neg (fun e => h1 e.1), if_neg (fun e => h2 e.1)] at h
  obtain ⟨i, -, e⟩ := owe_pos (c := c) (S := Finset.univ) (g := g) (u := u) (by omega)
  exact .inr ⟨_, i, e⟩

theorem cut (c : Dev nD) (t : Fin (cfg0.N + 1)) (g : GSem nD τ sig) (u : Unit) (h : 0 < (dat m c).owed t g u) : u ∈ L g ∧ (0 : ℕ) < lv g u := by
  rw [show (dat m c).owed t = if t.val = 0 then owe0 c else 0 from rfl] at h
  split at h
  · rcases owe0_pos h with ⟨d, rfl⟩ | ⟨d, i, rfl⟩
    · exact ⟨by rw [L_tc]; exact Finset.mem_singleton_self _, by rw [lv_bar]; decide⟩
    · exact ⟨by rw [L_tc]; exact Finset.mem_singleton_self _, by rw [lv_rcv]; omega⟩
  · exact absurd h (Nat.lt_irrefl 0)

/-- What the kernel leaves in the buffers it may change: the result, in its array. -/
def outs : Outs (F := F) := fun _ r c => Function.update (V1 m c) main_v28 (outv (J m) c) (Proc.devRef .tc r)
theorem V2_out (c : Dev nD) : V2 m (outs m) c main_v28 = outv (J m) c := by
  show Function.update (V1 m c) main_v28 (outs m 2 main_v28 c) main_v28 = _
  rw [Function.update_self]; exact Function.update_self _ _ _

theorem arr_kept : ∀ w : Fin 6, (win0 w).isOut = false → Pipeline.arrRef spec0 w ∉ ([main_v28] : List (Ref sig .tc)) := by decide +kernel
theorem out_one : ∀ w : Fin 6, w = 5 ∨ (win0 w).isOut = false := by decide +kernel
theorem out_whole : (cfg0.win 5).WholeAt t0_0 := (by decide +kernel : win0_5.WholeAt t0_0)

theorem arr_end (c : Dev nD) (w : Fin cfg0.W) : (dat m c).arrAt w cfg0.N = V2 m (outs m) c (Proc.devRef .tc (Pipeline.arrRef spec0 w)) := by
  rcases out_one w with rfl | h
  · refine ((dat m c).arrAt_eq_of_after_last 5 t0_0 out_whole (outv (J m) c) (fun j => ?_)).trans (V2_out m c).symm
    rfl
  · exact ((dat m c).arrAt_in w h _).trans (V2_of m (outs m) c _ (arr_kept w h)).symm

theorem arr_sub : Pipeline.arrRefs (τ := τ) spec0 ⊆ Pipeline.ucRefs τ sig := by decide +kernel
theorem out_mem : Proc.devRef (τ := τ) .tc main_v28 ∈ Pipeline.arrRefs (τ := τ) spec0 := by decide +kernel

theorem hin (c : Dev nD) : iprop(Pipeline.scopedRest spec0 c ∗ (∃ r, prngReg c r) ∗ StableHlo.held (c.tc : Thread nD τ) ∅ (V1 m c) ∗ Xk m c) ⊢ (dat m c).Φ 0 := by
  rw [show (dat m c).Φ 0 = iprop(Xk m c ∗ scratch c ∗ ∃ r, prngReg c r) from rfl, scopedRest0_eq]
  unfold scratch
  iintro ⟨Hs, Hp, -, HX⟩
  isplitl [HX]; · iexact HX
  isplitl [Hs]; · iexact Hs
  iexact Hp

theorem hout (c : Dev nD) : (dat m c).Φ (Fin.last cfg0.N)
    ⊢ iprop(Pipeline.scopedRest spec0 c ∗ (∃ r, prngReg c r) ∗ StableHlo.held (c.tc : Thread nD τ) ∅ (V2 m (outs m) c) ∗ Pipeline.ownSems0 osem c ∗ Yk c) := by
  rw [show (dat m c).Φ (Fin.last _) = iprop(Yk c ∗ Pipeline.ownSems0 osem c ∗ scratch c ∗ ∃ r, prngReg c r) from rfl, scopedRest0_eq]
  unfold StableHlo.held scratch
  rw [bigSep_empty]
  iintro ⟨HY, Hos, Hs, Hp⟩
  isplitl [Hs]; · iexact Hs
  isplitl [Hp]; · iexact Hp
  isplitr; · iempintro
  isplitl [Hos]; · iexact Hos
  iexact HY

/-- The buffers that are no window's array. -/
abbrev others : Finset (DevRef τ sig) := Pipeline.ucRefs τ sig \ Pipeline.arrRefs (τ := τ) spec0

set_option backward.isDefEq.respectTransparency.types false in
/-- The kernel's call. -/
def reg : RegionSeg (pcfgs (F := F)) Gen.adm (pdats m) () defs₀ 𝒱₀ L lv 0 :=
  Pipeline.RegionSeg.ofTalk (pcfgs (F := F)) Gen.adm (pdats m) () defs₀ 𝒱₀ L lv 0 osem own_sems
    ∅ others (Finset.empty_subset _) launch0.toP rfl (fun c => (body (m := m) c).loose)
    (fun _ => 0) owe0 (fun c => owed_zero.trans (zero_add _).symm) (fun c => owed_last) (fun _ => rfl) (fun c w => by unfold Dat.share; split <;> rfl)
    (fun c => V1 m c) (fun c => V2 m (outs m) c)
    (fun c b hb => Function.update_of_ne (fun e => (Finset.mem_sdiff.mp (Finset.mem_sdiff.mp hb).1).2 (by rw [e]; exact out_mem)) _ _)
    (Tk m) Yk (Xk m) Yk (hopen m) (hin m) (hout m)
    (fun c => by iintro H; imodintro; iexact H)
    (fun _ => 0)
    ⟨fun c w s => by rw [L_tc]; exact Finset.mem_singleton_self _, fun c w s => by unfold lv; rw [stage_level w s], fun c t g u h => cut m c t g u h⟩
    (fun _ => iprop(emp))
    (fun c w => rfl) (fun c w => arr_end m c w)

/-- What rides beside the buffers before the call, and after it. -/
def E : Fin 2 → Dev nD → sProp (MM F)
  | 0 => fun c => iprop(Tk m c ∗ (∃ r, prngReg c r) ∗ ∃ W, owes (c : Thread nD τ) (owe0 c) W)
  | 1 => fun c => iprop(Yk c ∗ ∃ W, owes (c : Thread nD τ) 0 W)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + owe0 c) Wd)
  rw [StableHlo.held_sub_split (c.tc : Thread nD τ) arr_sub, zero_add]
  unfold E
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) 0 Wd) ⊢ _
  rw [StableHlo.held_sub_split (c.tc : Thread nD τ) arr_sub (V2 m (outs m) c)]
  unfold E
  iintro ⟨Ha, -, ⟨Ho, -⟩, HY, HO⟩
  isplitl [Ha Ho]
  · isplitl [Ha]; · iexact Ha
    iexact Ho
  isplitl [HY]; · iexact HY
  iexact HO

end Cert.KernelIdeal.Ring
-- ==== Proof.KernelIdeal.Deal.lean ====
/- The launch: what each device is dealt. -/
module

public import proofs.«01_k».proof.Proof.KernelIdeal.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable [FloatOps F] [Named F] {c : Dev nD}
variable (m : (ℓ : Loc nD τ sig) → Buf (Elt F) ℓ)

/-- The barrier cells, and the copies' cells. -/
def barEmb : Dev nD ↪ GSem nD τ sig := ⟨fun c => barC c, fun _ _ h => (cell_inj h).1⟩
def cpEmb : Dev nD × (Bool × Fin 30) ↪ GSem nD τ sig :=
  ⟨fun p => cell p.1 (some p.2), fun _ _ h => Prod.ext (cell_inj h).1 (Option.some.inj (cell_inj h).2)⟩
abbrev barCells : Finset (GSem nD τ sig) := Finset.univ.map barEmb
abbrev cpCells : Finset (GSem nD τ sig) := Finset.univ.map cpEmb
theorem cells_disjoint : Disjoint barCells cpCells := by
  rw [Finset.disjoint_left]
  intro g h h'
  obtain ⟨c, -, rfl⟩ := Finset.mem_map.mp h
  obtain ⟨p, -, e⟩ := Finset.mem_map.mp h'
  exact Option.some_ne_none _ (cell_inj e).2
theorem cell_mem (c : Dev nD) : ∀ x : Ci, cell c x ∈ barCells ∪ cpCells
  | none => Finset.mem_union_left _ (Finset.mem_map_of_mem barEmb (Finset.mem_univ c))
  | some x => Finset.mem_union_right _ (Finset.mem_map_of_mem cpEmb (Finset.mem_univ (c, x)))

/-- The tokens: two of each barrier cell, one of each copy's cell. -/
def barTok : Dev nD × Bool ↪ GSem nD τ sig × ℕ × Bool :=
  ⟨fun p => (barC p.1, 0, p.2), fun _ _ h => Prod.ext (cell_inj (congrArg Prod.fst h)).1 (congrArg (fun t : GSem nD τ sig × ℕ × Bool => t.2.2) h)⟩
def cpTok : Dev nD × (Bool × Fin 30) ↪ GSem nD τ sig × ℕ × Bool :=
  ⟨fun p => (cell p.1 (some p.2), 0, true), fun _ _ h => cpEmb.injective (congrArg Prod.fst h)⟩
def toks : Finset (GSem nD τ sig × ℕ × Bool) := Finset.univ.map barTok ∪ Finset.univ.map cpTok
theorem toks_disjoint : Disjoint (Finset.univ.map barTok) (Finset.univ.map cpTok) := by
  rw [Finset.disjoint_left]
  intro g h h'
  obtain ⟨c, -, rfl⟩ := Finset.mem_map.mp h
  obtain ⟨p, -, e⟩ := Finset.mem_map.mp h'
  exact Option.some_ne_none _ (cell_inj (congrArg Prod.fst e)).2

/-- Each barrier token goes to the neighbour that pays with it. -/
theorem bar_round : bigSep Finset.univ (fun p : Dev nD × Bool => dutyTok ER (barC p.1) 0 p.2)
    ⊢ (bigSep Finset.univ (fun c : Dev nD => iprop(dutyTok ER (barC (left c)) 0 true ∗ dutyTok ER (barC (right c)) 0 false)) : sProp (MM F)) := by
  rw [bigSep_univ_equiv (Equiv.prodComm Bool (Dev nD)) (fun p : Dev nD × Bool => (dutyTok ER (barC p.1) 0 p.2 : sProp (MM F))), bigSep_univ_prod,
    show (Finset.univ : Finset Bool) = {true, false} from by decide, bigSep_insert (by decide), bigSep_singleton]
  show iprop(bigSep Finset.univ (fun c : Dev nD => (dutyTok ER (barC c) 0 true : sProp (MM F))) ∗ bigSep Finset.univ (fun c : Dev nD => (dutyTok ER (barC c) 0 false : sProp (MM F)))) ⊢ _
  rw [bigSep_univ_equiv ring.symm (fun c : Dev nD => (dutyTok ER (barC c) 0 true : sProp (MM F))),
    bigSep_univ_equiv ring (fun c : Dev nD => (dutyTok ER (barC c) 0 false : sProp (MM F)))]
  exact fam_zip

/-- The devices along each hop. -/
def along : Dev nD × Fin 30 ≃ Dev nD × Fin 30 where
  toFun p := (tgt p.2 p.1, p.2)
  invFun p := (src p.2 p.1, p.2)
  left_inv p := Prod.ext (src_tgt _ _) rfl
  right_inv p := Prod.ext (tgt_src _ _) rfl

/-- Each copy's tokens go to the device that sends it. -/
theorem cp_round : bigSep Finset.univ (fun p : Dev nD × (Bool × Fin 30) => dutyTok ER (cell p.1 (some p.2)) 0 true)
    ⊢ (bigSep Finset.univ (fun c : Dev nD => bigSep Finset.univ (fun i : Fin 30 => iprop(dutyTok ER (rcvC (tgt i c) i) 0 true ∗ dutyTok ER (sndC c i) 0 true))) : sProp (MM F)) := by
  rw [bigSep_univ_prod, bigSep_congr fun c _ => both (fun x => (dutyTok ER (cell c (some x)) 0 true : sProp (MM F)))]
  refine fam_parts.trans ?_
  rw [← bigSep_univ_prod (fun p : Dev nD × Fin 30 => (dutyTok ER (rcvC p.1 p.2) 0 true : sProp (MM F))),
    bigSep_univ_equiv along (fun p : Dev nD × Fin 30 => (dutyTok ER (rcvC p.1 p.2) 0 true : sProp (MM F))), bigSep_univ_prod]
  iintro ⟨H1, H2⟩
  iapply (show bigSep Finset.univ (fun c : Dev nD => iprop(bigSep Finset.univ (fun i : Fin 30 => dutyTok ER (rcvC (tgt i c) i) 0 true) ∗ bigSep Finset.univ (fun i : Fin 30 => dutyTok ER (sndC c i) 0 true)))
      ⊢ (bigSep Finset.univ (fun c : Dev nD => bigSep Finset.univ (fun i : Fin 30 => iprop(dutyTok ER (rcvC (tgt i c) i) 0 true ∗ dutyTok ER (sndC c i) 0 true))) : sProp (MM F)) from
    bigSep_mono fun c _ => fam_zip)
  iapply fam_zip
  isplitl [H2]; · iexact H2
  iexact H1

theorem right_ne_left : ∀ c : Dev nD, right c ≠ left c := by decide

/-- What each device owes each barrier and each receive cell. -/
theorem owe0_bar (d c : Dev nD) : owe0 d (barC c) () = (if d = left c then 1 else 0) + (if d = right c then 1 else 0) := by
  unfold owe0
  rw [Pi.add_apply, Finsupp.add_apply, Pi.add_apply, Finsupp.add_apply, tallyAt_apply, tallyAt_apply,
    show owe d Finset.univ (barC c) () = 0 from Nat.eq_zero_of_not_pos fun h => by
      obtain ⟨i, -, e⟩ := owe_pos h; exact Option.some_ne_none _ (cell_inj e).2.symm, Nat.zero_add]
  congr 1
  · exact if_congr ⟨fun e => by rw [(cell_inj e.1).1, left_right], fun e => ⟨by rw [e, right_left], rfl⟩⟩ rfl rfl
  · exact if_congr ⟨fun e => by rw [(cell_inj e.1).1, right_left], fun e => ⟨by rw [e, left_right], rfl⟩⟩ rfl rfl
theorem owe0_rcv (d c : Dev nD) (i : Fin 30) : owe0 d (rcvC c i) () = if d = src i c then N i else 0 := by
  unfold owe0 owe
  rw [Pi.add_apply, Finsupp.add_apply, Pi.add_apply, Finsupp.add_apply, tallyAt_apply, tallyAt_apply,
    if_neg (fun e => Option.some_ne_none _ (cell_inj e.1).2), if_neg (fun e => Option.some_ne_none _ (cell_inj e.1).2),
    Finset.sum_apply, Finsupp.finsetSum_apply, Finset.sum_eq_single i (fun j _ hj => by
      rw [tallyAt_apply, if_neg (fun e => hj (congrArg Prod.snd (Option.some.inj (cell_inj e.1).2)).symm)]) (fun h => absurd (Finset.mem_univ _) h), tallyAt_apply]
  exact if_congr ⟨fun e => by rw [(cell_inj e.1).1, src_tgt], fun e => ⟨by rw [e, tgt_src], rfl⟩⟩ rfl rfl

theorem launch_bar (c : Dev nD) :
    tallyOn (barC c) (launchCredit (Pipeline.owing owe0) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owe0_bar d c, Finset.sum_add_distrib,
    Finset.sum_ite_eq' Finset.univ (left c) fun _ => 1, Finset.sum_ite_eq' Finset.univ (right c) fun _ => 1, if_pos (Finset.mem_univ _), if_pos (Finset.mem_univ _)]
theorem launch_rcv (c : Dev nD) (i : Fin 30) :
    tallyOn (rcvC c i) (launchCredit (Pipeline.owing owe0) 0 (rcvC c i)) = (tallyAt (rcvC c i) () (N i) : CellTallies nD τ sig Unit) := by
  unfold tallyAt; refine congrArg _ (Finsupp.ext fun u => ?_); cases u
  rw [Pipeline.launchCredit_owing, Finsupp.single_eq_same, Finset.sum_congr rfl fun d _ => owe0_rcv d c i,
    Finset.sum_ite_eq' Finset.univ (src i c) fun _ => N i, if_pos (Finset.mem_univ _)]

def rcvEmb : Fin 30 ↪ SemLoc sig := ⟨fun i => sl (some (true, i)), fun _ _ h => congrArg Prod.snd (Option.some.inj (sl_inj h))⟩
/-- The credit a device starts with. -/
theorem creds (c : Dev nD) : (Pipeline.launchCred owe0 c : sProp (MM F)) ⊢ iprop(cred (tallyAt (barC c) () 2) ∗ bigSep Finset.univ (fun i : Fin 30 => cred (tallyAt (rcvC c i) () (N i)))) := by
  unfold Pipeline.launchCred
  have h : Finset.univ.map rcvEmb ⊆ Finset.univ.erase (sl none) := fun s hs => by
    obtain ⟨i, -, rfl⟩ := Finset.mem_map.mp hs
    exact Finset.mem_erase.mpr ⟨fun e => Option.some_ne_none _ (sl_inj (show sl (some (true, i)) = sl none from e)), Finset.mem_univ _⟩
  rw [bigSep_univ_at _ (sl none), launch_bar]
  refine sep_mono_right (BI.Entails.trans (bigSep_subset h) ?_)
  rw [bigSep_map]
  exact bigSep_mono fun i _ => show (cred (tallyOn (rcvC c i) (launchCredit (Pipeline.owing owe0) 0 (rcvC c i))) : sProp (MM F)) ⊢ cred (tallyAt (rcvC c i) () (N i)) from
    Entails.of_eq (congrArg cred (launch_rcv c i))

/-- All of a resource on one device. -/
def onDev (d : Dev nD) (X : sProp (MM F)) (c : Dev nD) : sProp (MM F) := if c = d then X else iprop(emp)
theorem onDev_all (d : Dev nD) (X : sProp (MM F)) : bigSep Finset.univ (onDev d X) = X := by
  rw [bigSep_univ_at _ d, bigSep_congr (s := Finset.univ.erase d) (Ψ := fun _ => (BI.emp : sProp (MM F)))
      fun c hc => by unfold onDev; rw [if_neg (Finset.ne_of_mem_erase hc)]; rfl, bigSep_emp_const]
  unfold onDev; rw [if_pos rfl]
  exact BI.equiv_iff.mp sep_emp

/-- The protocol's share of the launch element. -/
def G : Dev nD → sProp (MM F) := onDev 0 (BI.own (ER (launchOf barCells cpCells toks)))

/-- What every device may consult. -/
def records (κ : GSem nD τ sig → ℕ) : sProp (MM F) :=
  iprop((bigSep (barCells ∪ cpCells) fun g => cellInv ER (Rd (vals (J m))) (κ g) g) ∗ bigSep barCells fun g => reached ER g 0)
instance records_persistent (κ : GSem nD τ sig → ℕ) : BI.Persistent (records m κ) := by unfold records; infer_instance

/-- What stays with a device. -/
def mine (c : Dev nD) : sProp (MM F) :=
  iprop(atPos ER (barC c) 0 ∅ 0 ∗ bigSep Finset.univ (fun x : Bool × Fin 30 => openTok ER (cell c (some x)))
    ∗ (dutyTok ER (barC (left c)) 0 true ∗ dutyTok ER (barC (right c)) 0 false)
    ∗ bigSep Finset.univ (fun i : Fin 30 => iprop(dutyTok ER (rcvC (tgt i c) i) 0 true ∗ dutyTok ER (sndC c i) 0 true))
    ∗ (cred (tallyAt (barC c) () 2) ∗ bigSep Finset.univ (fun i : Fin 30 => cred (tallyAt (rcvC c i) () (N i)))))

theorem records_inv (κ : GSem nD τ sig → ℕ) (d : Dev nD) (x : Ci) : records m κ ⊢ (cellInv ER (Rd (vals (J m))) (κ (cell d x)) (cell d x) : sProp (MM F)) := by
  have h : (bigSep (barCells ∪ cpCells) fun g => (cellInv ER (Rd (vals (J m))) (κ g) g : sProp (MM F))) ⊢ cellInv ER (Rd (vals (J m))) (κ (cell d x)) (cell d x) := bigSep_elim (cell_mem d x)
  unfold records
  iintro ⟨HI, -⟩
  iapply h; iexact HI
theorem records_invs (κ : GSem nD τ sig → ℕ) : records m κ ⊢ invs (vals (J m)) (fun p => κ (cell p.1 p.2)) := by
  unfold invs
  exact BI.Entails.trans (bigSep_of_persistent (Finset.univ : Finset (Dev nD × Ci)) (records m κ)) (bigSep_mono fun p _ => records_inv m κ p.1 p.2)
theorem records_reached (κ : GSem nD τ sig → ℕ) (d : Dev nD) : records m κ ⊢ (reached ER (barC d) 0 : sProp (MM F)) := by
  have h : (bigSep barCells fun g => (reached ER g 0 : sProp (MM F))) ⊢ reached ER (barC d) 0 := bigSep_elim (Finset.mem_map_of_mem barEmb (Finset.mem_univ d))
  unfold records
  iintro ⟨-, HR⟩
  iapply h; iexact HR

theorem tk_intro (κ : GSem nD τ sig → ℕ) (c : Dev nD) : iprop(records m κ ∗ mine c) ⊢ Tk m c := by
  unfold mine Tk Keep
  iintro ⟨#HR, Ha, Ho, ⟨H1, H2⟩, Ht, Hc1, Hc2⟩
  iexists (fun p => κ (cell p.1 p.2))
  isplitr; · iapply (records_invs m κ); iexact HR
  isplitr [Ho]
  · isplitl [H1]
    · isplitl [H1]; · iexact H1
      iapply (records_reached m κ); iexact HR
    isplitl [H2]
    · isplitl [H2]; · iexact H2
      iapply (records_reached m κ); iexact HR
    isplitl [Ha Hc1]
    · isplitl [Hc1]; · iexact Hc1
      iexact Ha
    isplitl [Ht]; · iexact Ht
    iexact Hc2
  iexact Ho

theorem bar_only (c : Dev nD) : (unscopedSems0 c : sProp (MM F)) = semVal (barC c) 0 := by
  unfold unscopedSems0
  rw [show (Finset.univ.filter fun sm : SemLoc sig => ¬ sm.isScoped .tc) = {SemLoc.reg barS} from by decide +kernel, bigSep_singleton]
  rfl

/-- Everything dealt out, from the launch. -/
theorem deal : iprop((bigSep Finset.univ fun c : Dev nD => (unscopedSems0 c : sProp (MM F))) ∗ (bigSep Finset.univ fun c : Dev nD => Pipeline.launchCred owe0 c) ∗ bigSep Finset.univ (G (F := F)))
    ⊢ |={Set.univ}=> bigSep Finset.univ (Tk m) := by
  rw [bigSep_congr fun c _ => bar_only (F := F) c]
  iintro ⟨Hv, Hcr, HG⟩
  ihave Hv := (show bigSep Finset.univ (fun c : Dev nD => (semVal (barC c) 0 : sProp (MM F))) ⊢ bigSep barCells (fun g => (semVal g 0 : sProp (MM F))) from
    Entails.of_eq (bigSep_map (s := Finset.univ) barEmb (Φ := fun g : GSem nD τ sig => (semVal g 0 : sProp (MM F)))).symm) $$ Hv
  ihave Hu := (show bigSep Finset.univ (G (F := F)) ⊢ BI.own (ER (launchOf barCells cpCells toks)) from Entails.of_eq (onDev_all 0 _)) $$ HG
  imod (Rounds.fund_launch ER (Rd (vals (J m))) cells_disjoint (fun g _ h => h) toks) $$ [Hv Hu] with ⟨%κ, -, #Hinv, #Hr, Hat, Hopen, Htok⟩
  · isplitl [Hv]; · iexact Hv
    iexact Hu
  imodintro
  iapply (bigSep_with_persistent (R := records m κ) (Φ := mine) fun c _ => tk_intro m κ c)
  isplitr
  · unfold records
    isplitr; · iexact Hinv
    iexact Hr
  unfold mine
  iapply fam_zip
  isplitl [Hat]
  · iapply (show bigSep barCells (fun g => (atPos ER g 0 ∅ 0 : sProp (MM F))) ⊢ bigSep Finset.univ (fun c : Dev nD => (atPos ER (barC c) 0 ∅ 0 : sProp (MM F))) from
      Entails.of_eq (bigSep_map (s := Finset.univ) barEmb (Φ := fun g : GSem nD τ sig => (atPos ER g 0 ∅ 0 : sProp (MM F)))))
    iexact Hat
  iapply fam_zip
  isplitl [Hopen]
  · iapply (show bigSep cpCells (fun g => (openTok ER g : sProp (MM F))) ⊢ bigSep Finset.univ (fun c : Dev nD => bigSep Finset.univ (fun x : Bool × Fin 30 => (openTok ER (cell c (some x)) : sProp (MM F)))) from
      Entails.of_eq (by rw [bigSep_map, bigSep_univ_prod]; rfl))
    iexact Hopen
  ihave Ht := (show bigSep toks (fun x => (dutyTok ER x.1 x.2.1 x.2.2 : sProp (MM F))) ⊢ iprop(bigSep Finset.univ (fun p : Dev nD × Bool => dutyTok ER (barC p.1) 0 p.2)
      ∗ bigSep Finset.univ (fun p : Dev nD × (Bool × Fin 30) => dutyTok ER (cell p.1 (some p.2)) 0 true)) from
    Entails.of_eq (by unfold toks; rw [fam_union toks_disjoint, bigSep_map, bigSep_map]; rfl)) $$ Htok
  icases Ht with ⟨Hb, Hc⟩
  iapply fam_zip
  isplitl [Hb]; · iapply bar_round; iexact Hb
  iapply fam_zip
  isplitl [Hc]; · iapply cp_round; iexact Hc
  iapply (show (bigSep Finset.univ fun c : Dev nD => (Pipeline.launchCred owe0 c : sProp (MM F))) ⊢ _ from bigSep_mono fun c _ => creds c)
  iexact Hcr

end Cert.KernelIdeal.Ring
-- ==== Proof.KernelIdeal.Launch.lean ====
/- The run of the whole program. -/
module

public import proofs.«01_k».proof.Proof.KernelIdeal.Enter
public import proofs.«01_k».proof.Proof.KernelIdeal.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}
local notation "𝕄" => MT nD τ sig Unit (Elt F) ℕ UU ℕ

variable [FloatOps F] [Named F]
open Idealize.ShloMosaic.Pipeline (Dat Seg HostSeg RegionSeg)
variable (m : (ℓ : Loc nD τ sig) → Buf (Elt F) ℓ) (ρ : Dev nD → PrngReg)

/-- The launch element: the windows' counters', and the protocol's. -/
def u₀ : UU := (initOf (Pipeline.cells cfgs cellOf_inj) (Pipeline.launchToks cfgs cellOf_inj), launchOf barCells cpCells toks)

theorem init_rest : iprop((bigSep Finset.univ fun c : Dev nD => iprop(unscopedSems0 c ∗ owes (c : Thread nD τ) (owe0 c) ∅ ∗ Pipeline.launchCred owe0 c ∗ prngReg c (ρ c) ∗ G c)) ∗ levAts L lv)
    ⊢ (|={Set.univ}=> bigSep Finset.univ (E m 0) : sProp (MM F)) := by
  iintro ⟨H, -⟩
  ihave H := fam_parts $$ H; icases H with ⟨Hs, H⟩
  ihave H := fam_parts $$ H; icases H with ⟨HO, H⟩
  ihave H := fam_parts $$ H; icases H with ⟨Hc, H⟩
  ihave H := fam_parts $$ H; icases H with ⟨Hp, HG⟩
  imod (deal m) $$ [Hs Hc HG] with HT
  · isplitl [Hs]; · iexact Hs
    isplitl [Hc]; · iexact Hc
    iexact HG
  imodintro
  iapply (show bigSep Finset.univ (fun c : Dev nD => iprop(Tk m c ∗ prngReg c (ρ c) ∗ owes (c : Thread nD τ) (owe0 c) ∅)) ⊢ bigSep Finset.univ (E m 0) from
    bigSep_mono fun c _ => show iprop(Tk m c ∗ prngReg c (ρ c) ∗ owes (c : Thread nD τ) (owe0 c) ∅) ⊢ E m 0 c from by
      unfold E
      iintro ⟨HT, Hp, HO⟩
      isplitl [HT]; · iexact HT
      isplitl [Hp]; · iexists (ρ c); iexact Hp
      iexists ∅; iexact HO)
  iapply fam_zip; isplitl [HT]; · iexact HT
  iapply fam_zip; isplitl [Hp]; · iexact Hp
  iexact HO

theorem init : iprop((bigSep Finset.univ fun c : Dev nD => iprop(unscopedBufs c (fun b => m ((c.tc : Thread nD τ).loc b)) ∗ unscopedSems0 c
      ∗ owes (c.tc : Thread nD τ) (owe0 c) ∅ ∗ Pipeline.launchCred owe0 c ∗ prngReg c (ρ c) ∗ G c)) ∗ levAts L lv)
    ⊢ (|={Set.univ}=> bigSep Finset.univ (fun c : Dev nD => iprop(StableHlo.held (c : Thread nD τ) (Pipeline.ucRefs τ sig) (V0 m c) ∗ E m 0 c)) : sProp (MM F)) := by
  iintro ⟨H, Hl⟩
  ihave H := fam_parts $$ H; icases H with ⟨Hb, H⟩
  imod (init_rest m ρ) $$ [H Hl] with HE
  · isplitl [H]; · iexact H
    iexact Hl
  imodintro
  iapply fam_zip
  isplitl [Hb]
  · iapply (show bigSep Finset.univ (fun c : Dev nD => (unscopedBufs c (fun b => m ((c.tc : Thread nD τ).loc b)) : sProp (MM F)))
      ⊢ bigSep Finset.univ (fun c : Dev nD => StableHlo.held (c : Thread nD τ) (Pipeline.ucRefs τ sig) (V0 m c)) from
      Entails.of_eq (bigSep_congr fun c _ => Pipeline.unscopedBufs_held c (V0 m c)))
    iexact Hb
  iexact HE

theorem uc_mem {r : Ref sig .tc} (h : r.isScoped = false) : Proc.devRef (τ := τ) .tc r ∈ Pipeline.ucRefs τ sig :=
  Finset.mem_filter.mpr ⟨StableHlo.devRef_mem_tcRefs r, by rw [show (Proc.devRef (τ := τ) .tc r).isScoped = r.isScoped from rfl, h]; decide⟩
theorem bar_unscoped : ∀ sm : SemLoc sig, sm.isScoped .tc = false → sm = .reg barS := by decide +kernel

/-- What a device's memory holds in the end. -/
def Ends (c : Dev nD) (s : MemSt nD τ sig (Elt F)) : Prop :=
  (∀ b ∈ Pipeline.ucRefs τ sig, s.mem ((c : Thread nD τ).1, b) = V2 m (outs m) c b) ∧ s.sem (barC c) = 0

set_option backward.isDefEq.respectTransparency.types false in
/-- Every run ends, with the arguments unchanged, every counter at zero, and the result `outv` on each device. -/
theorem run_main : θ_run defs (onTc (τ := τ) (main (F := F))) ⟨m, fun _ => 0, ρ⟩
    (fun r => (∀ c : Dev nD, ∀ b ∈ Pipeline.ucRefs τ sig, r.2.mem ((c : Thread nD τ).1, b) = V2 m (outs m) c b) ∧ r.2.sem = fun _ => 0) :=
  Pipeline.θ_run_regions_kit_dev_sems (pcfgs (F := F)) Gen.adm (pdats m) () cellOf_inj EP defs₀ 𝒱₀ L lv m ρ main
    (segs m 𝒱₀ L lv (E m) () (pdats m) (reg m))
    (fun c Q => by
      rewrite [main_chain c, Seg.run_eq_chain,
        show (segs m 𝒱₀ L lv (E m) () (pdats m) (reg m) c).map Seg.prog = [
          StableHlo.seq (hostOps0 c),
          Prog.lift (.customCall (Pipeline.entry 0) ()) ] from rfl]
      exact .rfl)
    (fun c => by simp only [segs, Seg.pipes_host, Seg.pipes_region, Seg.pipes_nil]; decide)
    owe0 L_of_ne G u₀
    (by
      unfold u₀ G
      iintro Hu
      ihave H := (ownU_pair _ _) $$ Hu
      icases H with ⟨HP, HX⟩
      imodintro
      isplitl [HP]; · iexact HP
      rw [onDev_all]; iexact HX)
    (fun c => iprop(StableHlo.held (c : Thread nD τ) (Pipeline.ucRefs τ sig) (V0 m c) ∗ E m 0 c))
    (fun c => iprop(StableHlo.held (c : Thread nD τ) (Pipeline.ucRefs τ sig) (V2 m (outs m) c) ∗ Yk c))
    (fun c => ⟨.rfl, reg_pre m c, (reg_post m c).trans (by
      unfold E
      iintro ⟨Hh, HY, HO⟩
      isplitr [HO]
      · isplitl [Hh]; · iexact Hh
        iexact HY
      iexact HO)⟩)
    (init m ρ) (Ends m)
    (fun c s' => by
      unfold StableHlo.held Yk
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨h, by simpa using hb⟩
      iexact HSI)
    (fun s h hs => ⟨fun c => (h c).1, sem_eq_zero hs fun c sm hsm => by
      obtain rfl := bar_unscoped sm hsm
      exact (h c).2⟩)

/-- The arguments and the result at the end of a run. -/
theorem run_ends : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1) ∧ r.2.mem ((c : Thread nD τ).loc main_arg2) = m ((c : Thread nD τ).loc main_arg2)
      ∧ r.2.mem ((c : Thread nD τ).loc main_arg3) = m ((c : Thread nD τ).loc main_arg3) ∧ r.2.mem ((c : Thread nD τ).loc main_arg4) = m ((c : Thread nD τ).loc main_arg4)
      ∧ r.2.mem ((c : Thread nD τ).loc main_v28) = outv (J m) c) ∧ r.2.sem = fun _ => 0) := by
  refine (θ_run defs _ _).mono ?_ (run_main m ρ)
  rintro r ⟨h, hs⟩
  exact ⟨fun c => ⟨(h c _ (uc_mem (r := main_arg0) rfl)).trans (V2_main_arg0 m (outs m) c), (h c _ (uc_mem (r := main_arg1) rfl)).trans (V2_main_arg1 m (outs m) c),
    (h c _ (uc_mem (r := main_arg2) rfl)).trans (V2_main_arg2 m (outs m) c), (h c _ (uc_mem (r := main_arg3) rfl)).trans (V2_main_arg3 m (outs m) c),
    (h c _ (uc_mem (r := main_arg4) rfl)).trans (V2_main_arg4 m (outs m) c), (h c _ (uc_mem (r := main_v28) rfl)).trans (V2_out m c)⟩, hs⟩

end Cert.KernelIdeal.Ring
-- ==== Proof.Value.Soft.lean ====
/- Attention weights over the extended reals: normalising by the sum of the exponentials, with and without
   the largest score taken away, and the sum over all keys as one over a window and the first keys. -/
module

public import Idealize.ShloMosaic.PureOps.Ideal.Laws
public import Idealize.ShloMosaic.Lib.FinSumWindow

@[expose] public section

noncomputable section

namespace Cert.Value

open Idealize.ShloMosaic

/-- A finite number. -/
def Fin' (x : EReal) : Prop := ∃ r : ℝ, x = r

/-- Query `i` looks at key `j`: it is near, or either is among the first thirty-two. -/
def see (i j : ℕ) : Prop := ((i ≤ j + 128 ∧ j ≤ i + 128) ∨ j < 32) ∨ i < 32
instance (i j : ℕ) : Decidable (see i j) := by unfold see; infer_instance

/-- The weight of key `j` before the weights are normalised. -/
def wt (i : ℕ) (s : Fin 2048 → EReal) (j : Fin 2048) : EReal := Ideal.exp (if see i j.val then s j else ⊥)
/-- The weighted sum of `v`. -/
def mix (i : ℕ) (s v : Fin 2048 → EReal) : EReal := ∑ j, wt i s j * v j
/-- The normalised one. -/
def ctx (i : ℕ) (s v : Fin 2048 → EReal) : EReal := mix i s v * Ideal.div 1 (mix i s fun _ => 1)

theorem sum_mul_coe {ι : Type} (t : Finset ι) (f : ι → EReal) {r : ℝ} (hr : 0 ≤ r) : (∑ j ∈ t, f j) * (r : EReal) = ∑ j ∈ t, f j * r := by
  classical
  induction t using Finset.induction_on with
  | empty => simp
  | insert a t ha ih =>
    rw [Finset.sum_insert ha, Finset.sum_insert ha, EReal.right_distrib_of_nonneg_of_ne_top (EReal.coe_nonneg.mpr hr) (EReal.coe_ne_top r), ih]

theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sum {ι : Type} (t : Finset ι) {f : ι → EReal} (h : ∀ j, Fin' (f j)) : Fin' (∑ j ∈ t, f j) := by
  choose g hg using h
  exact ⟨∑ j ∈ t, g j, by rw [coe_sum]; exact Finset.sum_congr rfl fun j _ => hg j⟩
theorem fin'_of_lt {x : EReal} (h : ⊥ < x) (h' : x < ⊤) : Fin' x := ⟨x.toReal, (EReal.coe_toReal h'.ne h.ne').symm⟩

/-- Taking the largest score away changes nothing. -/
theorem soft (i : Fin 2048) (s v : Fin 2048 → EReal) (hs : ∀ j, Fin' (s j)) (M : EReal)
    (hM : M = Finset.univ.fold max ⊥ fun j : Fin 2048 => if see i.val j.val then s j else ⊥) :
    ∑ j : Fin 2048, v j * Ideal.div (Ideal.exp ((if see i.val j.val then s j else ⊥) - M)) (∑ k : Fin 2048, Ideal.exp ((if see i.val k.val then s k else ⊥) - M))
      = ctx i.val s v := by
  choose σ hσ using hs
  have hsee : see i.val i.val := by unfold see; omega
  have hM' : Fin' M := by
    refine fin'_of_lt (lt_of_lt_of_le (EReal.bot_lt_coe (σ i)) ?_) ?_
    · rw [hM, Finset.le_fold_max]
      exact Or.inr ⟨i, Finset.mem_univ _, by rw [if_pos hsee, hσ]⟩
    · rw [hM, Finset.fold_max_lt]
      refine ⟨bot_lt_top, fun j _ => ?_⟩
      split
      · rw [hσ]; exact EReal.coe_lt_top _
      · exact bot_lt_top
  clear hM
  obtain ⟨μ, rfl⟩ := hM'
  let w : Fin 2048 → ℝ := fun j => if see i.val j.val then Real.exp (σ j) else 0
  have hw : ∀ j, wt i.val s j = (w j : EReal) := fun j => by
    unfold wt; simp only [w]; split
    · rw [hσ]; rfl
    · rfl
  have hc : ∀ j, Ideal.exp ((if see i.val j.val then s j else ⊥) - (μ : EReal)) = ((w j * Real.exp (-μ) : ℝ) : EReal) := fun j => by
    simp only [w]; split
    · rw [hσ, ← EReal.coe_sub, ← Real.exp_add, ← sub_eq_add_neg]; rfl
    · rw [EReal.bot_sub, zero_mul]; rfl
  have hpos : 0 < ∑ j, w j := by
    refine Finset.sum_pos' (fun j _ => ?_) ⟨i, Finset.mem_univ _, ?_⟩
    · simp only [w]; split
      · exact (Real.exp_pos _).le
      · exact le_rfl
    · simp only [w]; rw [if_pos hsee]; exact Real.exp_pos _
  have hden : mix i.val s (fun _ => 1) = ((∑ j, w j : ℝ) : EReal) := by
    unfold mix; rw [coe_sum]; exact Finset.sum_congr rfl fun j _ => by rw [mul_one, hw]
  have hne : ((∑ j, w j : ℝ) : EReal) ≠ 0 := fun h => hpos.ne' (EReal.coe_eq_zero.mp h)
  have hone : Ideal.div 1 ((∑ j, w j : ℝ) : EReal) = (((∑ j, w j)⁻¹ : ℝ) : EReal) := by
    unfold Ideal.div; rw [if_neg hne, one_mul, EReal.coe_inv]
  unfold ctx
  rw [hden, hone]
  unfold mix
  rw [sum_mul_coe _ _ (inv_nonneg.mpr hpos.le)]
  refine Finset.sum_congr rfl fun j _ => ?_
  simp only [hc, ← coe_sum, ← Finset.sum_mul]
  have hne' : (((∑ j, w j) * Real.exp (-μ) : ℝ) : EReal) ≠ 0 := fun h => (mul_pos hpos (Real.exp_pos _)).ne' (EReal.coe_eq_zero.mp h)
  unfold Ideal.div
  rw [if_neg hne', ← EReal.coe_inv, ← EReal.coe_mul, hw, mul_comm (v j), mul_assoc, mul_assoc, mul_comm (v j), ← mul_assoc, ← mul_assoc, ← EReal.coe_mul]
  congr 2
  field_simp

/-- The first key of the window that the rows of block `b` look at. -/
def lo (b : ℕ) : ℕ := min (128 * (b - 1)) 1664
theorem lo_lt (b : ℕ) : lo b + 384 ≤ 2048 := by unfold lo; omega

/-- The sum over all keys, from a window and the first keys. -/
theorem window (b : Fin 16) (hb : b ≠ 0) (r : Fin 128) (s v : Fin 2048 → EReal) (k : Fin 384 → Fin 2048) (hk : ∀ j, (k j).val = lo b.val + j.val)
    (g : Fin 128 → Fin 2048) (hg : ∀ j, (g j).val = j.val) :
    (∑ j : Fin 384, Ideal.exp (if see (128 * b.val + r.val) (k j).val then s (k j) else ⊥) * v (k j))
      + (∑ j : Fin 128, Ideal.exp (if j.val < 32 ∧ j.val < lo b.val then s (g j) else ⊥) * v (g j)) = mix (128 * b.val + r.val) s v := by
  have hb0 : 1 ≤ b.val := Nat.one_le_iff_ne_zero.mpr fun h => hb (Fin.ext h)
  have hr := r.isLt
  have hb' := b.isLt
  have e0 : Ideal.exp ⊥ = 0 := rfl
  let f : Fin 2048 → EReal := fun j => wt (128 * b.val + r.val) s j * v j
  let inw : Fin 2048 → Prop := fun j => lo b.val ≤ j.val ∧ j.val < lo b.val + 384
  have hsplit : mix (128 * b.val + r.val) s v = (∑ j, if inw j then f j else 0) + ∑ j, if inw j then 0 else f j := by
    rw [← Finset.sum_add_distrib]
    refine Finset.sum_congr rfl fun j _ => ?_
    split <;> simp [f]
  rw [hsplit, FinSumWindow.sum_window (lo b.val) (lo_lt _) (fun j => if inw j then f j else 0) (fun j h => if_neg h),
    FinSumWindow.sum_window (N := 2048) (W := 128) 0 (by decide) (fun j => if inw j then 0 else f j) (fun j h => ?_)]
  · congr 1
    · refine Finset.sum_congr rfl fun j _ => ?_
      have hj : k j = ⟨lo b.val + j.val, by have := lo_lt b.val; omega⟩ := Fin.ext (hk j)
      rw [hj]
      exact (if_pos ⟨Nat.le_add_right _ _, Nat.add_lt_add_left j.isLt _⟩).symm
    · refine Finset.sum_congr rfl fun j _ => ?_
      have hj : g j = ⟨0 + j.val, by omega⟩ := Fin.ext ((hg j).trans (Nat.zero_add _).symm)
      have hjl := j.isLt
      rw [hj]
      by_cases h : j.val < 32 ∧ j.val < lo b.val
      · rw [if_pos h, if_neg (by simp only [inw]; omega)]
        simp only [f, wt]
        rw [if_pos (by unfold see; omega)]
      · rw [if_neg h, e0, zero_mul]
        split
        · rfl
        · rename_i h'
          simp only [f, wt]
          rw [if_neg, e0, zero_mul]
          simp only [inw] at h'
          unfold see; unfold lo at h h'; omega
  · show (if inw j then 0 else f j) = 0
    split
    · rfl
    · rename_i h'
      simp only [f, wt]
      rw [if_neg, e0, zero_mul]
      simp only [inw] at h'
      unfold see; unfold lo at h'; omega

end Cert.Value
-- ==== Proof.Value.Words.lean ====
/- The kernel's words at an index: which keys a row looks at, and the blocks it loads. -/
module

public import proofs.«01_k».proof.Proof.KernelIdeal.Rows
public import proofs.«01_k».proof.Proof.Value.Soft
public import Idealize.ShloMosaic.Lib.Pointwise

@[expose] public section

noncomputable section

namespace Cert.Value

open Idealize.ShloMosaic
open Cert.KernelIdeal Cert.KernelIdeal.Gen Cert.KernelIdeal.Ring

/-! ## Words -/

theorem cmp_lt {a b : ℕ} (ha : a < 2048) (hb : b < 2048) : IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, decide_eq_decide]
  have e : ∀ {n : ℕ}, n < 2048 → (BitVec.ofNat 32 n).toInt = n := fun {n} h => by
    rw [BitVec.toInt_eq_toNat_of_lt (by rw [BitVec.toNat_ofNat]; omega), BitVec.toNat_ofNat, Nat.mod_eq_of_lt (by omega)]
  rw [e ha, e hb]
  omega

theorem dist_up : ∀ n : Fin 2048, IntOp.cmpi .sle (IntOp.absi (BitVec.ofNat 32 n.val)) 128#32 = BitVec.ofBool (decide (n.val ≤ 128)) := by decide +kernel
theorem dist_down : ∀ n : Fin 2048, IntOp.cmpi .sle (IntOp.absi (0#32 - BitVec.ofNat 32 n.val)) 128#32 = BitVec.ofBool (decide (n.val ≤ 128)) := by decide +kernel

theorem near_word {i j : ℕ} (hi : i < 2048) (hj : j < 2048) : IntOp.cmpi .sle (IntOp.absi (IntOp.subi (BitVec.ofNat 32 i) (BitVec.ofNat 32 j))) 128#32
    = BitVec.ofBool (decide (i ≤ j + 128 ∧ j ≤ i + 128)) := by
  show IntOp.cmpi .sle (IntOp.absi (BitVec.ofNat 32 i - BitVec.ofNat 32 j)) 128#32 = _
  rcases le_total j i with h | h
  · have e : BitVec.ofNat 32 i - BitVec.ofNat 32 j = BitVec.ofNat 32 (i - j) := by
      apply BitVec.eq_of_toNat_eq; simp only [BitVec.toNat_sub, BitVec.toNat_ofNat]; omega
    rw [e]
    refine (dist_up ⟨i - j, by omega⟩).trans ?_
    congr 1; rw [decide_eq_decide]; show i - j ≤ 128 ↔ _; omega
  · have e : BitVec.ofNat 32 i - BitVec.ofNat 32 j = 0#32 - BitVec.ofNat 32 (j - i) := by
      apply BitVec.eq_of_toNat_eq; simp only [BitVec.toNat_sub, BitVec.toNat_ofNat]; omega
    rw [e]
    refine (dist_down ⟨j - i, by omega⟩).trans ?_
    congr 1; rw [decide_eq_decide]; show j - i ≤ 128 ↔ _; omega

theorem or_bit (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]
theorem and_bit (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
theorem sel_bit {α : Type} (p : Prop) [Decidable p] (x y : α) : Scalar.select (BitVec.ofBool (decide p)) x y = if p then x else y := by
  by_cases hp : p <;> simp [hp, Scalar.select]

theorem see_word {i j : ℕ} (hi : i < 2048) (hj : j < 2048) :
    IntOp.ori (IntOp.ori (IntOp.cmpi .sle (IntOp.absi (IntOp.subi (BitVec.ofNat 32 i) (BitVec.ofNat 32 j))) 128#32) (IntOp.cmpi .slt (BitVec.ofNat 32 j) 32#32))
      (IntOp.cmpi .slt (BitVec.ofNat 32 i) 32#32) = BitVec.ofBool (decide (see i j)) := by
  rw [near_word hi hj, show (32#32 : BitVec 32) = BitVec.ofNat 32 32 from rfl, cmp_lt hj (by decide), cmp_lt hi (by decide), or_bit, or_bit]
  rfl

theorem row_word (b : Fin 16) (r : Fin 128) : IntOp.addi (BitVec.ofNat 32 r.val) (Scalar.muli (bw b) 128#32) = BitVec.ofNat 32 (128 * b.val + r.val) := by
  show BitVec.ofNat 32 r.val + BitVec.ofNat 32 b.val * 128#32 = _
  apply BitVec.eq_of_toNat_eq; simp only [BitVec.toNat_add, BitVec.toNat_mul, BitVec.toNat_ofNat]; omega
theorem lo_word : ∀ b : Fin 16, b ≠ 0 → Scalar.minsi (Scalar.muli (Scalar.subi (bw b) 1#32) 128#32) 1664#32 = BitVec.ofNat 32 (lo b.val) := by decide +kernel
theorem add_word {a b : ℕ} (h : a + b < 2048) : IntOp.addi (BitVec.ofNat 32 a) (BitVec.ofNat 32 b) = BitVec.ofNat 32 (b + a) := by
  show BitVec.ofNat 32 a + BitVec.ofNat 32 b = _
  apply BitVec.eq_of_toNat_eq; simp only [BitVec.toNat_add, BitVec.toNat_ofNat]; omega
/-- The fill of the masked scores. -/
abbrev fill : EReal := Named.named (F := Ideal) κ "mask" (φ := .f32) 0xCE6E6B28#32
theorem fill_val : fill = ⊥ := rfl

theorem qi_at (b : Fin 16) (r : Fin 128) (n : Fin 2048) : qi (bw b) (ix2 r n) = BitVec.ofNat 32 (128 * b.val + r.val) := by
  pointwise [qi]
  exact row_word b r

/-- A row of a block past the first looks at key `n` of its window. -/
theorem near_at (b : Fin 16) (hb : b ≠ 0) (r : Fin 128) (n : Fin 384) :
    k0_pay17 (bw b) (qi (bw b)) (ix2 r n) = BitVec.ofBool (decide (see (128 * b.val + r.val) (lo b.val + n.val))) := by
  have hb0 : 1 ≤ b.val := Nat.one_le_iff_ne_zero.mpr fun h => hb (Fin.ext h)
  have hr := r.isLt
  have hb' := b.isLt
  have hn := n.isLt
  have hl := lo_lt b.val
  pointwise [k0_pay17]
  rw [lo_word b hb, add_word (by omega), qi_at, near_word (by omega) (by omega), show (32#32 : BitVec 32) = BitVec.ofNat 32 32 from rfl, cmp_lt (by omega) (by decide), or_bit]
  congr 1
  rw [decide_eq_decide]; unfold see; omega
/-- It looks at the first keys that lie before its window. -/
theorem first_at (b : Fin 16) (hb : b ≠ 0) (r n : Fin 128) : k0_pay18 (bw b) (ix2 r n) = BitVec.ofBool (decide (n.val < 32 ∧ n.val < lo b.val)) := by
  have hn := n.isLt
  have hl := lo_lt b.val
  pointwise [k0_pay18]
  rw [lo_word b hb, show (32#32 : BitVec 32) = BitVec.ofNat 32 32 from rfl, cmp_lt (by omega) (by decide), cmp_lt (by omega) (by omega), and_bit]

/-! ## Blocks -/

theorem rd2 {V : Type} {a b a' b' o p : ℕ} (X : (⟨2, ![a, b]⟩ : Shape).Idx → V) {hb : ∀ c, (![o, p] : Fin 2 → ℕ) c + (![a', b'] : Fin 2 → ℕ) c ≤ (⟨2, ![a, b]⟩ : Shape).size c}
    (i : Fin a') (j : Fin b') (i' : Fin a) (j' : Fin b) (hi : i'.val = o + i.val) (hj : j'.val = p + j.val) :
    rd X ![o, p] ![a', b'] hb (ix2 i j) = X (ix2 i' j') := by
  refine congrArg X (funext fun c => Fin.ext ?_)
  match c with
  | 0 => exact ((congrArg (o + ·) (one_mul i.val)).trans hi.symm)
  | 1 => exact ((congrArg (p + ·) (one_mul j.val)).trans hj.symm)

theorem rd3 {V : Type} {a b c a' b' c' o p q : ℕ} (X : (⟨3, ![a, b, c]⟩ : Shape).Idx → V) {hb : ∀ d, (![o, p, q] : Fin 3 → ℕ) d + (![a', b', c'] : Fin 3 → ℕ) d ≤ (⟨3, ![a, b, c]⟩ : Shape).size d}
    (i : Fin a') (j : Fin b') (k : Fin c') (i' : Fin a) (j' : Fin b) (k' : Fin c) (hi : i'.val = o + i.val) (hj : j'.val = p + j.val) (hk : k'.val = q + k.val) :
    rd X ![o, p, q] ![a', b', c'] hb (ix3 i j k) = X (ix3 i' j' k') := by
  refine congrArg X (funext fun d => Fin.ext ?_)
  match d with
  | 0 => exact ((congrArg (o + ·) (one_mul i.val)).trans hi.symm)
  | 1 => exact ((congrArg (p + ·) (one_mul j.val)).trans hj.symm)
  | 2 => exact ((congrArg (q + ·) (one_mul k.val)).trans hk.symm)

end Cert.Value
-- ==== Proof.Value.Parts.lean ====
/- What a device adds to the rows of a block: its eight heads' contexts, times its rows of the output weights. -/
module

public import proofs.«01_k».proof.Proof.Value.Words

@[expose] public section

noncomputable section

namespace Cert.Value

open Idealize.ShloMosaic
open Cert.KernelIdeal Cert.KernelIdeal.Gen Cert.KernelIdeal.Ring

/-- The scale of the scores. -/
def sc : EReal := Ideal.ofBits .f32 0x3DB504F3#32

variable (I : Inp Ideal)

/-- A device's query: row `i`, column `n` of its thousand. -/
def qry (i : Fin 2048) (n : Fin 1024) : EReal := ∑ d : Fin 1024, I.x (ix2 i d) * I.wq (ix2 d n)
/-- Column `d` of head `t`. -/
abbrev col (t : Fin 8) (d : Fin 128) : Fin 1024 := ⟨128 * t.val + d.val, by omega⟩
/-- Row `r` of block `b`. -/
abbrev rw' (b : Fin 16) (r : Fin 128) : Fin 2048 := ⟨128 * b.val + r.val, by omega⟩
/-- A score. -/
def scr (i : Fin 2048) (t : Fin 8) (j : Fin 2048) : EReal := (∑ d : Fin 128, qry I i (col t d) * I.k (ix3 t j d)) * sc
/-- What head `t` adds to row `i`, column `n`. -/
def add (i : Fin 2048) (t : Fin 8) (n : Fin 1024) : EReal :=
  ∑ d : Fin 128, ctx i.val (scr I i t) (fun j => I.va (ix3 t j ⟨d.val, by omega⟩)) * I.wo (ix2 (col t d) n)

theorem qv_at (b : Fin 16) (r : Fin 128) (n : Fin 1024) : qv I b (ix2 r n) = qry I (rw' b r) n := by
  unfold qv qry
  pointwise [k0_pay14]
  refine Finset.sum_congr rfl fun d _ => congrArg₂ (· * ·) ?_ ?_
  · exact rd2 I.x r d (rw' b r) d rfl (Nat.zero_add _).symm
  · exact rd2 I.wq d n d n (Nat.zero_add _).symm (Nat.zero_add _).symm

variable (hone : ∀ (t : Fin 8) (j : Fin 2048), I.va (ix3 t j 128) = 1)
include hone

theorem dstep_at (b : Fin 16) (t : Fin 8) (a : FVec Ideal S128x1024 .f32) (r : Fin 128) (n : Fin 1024) :
    dstep I b (qv I b) t a (ix2 r n) = a (ix2 r n) + add I (rw' b r) t n := by
  unfold dstep add
  pointwise [k0_pay16]
  refine congrArg _ (Finset.sum_congr rfl fun d _ => congrArg₂ (· * ·) ?_ (rd2 I.wo d n (col t d) n rfl (Nat.zero_add _).symm))
  have hm : ∀ j : Fin 2048, Ideal.exp (Scalar.select (IntOp.ori (IntOp.ori (IntOp.cmpi .sle (IntOp.absi (IntOp.subi (qi (bw b) (ix2 r j)) (BitVec.ofNat 32 j.val))) 128#32)
        (IntOp.cmpi .slt (BitVec.ofNat 32 j.val) 32#32)) (IntOp.cmpi .slt (qi (bw b) (ix2 r j)) 32#32))
      ((∑ e : Fin 128, rd (qv I b) ![0, 128 * t.val] S128x128.size (in_head t) (ix2 r e) * rd I.k ![t.val, 0, 0] S1x2048x128.size (in_k t) (ix3 0 j e)) * Ideal.ofBits .f32 0x3DB504F3#32)
      fill) = wt (rw' b r).val (scr I (rw' b r) t) j := fun j => by
    rw [qi_at, see_word (rw' b r).isLt j.isLt, sel_bit, fill_val]
    unfold wt scr sc
    refine congrArg Ideal.exp (if_congr Iff.rfl (congrArg (· * _) (Finset.sum_congr rfl fun e _ => congrArg₂ (· * ·) ?_ ?_)) rfl)
    · exact (rd2 (qv I b) r e r (col t e) (Nat.zero_add _).symm rfl).trans (qv_at I b r (col t e))
    · exact rd3 I.k 0 j e t j e rfl (Nat.zero_add _).symm (Nat.zero_add _).symm
  have hv : ∀ (j : Fin 2048) (e : Fin 256), rd I.va ![t.val, 0, 0] S1x2048x256.size (in_v t) (ix3 0 j e) = I.va (ix3 t j e) := fun j e =>
    rd3 I.va 0 j e t j e rfl (Nat.zero_add _).symm (Nat.zero_add _).symm
  simp only [hm, hv, hone]
  rfl

theorem wstep_at (b : Fin 16) (hb : b ≠ 0) (t : Fin 8) (a : FVec Ideal S128x1024 .f32) (r : Fin 128) (n : Fin 1024) :
    wstep I b (qv I b) t a (ix2 r n) = a (ix2 r n) + add I (rw' b r) t n := by
  have hl := lo_lt b.val
  unfold wstep add
  pointwise [k0_pay20, k0_pay1]
  refine congrArg _ (Finset.sum_congr rfl fun d _ => congrArg₂ (· * ·) ?_ (rd2 I.wo d n (col t d) n rfl (Nat.zero_add _).symm))
  let kw : Fin 384 → Fin 2048 := fun j => ⟨lo b.val + j.val, by omega⟩
  let kg : Fin 128 → Fin 2048 := fun j => ⟨j.val, by omega⟩
  have hw : ∀ j : Fin 384, Ideal.exp (Scalar.select (k0_pay17 (bw b) (qi (bw b)) (ix2 r j))
      ((∑ e : Fin 128, rd (qv I b) ![0, 128 * t.val] S128x128.size (in_head t) (ix2 r e) * rd I.k ![t.val, ws b, 0] S1x384x128.size (in_kw b t) (ix3 0 j e)) * Ideal.ofBits .f32 0x3DB504F3#32)
      fill) = Ideal.exp (if see (128 * b.val + r.val) (kw j).val then scr I (rw' b r) t (kw j) else ⊥) := fun j => by
    rw [near_at b hb, sel_bit, fill_val]
    unfold scr sc
    refine congrArg Ideal.exp (if_congr Iff.rfl (congrArg (· * _) (Finset.sum_congr rfl fun e _ => congrArg₂ (· * ·) ?_ ?_)) rfl)
    · exact (rd2 (qv I b) r e r (col t e) (Nat.zero_add _).symm rfl).trans (qv_at I b r (col t e))
    · exact rd3 I.k 0 j e t (kw j) e rfl rfl (Nat.zero_add _).symm
  have hg : ∀ j : Fin 128, Ideal.exp (Scalar.select (k0_pay18 (bw b) (ix2 r j))
      ((∑ e : Fin 128, rd (qv I b) ![0, 128 * t.val] S128x128.size (in_head t) (ix2 r e) * rd I.k ![t.val, 0, 0] S1x128x128.size (in_kg t) (ix3 0 j e)) * Ideal.ofBits .f32 0x3DB504F3#32)
      fill) = Ideal.exp (if j.val < 32 ∧ j.val < lo b.val then scr I (rw' b r) t (kg j) else ⊥) := fun j => by
    rw [first_at b hb, sel_bit, fill_val]
    unfold scr sc
    refine congrArg Ideal.exp (if_congr Iff.rfl (congrArg (· * _) (Finset.sum_congr rfl fun e _ => congrArg₂ (· * ·) ?_ ?_)) rfl)
    · exact (rd2 (qv I b) r e r (col t e) (Nat.zero_add _).symm rfl).trans (qv_at I b r (col t e))
    · exact rd3 I.k 0 j e t (kg j) e rfl (Nat.zero_add _).symm (Nat.zero_add _).symm
  have hvw : ∀ (j : Fin 384) (e : Fin 256), rd I.va ![t.val, ws b, 0] S1x384x256.size (in_vw b t) (ix3 0 j e) = I.va (ix3 t (kw j) e) := fun j e =>
    rd3 I.va 0 j e t (kw j) e rfl rfl (Nat.zero_add _).symm
  have hvg : ∀ (j : Fin 128) (e : Fin 256), rd I.va ![t.val, 0, 0] S1x128x256.size (in_vg t) (ix3 0 j e) = I.va (ix3 t (kg j) e) := fun j e =>
    rd3 I.va 0 j e t (kg j) e rfl (Nat.zero_add _).symm (Nat.zero_add _).symm
  simp only [hw, hg, hvw, hvg]
  rw [window b hb r (scr I (rw' b r) t) (fun j => I.va (ix3 t j ⟨d.val, by omega⟩)) kw (fun _ => rfl) kg (fun _ => rfl),
    window b hb r (scr I (rw' b r) t) (fun j => I.va (ix3 t j 128)) kw (fun _ => rfl) kg (fun _ => rfl)]
  simp only [hone]
  rfl

theorem part_at (b : Fin 16) (r : Fin 128) (n : Fin 1024) : part I b (ix2 r n) = ∑ t : Fin 8, add I (rw' b r) t n := by
  let g : ℕ → EReal := fun k => if h : k < 8 then add I (rw' b r) ⟨k, h⟩ n else 0
  have h : ∀ m, m ≤ 8 → heads I b (qv I b) m (ix2 r n) = ∑ k ∈ Finset.range m, g k := by
    intro m
    induction m with
    | zero => intro _; unfold heads; pointwise [k0_pay15]; rfl
    | succ m ih =>
      intro hm
      have h8 := Nat.lt_of_succ_le hm
      have hs : hstep I b (qv I b) ⟨m, h8⟩ (heads I b (qv I b) m) (ix2 r n) = heads I b (qv I b) m (ix2 r n) + add I (rw' b r) ⟨m, h8⟩ n := by
        unfold hstep
        split
        · exact dstep_at I hone b _ _ r n
        · rename_i h0; exact wstep_at I hone b h0 _ _ r n
      unfold heads
      rw [dif_pos h8, hs, ih (Nat.le_of_succ_le hm), Finset.sum_range_succ]
      have hg : g m = add I (rw' b r) ⟨m, h8⟩ n := dif_pos h8
      rw [hg]
  refine (h 8 le_rfl).trans ((Finset.sum_range g).trans (Finset.sum_congr rfl fun t _ => dif_pos t.isLt))

end Cert.Value
-- ==== Proof.Value.Host.lean ====
/- What the host hands the kernel, at an index. -/
module

public import proofs.«01_k».proof.Proof.KernelIdeal.Region
public import proofs.«01_k».proof.Proof.Value.Parts
public import Idealize.ShloMosaic.Lib.StableHlo.RunClose

@[expose] public section

noncomputable section

namespace Cert.Value

open Idealize.ShloMosaic Idealize.ShloMosaic.TcCoe
open Cert.KernelIdeal Cert.KernelIdeal.Gen Cert.KernelIdeal.Ring

variable (m : (ℓ : Loc nD τ sig) → Buf (Elt Ideal) ℓ) (c : Dev nD)

theorem x_at (i : Fin 2048) (d : Fin 1024) : (J m c).x (ix2 i d) = m ((c : Thread nD τ).loc main_arg0) (ix3 0 i d) := by
  show StableHlo.after (hostOps0 c) (V0 m c) main_v18 (ix2 i d) = _
  simp only [hostOps0]
  after_results_simp
  pointwise
/-- The word at which a device's thousand begin. -/
def start (c : Dev nD) : BitVec 32 :=
  let w := IntOp.muli (IntOp.remui .vector (IntOp.divui .vector (Dev.word c) 1#32) 16#32) 1024#32
  Scalar.select (IntOp.cmpi .slt w 0#32) (IntOp.addi w 16384#32) w
theorem start_val : (start c).toInt = (1024 * c.val : ℕ) := by revert c; decide +kernel

theorem wq_at (i n : Fin 1024) : (J m c).wq (ix2 i n) = m ((c : Thread nD τ).loc main_arg1) (ix2 i ⟨1024 * c.val + n.val, by have : c.val < 16 := c.isLt; omega⟩) := by
  show StableHlo.after (hostOps0 c) (V0 m c) main_v10 (ix2 i n) = _
  simp only [hostOps0]
  after_results_simp_entrywise
  pointwise
  have hc : c.val < 16 := c.isLt
  refine congrArg₂ (fun a b => m ((c : Thread nD τ).loc main_arg1) (ix2 a b)) (Fin.ext ?_) (Fin.ext ?_)
  · exact (congrArg (· + i.val) (Host.clampedStart_of_le _ _ 0 0 rfl (by decide))).trans (Nat.zero_add _)
  · exact congrArg (· + n.val) (Host.clampedStart_of_le _ _ 1 (1024 * c.val) (start_val c) (by show 1024 * c.val + 1024 ≤ 16384; omega))
theorem k_at (t : Fin 8) (j : Fin 2048) (d : Fin 128) : (J m c).k (ix3 t j d) = m ((c : Thread nD τ).loc main_arg2) (ix4 0 j t d) := by
  show StableHlo.after (hostOps0 c) (V0 m c) main_v21 (ix3 t j d) = _
  simp only [hostOps0]
  after_results_simp
  pointwise
theorem va_at (t : Fin 8) (j : Fin 2048) (d : Fin 128) : (J m c).va (ix3 t j ⟨d.val, by omega⟩) = m ((c : Thread nD τ).loc main_arg3) (ix4 0 j t d) := by
  show StableHlo.after (hostOps0 c) (V0 m c) main_v27 (ix3 t j ⟨d.val, by omega⟩) = _
  simp only [hostOps0]
  after_results_simp
  pointwise
  after_results_simp
  pointwise
theorem va_one (t : Fin 8) (j : Fin 2048) : (J m c).va (ix3 t j 128) = 1 := by
  show StableHlo.after (hostOps0 c) (V0 m c) main_v27 (ix3 t j 128) = _
  simp only [hostOps0]
  after_results_simp
  pointwise
  after_results_simp
  pointwise
theorem wo_at (i n : Fin 1024) : (J m c).wo (ix2 i n) = m ((c : Thread nD τ).loc main_arg4) (ix2 ⟨1024 * c.val + i.val, by have : c.val < 16 := c.isLt; omega⟩ n) := by
  show StableHlo.after (hostOps0 c) (V0 m c) main_v16 (ix2 i n) = _
  simp only [hostOps0]
  after_results_simp_entrywise
  pointwise
  have hc : c.val < 16 := c.isLt
  refine congrArg₂ (fun a b => m ((c : Thread nD τ).loc main_arg4) (ix2 a b)) (Fin.ext ?_) (Fin.ext ?_)
  · exact congrArg (· + i.val) (Host.clampedStart_of_le _ _ 0 (1024 * c.val) (start_val c) (by show 1024 * c.val + 1024 ≤ 16384; omega))
  · exact (congrArg (· + n.val) (Host.clampedStart_of_le _ _ 1 0 rfl (by decide))).trans (Nat.zero_add _)

end Cert.Value
-- ==== Proof.Value.RingSum.lean ====
/- The ring of sixteen devices adds the devices' shares of every row. -/
module

public import proofs.«01_k».proof.Proof.Value.Parts
public import proofs.«01_k».proof.Proof.KernelIdeal.Whole

@[expose] public section

noncomputable section

namespace Cert.Value

open Idealize.ShloMosaic
open Cert.KernelIdeal Cert.KernelIdeal.Gen Cert.KernelIdeal.Ring

theorem up_at (b : FVec Ideal S128x1024 .f32) (r : Fin 128) (n : Fin 1024) : up (F := Ideal) (e := .f32) b (ix3 0 r n) = b (ix2 r n) := by
  have h : shapeCast S1x128x1024 b (by decide) (ix3 0 r n) = b (ix2 r n) := by pointwise
  refine Eq.trans ?_ h
  exact congrArg b (congrArg (fun e : S1x128x1024.Idx ≃ S128x1024.Idx => e (ix3 0 r n)) (Shape.reshapeEquiv_symm _))
theorem pay12_at (a b : FVec Ideal S128x1024 .f32) (r : Fin 128) (n : Fin 1024) :
    k0_pay12 a (up (F := Ideal) (e := .f32) b) (ix2 r n) = a (ix2 r n) + b (ix2 r n) := by
  pointwise [k0_pay12]
  rw [up_at]
theorem pay29_at (a b : FVec Ideal S128x1024 .f32) (r : Fin 128) (n : Fin 1024) :
    k0_pay29 a (up (F := Ideal) (e := .f32) b) (ix2 r n) = a (ix2 r n) + b (ix2 r n) := by
  pointwise [k0_pay29]
  rw [up_at]
theorem pay30_at (a b : FVec Ideal S128x1024 .f32) (r : Fin 128) (n : Fin 1024) :
    k0_pay30 a (up (F := Ideal) (e := .f32) b) (ix2 r n) = a (ix2 r n) + b (ix2 r n) := by
  pointwise [k0_pay30]
  rw [up_at]
theorem pay31_at (a b : FVec Ideal S128x1024 .f32) (r : Fin 128) (n : Fin 1024) :
    k0_pay31 a (up (F := Ideal) (e := .f32) b) (ix2 r n) = a (ix2 r n) + b (ix2 r n) := by
  pointwise [k0_pay31]
  rw [up_at]
theorem pay33_at (a : FVec Ideal S128x1024 .f32) (r : Fin 128) (n : Fin 1024) :
    k0_pay33 (F := Ideal) (up (F := Ideal) (e := .bf16) (down (F := Ideal) (e := .bf16) (k0_pay32 (F := Ideal) a))) (ix2 r n) = a (ix2 r n) := by
  rw [up_down]
  pointwise [k0_pay33, k0_pay32]

/-- The devices' sums for a row. -/
def S (J : Dev nD → Inp Ideal) (b : Fin 16) (r : Fin 128) (n : Fin 1024) (p : Dev nD) : EReal := part (J p) b (ix2 r n)

variable (J : Dev nD → Inp Ideal) (r : Fin 128) (n : Fin 1024)

theorem rsR_at (s : ℕ) (hs : s < 16) (c : Dev nD) :
    rsR J s c (ix2 r n) = ∑ t ∈ Finset.range (s + 1), S J (ck (c.val + 40 - s)) r n (ck (c.val + 16 - t)) := by
  induction s generalizing c with
  | zero =>
    rw [Finset.sum_range_one]
    show part (J c) _ _ = part (J _) _ _
    rw [show ck (c.val + 16 - 0) = c from Fin.ext (by have : c.val < 16 := c.isLt; show (c.val + 16 - 0) % 16 = c.val; omega)]
  | succ s ih =>
    refine (pay12_at _ _ r n).trans ?_
    rw [Finset.sum_range_succ', ih (by omega) (left c), add_comm]
    have hc : c.val < 16 := c.isLt
    refine congrArg₂ (· + ·) (Finset.sum_congr rfl fun t ht => ?_) ?_
    · have := Finset.mem_range.mp ht
      exact congrArg₂ (fun b p => S J b r n p) (Fin.ext (by show ((c.val + 15) % 16 + 40 - s) % 16 = (c.val + 40 - (s + 1)) % 16; omega))
        (Fin.ext (by show ((c.val + 15) % 16 + 16 - t) % 16 = (c.val + 16 - (t + 1)) % 16; omega))
    · exact congrArg (S J _ r n) (Fin.ext (by show c.val = (c.val + 16 - 0) % 16; omega))

theorem rsL_at (s : ℕ) (hs : s < 16) (c : Dev nD) :
    rsL J s c (ix2 r n) = ∑ t ∈ Finset.range (s + 1), S J (ck (c.val + s + 25)) r n (ck (c.val + t)) := by
  induction s generalizing c with
  | zero =>
    rw [Finset.sum_range_one]
    show part (J c) _ _ = part (J _) _ _
    rw [show ck (c.val + 0) = c from Fin.ext (by have : c.val < 16 := c.isLt; show (c.val + 0) % 16 = c.val; omega)]
  | succ s ih =>
    refine (pay29_at _ _ r n).trans ?_
    rw [Finset.sum_range_succ', ih (by omega) (right c), add_comm]
    have hc : c.val < 16 := c.isLt
    refine congrArg₂ (· + ·) (Finset.sum_congr rfl fun t ht => ?_) ?_
    · exact congrArg₂ (fun b p => S J b r n p) (Fin.ext (by show ((c.val + 1) % 16 + s + 25) % 16 = (c.val + (s + 1) + 25) % 16; omega))
        (Fin.ext (by show ((c.val + 1) % 16 + t) % 16 = (c.val + (t + 1)) % 16; omega))
    · exact congrArg (S J _ r n) (Fin.ext (by show c.val = (c.val + 0) % 16; omega))

/-- A device ends its own rows with the sum of all sixteen devices' shares. -/
theorem tot_at (c : Dev nD) : tot J c (ix2 r n) = ∑ p : Dev nD, S J (ck c.val) r n p := by
  have hc : c.val < 16 := c.isLt
  refine (pay31_at _ _ r n).trans ?_
  have h1 : own1 J c (ix2 r n) = S J (ck c.val) r n c + ∑ t ∈ Finset.range 8, S J (ck c.val) r n (ck (c.val + 15 - t)) := by
    refine (pay30_at _ _ r n).trans ?_
    rw [rsR_at J r n 7 (by decide) (left c)]
    refine congrArg _ (Finset.sum_congr rfl fun t ht => ?_)
    have := Finset.mem_range.mp ht
    exact congrArg₂ (fun b p => S J b r n p) (Fin.ext (by show ((c.val + 15) % 16 + 40 - 7) % 16 = c.val % 16; omega))
      (Fin.ext (by show ((c.val + 15) % 16 + 16 - t) % 16 = (c.val + 15 - t) % 16; omega))
  have h2 : rsL J 6 (right c) (ix2 r n) = ∑ t ∈ Finset.range 7, S J (ck c.val) r n (ck (c.val + 1 + t)) := by
    rw [rsL_at J r n 6 (by decide) (right c)]
    refine Finset.sum_congr rfl fun t ht => ?_
    exact congrArg₂ (fun b p => S J b r n p) (Fin.ext (by show ((c.val + 1) % 16 + 6 + 25) % 16 = c.val % 16; omega))
      (Fin.ext (by show ((c.val + 1) % 16 + t) % 16 = (c.val + 1 + t) % 16; omega))
  rw [h1, h2, ← (turn c).sum_comp (S J (ck c.val) r n)]
  have h3 : ∀ o : Fin 16, turn c o = ck (c.val + o.val) := fun _ => rfl
  simp only [h3]
  set f : ℕ → EReal := fun o => S J (ck c.val) r n (ck (c.val + o)) with hf
  have e : ∑ o : Fin 16, f o.val = (∑ t ∈ Finset.range 7, f (t + 1) + f 0) + ∑ t ∈ Finset.range 8, f (8 + (8 - 1 - t)) := by
    rw [Finset.sum_range_reflect (fun t => f (8 + t)) 8, ← Finset.sum_range_succ' f 7, ← Finset.sum_range_add f 8 8]
    exact Fin.sum_univ_eq_sum_range f 16
  have e0 : S J (ck c.val) r n c = f 0 := congrArg (S J (ck c.val) r n) (Fin.ext (show c.val = (c.val + 0) % 16 by omega))
  have e1 : ∑ t ∈ Finset.range 8, S J (ck c.val) r n (ck (c.val + 15 - t)) = ∑ t ∈ Finset.range 8, f (8 + (8 - 1 - t)) :=
    Finset.sum_congr rfl fun t ht => congrArg (S J (ck c.val) r n) (Fin.ext (by
      have := Finset.mem_range.mp ht
      show (c.val + 15 - t) % 16 = (c.val + (8 + (8 - 1 - t))) % 16; omega))
  have e2 : ∑ t ∈ Finset.range 7, S J (ck c.val) r n (ck (c.val + 1 + t)) = ∑ t ∈ Finset.range 7, f (t + 1) :=
    Finset.sum_congr rfl fun t _ => congrArg (S J (ck c.val) r n) (Fin.ext (show (c.val + 1 + t) % 16 = (c.val + (t + 1)) % 16 by omega))
  rw [e0, e1, e2, e]
  ac_rfl

theorem outv_at (c : Dev nD) (b : Fin 16) : outv J c (ix2 (rw' b r) n) = ∑ p : Dev nD, S J b r n p := by
  have hb : chunk c ((turn c).symm b) = b := (turn c).apply_symm_apply b
  have hc : c.val < 16 := c.isLt
  have h : (rowR b).emb (ix2 r n) = ix2 (rw' b r) n := by
    funext a
    refine Fin.ext ?_
    match a with
    | 0 => exact congrArg (128 * b.val + ·) (one_mul r.val)
    | 1 => exact (congrArg (0 + ·) (one_mul n.val)).trans (Nat.zero_add _)
  refine (congrArg (outv J c) h.symm).trans ((outv_row (J := J) (c := c) b (ix2 r n)).trans ?_)
  unfold finv
  split
  · rename_i h0
    rw [h0] at hb
    rw [tot_at, show ck c.val = b from hb]
  · refine (pay33_at (tot J ⟨(chunk c ((turn c).symm b)).val, (chunk c ((turn c).symm b)).isLt⟩) r n).trans ?_
    refine (tot_at J r n _).trans ?_
    rw [hb]
    exact congrArg (fun b => ∑ p, S J b r n p) (Fin.ext (Nat.mod_eq_of_lt b.isLt))

end Cert.Value
-- ==== Proof.Value.Ref.lean ====
/- The reference, stage by stage, at an index. -/
module

public import proofs.«01_k».proof.Proof.Value.Parts
public import proofs.«01_k».proof.Proof.Gen.ReferenceIdeal.Run

@[expose] public section

noncomputable section

namespace Cert.Value

open Idealize.ShloMosaic
open Cert.ReferenceIdeal Cert.ReferenceIdeal.Gen Cert.ReferenceIdeal.Value

/-! ## The reference in stages -/

/-- Which pairs are kept. -/
def rMask : IVec S2048x2048 1 := ori (cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))) (ori (broadcastInDim S2048x2048 ![0, 1] bcast_S1x2048_S2048x2048_0_1 (cmpi .slt (broadcastInDim S1x2048 ![1] bcast_S2048_S1x2048_1 (iotaInDim S2048 32 0)) (broadcastInDim S1x2048 ![] bcast_S_S1x2048 (constantI S_ 32 32#32)))) (broadcastInDim S2048x2048 ![0, 1] bcast_S2048x1_S2048x2048_0_1 (cmpi .slt (broadcastInDim S2048x1 ![0] bcast_S2048_S2048x1_0 (iotaInDim S2048 32 0)) (broadcastInDim S2048x1 ![] bcast_S_S2048x1 (constantI S_ 32 32#32)))))
/-- Which rows keep a pair. -/
def rKeep : IVec S2048 1 := Host.reduce IntOp.ori rMask (constantI S_ 1 0#1) reducesTo_S2048x2048_S2048_d1 h_S_
/-- The queries. -/
def rQ (x : FVec Ideal S1x2048x1024 .f32) (wq : FVec Ideal S1024x16384 .f32) : FVec Ideal S1x2048x128x128 .f32 :=
  shapeCast _ (Host.dotGeneral dot_S1x2048x1024_S1024x16384_S1x2048x16384_2_0_01_1_n_n none x wq) shapeCasts_S1x2048x16384_S1x2048x128x128
/-- The scores, the pairs that are not kept filled. -/
def rS (q k : FVec Ideal S1x2048x128x128 .f32) : FVec Ideal S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 rMask)) (mulf (Host.dotGeneral dot_S1x2048x128x128_S1x2048x128x128_S1x128x2048x2048_3_3_1_1_02_02 none q k) (broadcastInDim S1x128x2048x2048 ![] bcast_S_S1x128x2048x2048 (constant S_ .f32 0x3DB504F3#32))) (broadcastInDim S1x128x2048x2048 ![] bcast_S_S1x128x2048x2048 (id (constant S_ .f32 0xFF800000#32)))
/-- The largest score of every row. -/
def rM (s : FVec Ideal S1x128x2048x2048 .f32) : FVec Ideal S1x128x2048 .f32 :=
  Host.reduce FloatOps.maximumf s (constant S_ .f32 0xFF800000#32) reducesTo_S1x128x2048x2048_S1x128x2048_d3 h_S_
/-- The exponentials. -/
def rE (s : FVec Ideal S1x128x2048x2048 .f32) : FVec Ideal S1x128x2048x2048 .f32 :=
  Host.exp (subf s (broadcastInDim S1x128x2048x2048 ![0, 1, 2, 3] bcast_S1x128x2048x1_S1x128x2048x2048_0_1_2_3 (broadcastInDim S1x128x2048x1 ![0, 1, 2] bcast_S1x128x2048_S1x128x2048x1_0_1_2 (rM s))))
/-- The sum of every row's. -/
def rN (e : FVec Ideal S1x128x2048x2048 .f32) : FVec Ideal S1x128x2048 .f32 :=
  Host.reduceAdd e (constant S_ .f32 0x00000000#32) reducesTo_S1x128x2048x2048_S1x128x2048_d3 h_S_
/-- The weights. -/
def rW (e : FVec Ideal S1x128x2048x2048 .f32) : FVec Ideal S1x128x2048x2048 .f32 :=
  select (broadcastInDim S1x128x2048x2048 ![0, 1, 2, 3] bcast_S1x1x2048x1_S1x128x2048x2048_0_1_2_3 (broadcastInDim S1x1x2048x1 ![2] bcast_S2048_S1x1x2048x1_2 rKeep)) (Host.divf e (broadcastInDim S1x128x2048x2048 ![0, 1, 2, 3] bcast_S1x128x2048x1_S1x128x2048x2048_0_1_2_3 (select (broadcastInDim S1x128x2048x1 ![0, 1, 2, 3] bcast_S1x1x2048x1_S1x128x2048x1_0_1_2_3 (broadcastInDim S1x1x2048x1 ![2] bcast_S2048_S1x1x2048x1_2 rKeep)) (broadcastInDim S1x128x2048x1 ![0, 1, 2] bcast_S1x128x2048_S1x128x2048x1_0_1_2 (rN e)) (broadcastInDim S1x128x2048x1 ![] bcast_S_S1x128x2048x1 (id (constant S_ .f32 0x3F800000#32)))))) (broadcastInDim S1x128x2048x2048 ![] bcast_S_S1x128x2048x2048 (id (constant S_ .f32 0x00000000#32)))
/-- The contexts, by row and head. -/
def rC (v : FVec Ideal S1x2048x128x128 .f32) (w : FVec Ideal S1x128x2048x2048 .f32) : FVec Ideal S1x2048x128x128 .f32 :=
  transpose S1x2048x128x128 [0, 3, 1, 2] (Host.dotGeneral dot_S1x2048x128x128_S1x128x2048x2048_S1x128x128x2048_1_3_3_2_02_01 none v w) transposes_S1x128x128x2048_S1x2048x128x128_0_3_1_2
/-- The output. -/
def rO (u : FVec Ideal S1x2048x128x128 .f32) (wo : FVec Ideal S16384x1024 .f32) : FVec Ideal S2048x1024 .f32 :=
  shapeCast _ (Host.dotGeneral dot_S1x2048x16384_S16384x1024_S1x2048x1024_2_0_01_1_n_n none (shapeCast _ u shapeCasts_S1x2048x128x128_S1x2048x16384) wo) shapeCasts_S1x2048x1024_S2048x1024

theorem res_eq (m : (ℓ : Loc nD τ sig) → Buf (Elt Ideal) ℓ) (c : Dev nD) :
    res_out0 m c = rO (rC (m ((c.tc : Thread nD τ).loc main_arg3)) (rW (rE (rS (rQ (m ((c.tc : Thread nD τ).loc main_arg0)) (m ((c.tc : Thread nD τ).loc main_arg1))) (m ((c.tc : Thread nD τ).loc main_arg2)))))) (m ((c.tc : Thread nD τ).loc main_arg4)) := by
  show res_main_v43 m c = _
  unfold res_main_v43
  rfl

/-! ## Each stage at an index -/

theorem neg_inf : Ideal.ofBits .f32 0xFF800000#32 = ⊥ := by
  simp [Ideal.ofBits, Ideal.ieee]

theorem rMask_at (i j : Fin 2048) : rMask (ix2 i j) = BitVec.ofBool (decide (see i.val j.val)) := by
  have hi := i.isLt
  have hj := j.isLt
  pointwise [rMask]
  rw [near_word hi hj, show (32#32 : BitVec 32) = BitVec.ofNat 32 32 from rfl, cmp_lt hj (by decide), cmp_lt hi (by decide), or_bit, or_bit]
  congr 1
  rw [decide_eq_decide]; unfold see; omega

theorem rQ_at (x : FVec Ideal S1x2048x1024 .f32) (wq : FVec Ideal S1024x16384 .f32) (i : Fin 2048) (h d : Fin 128) :
    rQ x wq (ix4 0 i h d) = ∑ k : Fin 1024, x (ix3 0 i k) * wq (ix2 k ⟨128 * h.val + d.val, by omega⟩) := by
  pointwise [rQ]
  exact Finset.sum_congr rfl fun k _ => congrArg (_ * ·) (congrArg (fun e => wq (ix2 k e)) (Fin.ext (congrArg (· + d.val) (Nat.mul_comm _ _))))

theorem rS_at (q k : FVec Ideal S1x2048x128x128 .f32) (h : Fin 128) (i j : Fin 2048) :
    rS q k (ix4 0 h i j) = if see i.val j.val then (∑ d : Fin 128, q (ix4 0 i h d) * k (ix4 0 j h d)) * sc else ⊥ := by
  pointwise [rS]
  rw [rMask_at, sel_bit]
  exact if_congr Iff.rfl rfl neg_inf

theorem rM_at (s : FVec Ideal S1x128x2048x2048 .f32) (h : Fin 128) (i : Fin 2048) :
    rM s (ix3 0 h i) = Finset.univ.fold max ⊥ fun j : Fin 2048 => s (ix4 0 h i j) := by
  pointwise [rM]
  rw [neg_inf]

theorem rE_at (s : FVec Ideal S1x128x2048x2048 .f32) (h : Fin 128) (i j : Fin 2048) :
    rE s (ix4 0 h i j) = Ideal.exp (s (ix4 0 h i j) - rM s (ix3 0 h i)) := by
  pointwise [rE]

theorem rKeep_at (i : Fin 2048) : rKeep (ix1 i) = 1#1 := by
  pointwise [rKeep]
  rw [Finset.fold_congr (g := fun j : Fin 2048 => BitVec.ofBool (decide (see i.val j.val))) fun j _ => rMask_at i j]
  have h : ∀ t : Finset (Fin 2048), t.fold IntOp.ori (0#1) (fun j => BitVec.ofBool (decide (see i.val j.val))) = BitVec.ofBool (decide (∃ j ∈ t, see i.val j.val)) := fun t => by
    induction t using Finset.induction_on with
    | empty => simp
    | insert a t ha ih => rw [Finset.fold_insert ha, ih, or_bit]; congr 1; rw [decide_eq_decide]; simp
  rw [h]
  have hi : ∃ j ∈ (Finset.univ : Finset (Fin 2048)), see i.val j.val := ⟨i, Finset.mem_univ i, by unfold see; omega⟩
  rw [decide_eq_true hi]; rfl

theorem rN_at (e : FVec Ideal S1x128x2048x2048 .f32) (h : Fin 128) (i : Fin 2048) : rN e (ix3 0 h i) = ∑ k : Fin 2048, e (ix4 0 h i k) := by
  pointwise [rN]

theorem sel_one {s : Shape} (a b : FVec Ideal s .f32) : select (fun _ => 1#1) a b = a := by
  funext i; simp [select, Scalar.select]

theorem rW_eq (e : FVec Ideal S1x128x2048x2048 .f32) : rW e = Host.divf e (broadcastInDim S1x128x2048x2048 ![0, 1, 2, 3] bcast_S1x128x2048x1_S1x128x2048x2048_0_1_2_3 (broadcastInDim S1x128x2048x1 ![0, 1, 2] bcast_S1x128x2048_S1x128x2048x1_0_1_2 (rN e))) := by
  have hk : rKeep = fun _ => 1#1 := funext fun j => by
    idx_vars j
    exact rKeep_at _
  unfold rW
  rw [hk]
  exact (sel_one _ _).trans (congrArg (fun x : FVec Ideal S1x128x2048x1 .f32 => Host.divf e (broadcastInDim S1x128x2048x2048 ![0, 1, 2, 3] bcast_S1x128x2048x1_S1x128x2048x2048_0_1_2_3 x)) (sel_one _ _))

theorem rW_at (e : FVec Ideal S1x128x2048x2048 .f32) (h : Fin 128) (i j : Fin 2048) :
    rW e (ix4 0 h i j) = Ideal.div (e (ix4 0 h i j)) (rN e (ix3 0 h i)) := by
  rw [rW_eq]
  pointwise

theorem rC_at (v : FVec Ideal S1x2048x128x128 .f32) (w : FVec Ideal S1x128x2048x2048 .f32) (i : Fin 2048) (h d : Fin 128) :
    rC v w (ix4 0 i h d) = ∑ j : Fin 2048, v (ix4 0 j h d) * w (ix4 0 h i j) := by
  pointwise [rC]

theorem rO_at (u : FVec Ideal S1x2048x128x128 .f32) (wo : FVec Ideal S16384x1024 .f32) (i : Fin 2048) (n : Fin 1024) :
    rO u wo (ix2 i n) = ∑ k : Fin 16384, u (ix4 0 i ⟨k.val / 128, by omega⟩ ⟨k.val % 128, by omega⟩) * wo (ix2 k n) := by
  pointwise [rO]

end Cert.Value
-- ==== Proof.Value.Join.lean ====
/- The kernel's output on every device is the reference's. -/
module

public import proofs.«01_k».proof.Proof.Value.Host
public import proofs.«01_k».proof.Proof.Value.RingSum
public import proofs.«01_k».proof.Proof.Value.Ref

@[expose] public section

noncomputable section

namespace Cert.Value

open Idealize.ShloMosaic Idealize.ShloMosaic.TcCoe
open Cert.KernelIdeal Cert.KernelIdeal.Gen Cert.KernelIdeal.Ring

theorem sum_split (a b : ℕ) (f : Fin (a * b) → EReal) (h : ∀ (i : Fin a) (j : Fin b), b * i.val + j.val < a * b) :
    ∑ k, f k = ∑ i : Fin a, ∑ j : Fin b, f ⟨b * i.val + j.val, h i j⟩ := by
  rw [← finProdFinEquiv.sum_comp, Fintype.sum_prod_type]
  exact Finset.sum_congr rfl fun i _ => Finset.sum_congr rfl fun j _ => congrArg f (Fin.ext (Nat.add_comm _ _))

/-- The head of all the devices' that device `c`'s head `t` is. -/
abbrev hd (c : Dev nD) (t : Fin 8) : Fin 128 := ⟨8 * c.val + t.val, by have : c.val < 16 := c.isLt; omega⟩

theorem sc_fin : Fin' sc := by
  simp [sc, Ideal.ofBits, Ideal.ieee]
  exact ⟨_, rfl⟩

variable (m : (ℓ : Loc nD τ sig) → Buf (Elt Ideal) ℓ)
  (X : FVec Ideal Cert.ReferenceIdeal.S1x2048x1024 .f32) (Wq : FVec Ideal Cert.ReferenceIdeal.S1024x16384 .f32)
  (K V : FVec Ideal Cert.ReferenceIdeal.S1x2048x128x128 .f32) (Wo : FVec Ideal Cert.ReferenceIdeal.S16384x1024 .f32)
  (hX : ∀ (c : Dev nD) i k, m ((c : Thread nD τ).loc main_arg0) (ix3 0 i k) = X (ix3 0 i k))
  (hWq : ∀ (c : Dev nD) k n, m ((c : Thread nD τ).loc main_arg1) (ix2 k n) = Wq (ix2 k n))
  (hK : ∀ (c : Dev nD) (t : Fin 8) j d, m ((c : Thread nD τ).loc main_arg2) (ix4 0 j t d) = K (ix4 0 j (hd c t) d))
  (hV : ∀ (c : Dev nD) (t : Fin 8) j d, m ((c : Thread nD τ).loc main_arg3) (ix4 0 j t d) = V (ix4 0 j (hd c t) d))
  (hWo : ∀ (c : Dev nD) k n, m ((c : Thread nD τ).loc main_arg4) (ix2 k n) = Wo (ix2 k n))
  (fX : ∀ i k, Fin' (X (ix3 0 i k))) (fWq : ∀ k n, Fin' (Wq (ix2 k n))) (fK : ∀ j h d, Fin' (K (ix4 0 j h d)))

/-- The reference's score. -/
def rscr (h : Fin 128) (i j : Fin 2048) : EReal := (∑ d : Fin 128, rQ X Wq (ix4 0 i h d) * K (ix4 0 j h d)) * sc
/-- The reference's context. -/
def rctx (h : Fin 128) (i : Fin 2048) (d : Fin 128) : EReal := ctx i.val (rscr X Wq K h i) (fun j => V (ix4 0 j h d))

include hX hWq hK in
theorem scr_eq (c : Dev nD) (t : Fin 8) (i : Fin 2048) : scr (J m c) i t = rscr X Wq K (hd c t) i := by
  funext j
  unfold scr rscr
  refine congrArg (· * sc) (Finset.sum_congr rfl fun d _ => congrArg₂ (· * ·) ?_ ((k_at m c t j d).trans (hK c t j d)))
  unfold qry
  rw [rQ_at]
  refine Finset.sum_congr rfl fun k _ => congrArg₂ (· * ·) ((x_at m c i k).trans (hX c i k)) ((wq_at m c k (col t d)).trans ((hWq c k _).trans ?_))
  exact congrArg (fun e => Wq (ix2 k e)) (Fin.ext (show 1024 * c.val + (128 * t.val + d.val) = 128 * (8 * c.val + t.val) + d.val by omega))

include fX fWq fK in
theorem rscr_fin (h : Fin 128) (i j : Fin 2048) : Fin' (rscr X Wq K h i j) := by
  refine (Fin'.sum _ fun d => Fin'.mul ?_ (fK j h d)).mul sc_fin
  rw [rQ_at]
  exact Fin'.sum _ fun k => (fX i k).mul (fWq k _)

include fX fWq fK in
theorem rC_eq (h : Fin 128) (i : Fin 2048) (d : Fin 128) : rC V (rW (rE (rS (rQ X Wq) K))) (ix4 0 i h d) = rctx X Wq K V h i d := by
  have hs : ∀ j, rS (rQ X Wq) K (ix4 0 h i j) = if see i.val j.val then rscr X Wq K h i j else ⊥ := fun j => rS_at _ _ h i j
  have hM : rM (rS (rQ X Wq) K) (ix3 0 h i) = Finset.univ.fold max ⊥ fun j : Fin 2048 => if see i.val j.val then rscr X Wq K h i j else ⊥ :=
    (rM_at _ h i).trans (congrArg (fun f => Finset.univ.fold max ⊥ f) (funext hs))
  have hE : ∀ j, rE (rS (rQ X Wq) K) (ix4 0 h i j) = Ideal.exp ((if see i.val j.val then rscr X Wq K h i j else ⊥) - rM (rS (rQ X Wq) K) (ix3 0 h i)) := fun j => by rw [rE_at, hs j]
  refine (rC_at _ _ i h d).trans (Eq.trans ?_ (soft i (rscr X Wq K h i) (fun j => V (ix4 0 j h d)) (rscr_fin X Wq K fX fWq fK h i) _ hM))
  generalize rS (rQ X Wq) K = S at hE ⊢
  generalize rM S (ix3 0 h i) = M at hE ⊢
  refine Finset.sum_congr rfl fun j _ => congrArg (_ * ·) ?_
  rw [rW_at, rN_at, hE j]
  exact congrArg _ (Finset.sum_congr rfl fun k _ => hE k)

include hX hWq hK hV hWo fX fWq fK in
/-- A device's output is the reference's. -/
theorem outv_eq (c : Dev nD) : outv (J m) c = rO (rC V (rW (rE (rS (rQ X Wq) K)))) Wo := by
  funext y
  rw [eq_ix2 y]
  generalize y 0 = i, y 1 = n
  change Fin 2048 at i
  change Fin 1024 at n
  have hi : i = rw' ⟨i.val / 128, by omega⟩ ⟨i.val % 128, by omega⟩ := Fin.ext (Nat.div_add_mod _ _).symm
  have h1 : outv (J m) c (ix2 i n) = ∑ p : Fin 16, ∑ t : Fin 8, ∑ d : Fin 128, rctx X Wq K V (hd p t) i d * Wo (ix2 ⟨1024 * p.val + (128 * t.val + d.val), by omega⟩ n) := by
    refine (congrArg (fun i => outv (J m) c (ix2 i n)) hi).trans ((outv_at (J m) _ n c _).trans ?_)
    refine Finset.sum_congr rfl fun p _ => (part_at (J m p) (va_one m p) _ _ n).trans ?_
    rw [← hi]
    refine Finset.sum_congr rfl fun t _ => ?_
    unfold add rctx
    refine Finset.sum_congr rfl fun d _ => congrArg₂ (· * ·) ?_ ((wo_at m p (col t d) n).trans (hWo p _ n))
    rw [scr_eq m X Wq K hX hWq hK p t i]
    exact congrArg (ctx i.val _) (funext fun j => (va_at m p t j d).trans (hV p t j d))
  rw [h1, rO_at]
  simp only [rC_eq X Wq K V fX fWq fK]
  refine Eq.symm ((sum_split 16 1024 _ fun i j => by omega).trans (Finset.sum_congr rfl fun p _ => ?_))
  refine (sum_split 8 128 _ fun i j => by omega).trans (Finset.sum_congr rfl fun t _ => Finset.sum_congr rfl fun d _ => ?_)
  have hp := p.isLt
  have ht := t.isLt
  have hd' := d.isLt
  exact congrArg₂ (fun a b => rctx X Wq K V a i b * Wo (ix2 ⟨1024 * p.val + (128 * t.val + d.val), by omega⟩ n))
    (Fin.ext (show (1024 * p.val + (128 * t.val + d.val)) / 128 = 8 * p.val + t.val by omega)) (Fin.ext (show (1024 * p.val + (128 * t.val + d.val)) % 128 = d.val by omega))

end Cert.Value
-- ==== Proof.Value.Finite.lean ====
/- What the precondition says of the inputs. -/
module

public import proofs.«01_k».proof.Proof.Gen.Pre_finite_scores_KernelIdeal
public import proofs.«01_k».proof.Proof.Value.Ref
public import Idealize.ShloMosaic.Lib.ReduceAll

@[expose] public section

noncomputable section

namespace Cert.Value

open Idealize.ShloMosaic
open Cert.Pre_finite_scores_KernelIdeal Cert.Pre_finite_scores_KernelIdeal.Gen

theorem and_one : ∀ {a b : BitVec 1}, IntOp.andi a b = 1#1 → a = 1#1 ∧ b = 1#1 := by decide
theorem pos_inf : Ideal.ofBits .f32 0x7F800000#32 = ⊤ := by
  simp [Ideal.ofBits, Ideal.ieee]

theorem fin_of_bit {x : EReal} (h : IntOp.andi (Ideal.cmp .ogt x (Ideal.ofBits .f32 0xFF800000#32)) (Ideal.cmp .olt x (Ideal.ofBits .f32 0x7F800000#32)) = 1#1) : Fin' x := by
  rw [neg_inf, pos_inf] at h
  obtain ⟨h1, h2⟩ := and_one h
  refine fin'_of_lt ?_ ?_
  · by_contra hn; simp [Ideal.cmp, hn] at h1
  · by_contra hn; simp [Ideal.cmp, hn] at h2

/-- What the precondition says: the inputs that the scores are made of are finite. -/
theorem fin_of (x : FVec Ideal S1x2048x1024 .f32) (wq : FVec Ideal S1024x16384 .f32) (k v : FVec Ideal S1x2048x8x128 .f32) (wo : FVec Ideal S16384x1024 .f32)
    (h : fn (F := Ideal) x wq k v wo = fun _ => 1#1) : (∀ i, Fin' (x i)) ∧ (∀ i, Fin' (wq i)) ∧ ∀ i, Fin' (k i) := by
  have h0 := congrFun h (Shape.Idx.first Facts.h_S_)
  dsimp only [fn, fn_part1] at h0
  obtain ⟨h1, h3⟩ := and_one h0
  obtain ⟨h1, h2⟩ := and_one h1
  exact ⟨fun i => fin_of_bit (Host.reduce_andi_all _ _ _ _ _ h1 i), fun i => fin_of_bit (Host.reduce_andi_all _ _ _ _ _ h2 i), fun i => fin_of_bit (Host.reduce_andi_all _ _ _ _ _ h3 i)⟩

end Cert.Value
-- ==== Proof.lean ====
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Value.Join
public import proofs.«01_k».proof.Proof.Value.Finite
public import Idealize.ShloMosaic.Lib.Quiescent

@[expose] public section

noncomputable section

namespace Cert.Proof

open Idealize.ShloMosaic Idealize.ShloMosaic.TcCoe Idealize.SL.Sem

/-- The kernel runs, leaves its arguments and ends with every counter at zero. -/
theorem frame_kernel : Cert.quiescent_Kernel (hKernel := Cert.Kernel.Gen.facts) := fun m g _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (Cert.Kernel.Ring.run_ends (F := Bits) m g)

/-- So does its idealisation. -/
theorem frame_ideal : Cert.quiescent_KernelIdeal (hKernelIdeal := Cert.KernelIdeal.Gen.facts) := fun m g _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Ring.run_ends (F := Ideal) m g)

/-- The reference declares no counter; its run is read at its arguments. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- The one named constant: the mask's fill, read as minus infinity. -/
theorem preserved : Cert.preserves_Kernel_KernelIdeal :=
  IdealRules.named_const.statement Cert.KernelIdeal.κ "mask" .f32 0xCE6E6B28#32 ⊥ rfl

/-- A block of heads, at an index. -/
theorem block_at (c : Fin 16) (Y : (⟨4, ![1, 2048, 128, 128]⟩ : Shape).Idx → EReal) (t : Fin 8) (j : Fin 2048) (d : Fin 128) :
    Layout.block ⟨4, ![1, 2048, 8, 128]⟩ ⟨4, ![1, 2048, 128, 128]⟩ 2 16 c Y (by decide) (ix4 0 j t d) = Y (ix4 0 j (Cert.Value.hd c t) d) := by
  refine congrArg Y (funext fun b => Fin.ext ?_)
  rw [Layout.Tiles.idx_val]
  match b with
  | 0 => rfl
  | 1 => rfl
  | 2 => exact congrArg (· + t.val) (Nat.mul_comm c.val 8)
  | 3 => rfl

open Cert.Value in
/-- Where the inputs of the scores are finite, every device ends with the reference's result. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) := fun m g m' g' hpre hm => by
  have hf := fun c => fin_of _ _ _ _ _ (hpre c)
  have hr := Cert.ReferenceIdeal.Value.run (F := Ideal) m' g'
  refine ⟨Cert.ReferenceIdeal.Value.res_out0 m' 0, (θ_run Cert.KernelIdeal.defs _ _).mono (fun r h c => ?_) (Cert.KernelIdeal.Ring.run_ends (F := Ideal) m g),
    (θ_run Cert.ReferenceIdeal.defs _ _).mono (fun r h => h 0) hr⟩
  obtain ⟨h0, h1, h2, h3, h4, h5⟩ := h.1 c
  refine ⟨h5.trans (Eq.trans ?_ (res_eq m' 0).symm), h0, h1, h2, h3, h4⟩
  refine outv_eq m _ _ _ _ _ (fun c i k => congrFun (hm c).1 _) (fun c k n => congrFun (hm c).2.1 _) (fun c t j d => (congrFun (hm c).2.2.1 _).trans (block_at c _ t j d))
    (fun c t j d => (congrFun (hm c).2.2.2.1 _).trans (block_at c _ t j d)) (fun c k n => congrFun (hm c).2.2.2.2 _) (fun i k => ?_) (fun k n => ?_) (fun j h d => ?_) c
  · have e := (hf 0).1 (ix3 0 i k)
    rwa [congrFun (hm 0).1 _] at e
  · have e := (hf 0).2.1 (ix2 k n)
    rwa [congrFun (hm 0).2.1 _] at e
  · have e := (hf ⟨h.val / 8, by have := h.isLt; show h.val / 8 < 16; omega⟩).2.2 (ix4 0 j ⟨h.val % 8, by omega⟩ d)
    rw [congrFun (hm _).2.2.1 _, block_at] at e
    have hh : hd ⟨h.val / 8, by have := h.isLt; show h.val / 8 < 16; omega⟩ ⟨h.val % 8, by omega⟩ = h := Fin.ext (Nat.div_add_mod h.val 8)
    rwa [hh] at e

/-- The certificate. -/
theorem claim : Cert.Claim :=
  ⟨Cert.Kernel.Gen.facts, Cert.KernelIdeal.Gen.facts, Cert.ReferenceIdeal.Gen.facts, Cert.Pre_finite_scores_KernelIdeal.Gen.facts, Cert.Pre_finite_scores_ReferenceIdeal.Gen.facts,
    frame_kernel, frame_ideal, fun m g _ => frame_ideal m g trivial, frame_reference, fun m g _ => frame_reference m g trivial, preserved, algebraic⟩

end Cert.Proof

end
